-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_two_distinct_experts_KernelIdeal [hPre_finite_two_distinct_experts_KernelIdeal : Cert.Pre_finite_two_distinct_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_two_distinct_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_two_distinct_experts_ReferenceIdeal [hPre_finite_two_distinct_experts_ReferenceIdeal : Cert.Pre_finite_two_distinct_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_two_distinct_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_two_distinct_experts_KernelIdeal [hKernelIdeal : Cert.KernelIdeal.Facts] [hPre_finite_two_distinct_experts_KernelIdeal : Cert.Pre_finite_two_distinct_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_two_distinct_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_two_distinct_experts_ReferenceIdeal [hReferenceIdeal : Cert.ReferenceIdeal.Facts] [hPre_finite_two_distinct_experts_ReferenceIdeal : Cert.Pre_finite_two_distinct_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_two_distinct_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_two_distinct_experts_KernelIdeal [hKernelIdeal : Cert.KernelIdeal.Facts] [hReferenceIdeal : Cert.ReferenceIdeal.Facts] [hPre_finite_two_distinct_experts_KernelIdeal : Cert.Pre_finite_two_distinct_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_two_distinct_experts_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![16384, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_two_distinct_experts_KernelIdeal : Cert.Pre_finite_two_distinct_experts_KernelIdeal.Facts) (hPre_finite_two_distinct_experts_ReferenceIdeal : Cert.Pre_finite_two_distinct_experts_ReferenceIdeal.Facts),
    quiescent_Kernel (hKernel := hKernel)
    ∧ quiescent_KernelIdeal (hKernelIdeal := hKernelIdeal)
    ∧ quiescent_KernelIdeal_pre_finite_two_distinct_experts_KernelIdeal (hKernelIdeal := hKernelIdeal) (hPre_finite_two_distinct_experts_KernelIdeal := hPre_finite_two_distinct_experts_KernelIdeal)
    ∧ quiescent_ReferenceIdeal (hReferenceIdeal := hReferenceIdeal)
    ∧ quiescent_ReferenceIdeal_pre_finite_two_distinct_experts_ReferenceIdeal (hReferenceIdeal := hReferenceIdeal) (hPre_finite_two_distinct_experts_ReferenceIdeal := hPre_finite_two_distinct_experts_ReferenceIdeal)
    ∧ preserves_Kernel_KernelIdeal
    ∧ algebraic_KernelIdeal_ReferenceIdeal_pre_finite_two_distinct_experts_KernelIdeal (hKernelIdeal := hKernelIdeal) (hReferenceIdeal := hReferenceIdeal) (hPre_finite_two_distinct_experts_KernelIdeal := hPre_finite_two_distinct_experts_KernelIdeal)
-- ==== Pre_finite_two_distinct_experts_KernelIdeal.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S_ : Shape := ⟨0, ![]⟩
abbrev S512 : Shape := ⟨1, ![512]⟩
abbrev S512x1 : Shape := ⟨2, ![512, 1]⟩

class Facts : Prop where
  bcast_S_S512x256 : S_.BroadcastsInDim S512x256 (![] : Fin 0 → Fin S512x256.rank)
  reducesTo_S512x256_S512_d1 : S512x256.ReducesTo [1] S512
  h_S_ : 0 < S_.numel
  bcast_S_S256x128 : S_.BroadcastsInDim S256x128 (![] : Fin 0 → Fin S256x128.rank)
  reducesTo_S256x128_S_d0_1 : S256x128.ReducesTo [0, 1] S_
  bcast_S_S512 : S_.BroadcastsInDim S512 (![] : Fin 0 → Fin S512.rank)
  slices_S512x2_S512x1_0_0 : S512x2.Slices ![0, 0] S512x1
  shapeCasts_S512x1_S512 : S512x1.ShapeCasts S512
  slices_S512x2_S512x1_0_1 : S512x2.Slices ![0, 1] S512x1

variable [Facts]

def fn_part1 {F : FTy → Type} [FloatOps F] (main_v11 : IVec S512 32) (main_v13 : IVec S512 32) (main_v16 : IVec S512 1) (main_v17 : IVec S512 32) : IVec S512 1 :=
  let main_v18 : IVec S512 1 := cmpi .slt main_v11 main_v17
  let main_v19 : IVec S512 1 := andi main_v16 main_v18
  let main_c_4 : IVec S_ 32 := constantI S_ 32 0#32
  let main_v20 : IVec S512 32 := broadcastInDim S512 ![] bcast_S_S512 main_c_4
  let main_v21 : IVec S512 1 := cmpi .sge main_v13 main_v20
  let main_v22 : IVec S512 1 := andi main_v19 main_v21
  let main_c_5 : IVec S_ 32 := constantI S_ 32 128#32
  let main_v23 : IVec S512 32 := broadcastInDim S512 ![] bcast_S_S512 main_c_5
  let main_v24 : IVec S512 1 := cmpi .slt main_v13 main_v23
  let main_v25 : IVec S512 1 := andi main_v22 main_v24
  let main_v26 : IVec S512 1 := cmpi .ne main_v11 main_v13
  let main_v27 : IVec S512 1 := andi main_v25 main_v26
  main_v27

def fn {F : FTy → Type} [FloatOps F] (main_arg0 : FVec F S512x256 .bf16) (main_arg1 : FVec F S256x128 .bf16) (main_arg2 : IVec S512x2 32) (main_arg3 : FVec F S4x256x512 .bf16) : IVec S512 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S512 1 := (fun x v => Host.reduce IntOp.andi x v reducesTo_S512x256_S512_d1 h_S_) main_v2 main_c
  let main_v4 : FVec F S256x128 .bf16 := Host.absf main_arg1
  let main_cst_0 : FVec F S_ .bf16 := constant S_ .bf16 0x7F80#16
  let main_v5 : FVec F S256x128 .bf16 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S512 1 := broadcastInDim S512 ![] bcast_S_S512 main_v7
  let main_v9 : IVec S512 1 := andi main_v3 main_v8
  let main_v10 : IVec S512x1 32 := (extractStridedSlice S512x1 ![0, 0] · slices_S512x2_S512x1_0_0) main_arg2
  let main_v11 : IVec S512 32 := shapeCast S512 main_v10 shapeCasts_S512x1_S512
  let main_v12 : IVec S512x1 32 := (extractStridedSlice S512x1 ![0, 1] · slices_S512x2_S512x1_0_1) main_arg2
  let main_v13 : IVec S512 32 := shapeCast S512 main_v12 shapeCasts_S512x1_S512
  let main_c_2 : IVec S_ 32 := constantI S_ 32 0#32
  let main_v14 : IVec S512 32 := broadcastInDim S512 ![] bcast_S_S512 main_c_2
  let main_v15 : IVec S512 1 := cmpi .sge main_v11 main_v14
  let main_v16 : IVec S512 1 := andi main_v9 main_v15
  let main_c_3 : IVec S_ 32 := constantI S_ 32 128#32
  let main_v17 : IVec S512 32 := broadcastInDim S512 ![] bcast_S_S512 main_c_3
  fn_part1 (F := F) main_v11 main_v13 main_v16 main_v17
-- ==== Pre_finite_two_distinct_experts_ReferenceIdeal.lean ====
abbrev S16384x256 : Shape := ⟨2, ![16384, 256]⟩
abbrev S256x128 : Shape := ⟨2, ![256, 128]⟩
abbrev S16384x2 : Shape := ⟨2, ![16384, 2]⟩
abbrev S128x256x512 : Shape := ⟨3, ![128, 256, 512]⟩
abbrev S_ : Shape := ⟨0, ![]⟩
abbrev S16384 : Shape := ⟨1, ![16384]⟩
abbrev S16384x1 : Shape := ⟨2, ![16384, 1]⟩

class Facts : Prop where
  bcast_S_S16384x256 : S_.BroadcastsInDim S16384x256 (![] : Fin 0 → Fin S16384x256.rank)
  reducesTo_S16384x256_S16384_d1 : S16384x256.ReducesTo [1] S16384
  h_S_ : 0 < S_.numel
  bcast_S_S256x128 : S_.BroadcastsInDim S256x128 (![] : Fin 0 → Fin S256x128.rank)
  reducesTo_S256x128_S_d0_1 : S256x128.ReducesTo [0, 1] S_
  bcast_S_S16384 : S_.BroadcastsInDim S16384 (![] : Fin 0 → Fin S16384.rank)
  slices_S16384x2_S16384x1_0_0 : S16384x2.Slices ![0, 0] S16384x1
  shapeCasts_S16384x1_S16384 : S16384x1.ShapeCasts S16384
  slices_S16384x2_S16384x1_0_1 : S16384x2.Slices ![0, 1] S16384x1

variable [Facts]

def fn_part1 {F : FTy → Type} [FloatOps F] (main_v11 : IVec S16384 32) (main_v13 : IVec S16384 32) (main_v16 : IVec S16384 1) (main_v17 : IVec S16384 32) : IVec S16384 1 :=
  let main_v18 : IVec S16384 1 := cmpi .slt main_v11 main_v17
  let main_v19 : IVec S16384 1 := andi main_v16 main_v18
  let main_c_4 : IVec S_ 32 := constantI S_ 32 0#32
  let main_v20 : IVec S16384 32 := broadcastInDim S16384 ![] bcast_S_S16384 main_c_4
  let main_v21 : IVec S16384 1 := cmpi .sge main_v13 main_v20
  let main_v22 : IVec S16384 1 := andi main_v19 main_v21
  let main_c_5 : IVec S_ 32 := constantI S_ 32 128#32
  let main_v23 : IVec S16384 32 := broadcastInDim S16384 ![] bcast_S_S16384 main_c_5
  let main_v24 : IVec S16384 1 := cmpi .slt main_v13 main_v23
  let main_v25 : IVec S16384 1 := andi main_v22 main_v24
  let main_v26 : IVec S16384 1 := cmpi .ne main_v11 main_v13
  let main_v27 : IVec S16384 1 := andi main_v25 main_v26
  main_v27

def fn {F : FTy → Type} [FloatOps F] (main_arg0 : FVec F S16384x256 .bf16) (main_arg1 : FVec F S256x128 .bf16) (main_arg2 : IVec S16384x2 32) (main_arg3 : FVec F S128x256x512 .bf16) : IVec S16384 1 :=
  let main_v0 : FVec F S16384x256 .bf16 := Host.absf main_arg0
  let main_cst : FVec F S_ .bf16 := constant S_ .bf16 0x7F80#16
  let main_v1 : FVec F S16384x256 .bf16 := broadcastInDim S16384x256 ![] bcast_S_S16384x256 main_cst
  let main_v2 : IVec S16384x256 1 := cmpf .olt main_v0 main_v1
  let main_c : IVec S_ 1 := constantI S_ 1 1#1
  let main_v3 : IVec S16384 1 := (fun x v => Host.reduce IntOp.andi x v reducesTo_S16384x256_S16384_d1 h_S_) main_v2 main_c
  let main_v4 : FVec F S256x128 .bf16 := Host.absf main_arg1
  let main_cst_0 : FVec F S_ .bf16 := constant S_ .bf16 0x7F80#16
  let main_v5 : FVec F S256x128 .bf16 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S16384 1 := broadcastInDim S16384 ![] bcast_S_S16384 main_v7
  let main_v9 : IVec S16384 1 := andi main_v3 main_v8
  let main_v10 : IVec S16384x1 32 := (extractStridedSlice S16384x1 ![0, 0] · slices_S16384x2_S16384x1_0_0) main_arg2
  let main_v11 : IVec S16384 32 := shapeCast S16384 main_v10 shapeCasts_S16384x1_S16384
  let main_v12 : IVec S16384x1 32 := (extractStridedSlice S16384x1 ![0, 1] · slices_S16384x2_S16384x1_0_1) main_arg2
  let main_v13 : IVec S16384 32 := shapeCast S16384 main_v12 shapeCasts_S16384x1_S16384
  let main_c_2 : IVec S_ 32 := constantI S_ 32 0#32
  let main_v14 : IVec S16384 32 := broadcastInDim S16384 ![] bcast_S_S16384 main_c_2
  let main_v15 : IVec S16384 1 := cmpi .sge main_v11 main_v14
  let main_v16 : IVec S16384 1 := andi main_v9 main_v15
  let main_c_3 : IVec S_ 32 := constantI S_ 32 128#32
  let main_v17 : IVec S16384 32 := broadcastInDim S16384 ![] bcast_S_S16384 main_c_3
  fn_part1 (F := F) main_v11 main_v13 main_v16 main_v17
-- ==== Kernel.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S512x512 : Shape := ⟨2, ![512, 512]⟩
abbrev S64x256x512 : Shape := ⟨3, ![64, 256, 512]⟩
abbrev S32x512x4 : Shape := ⟨3, ![32, 512, 4]⟩
abbrev S62 : Shape := ⟨1, ![62]⟩
abbrev S_ : Shape := ⟨0, ![]⟩
abbrev S1x256x512 : Shape := ⟨3, ![1, 256, 512]⟩
abbrev S256x512 : Shape := ⟨2, ![256, 512]⟩
abbrev S1 : Shape := ⟨1, ![1]⟩
abbrev S512x128 : Shape := ⟨2, ![512, 128]⟩
abbrev S512 : Shape := ⟨1, ![512]⟩
abbrev S512x1 : Shape := ⟨2, ![512, 1]⟩
abbrev S512x4 : Shape := ⟨2, ![512, 4]⟩
abbrev S1x512x4 : Shape := ⟨3, ![1, 512, 4]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x2, .i32⟩
  | .hbm, ⟨3, _⟩ => ⟨S4x256x512, .bf16⟩
  | .hbm, ⟨4, _⟩ => ⟨S512x512, .f32⟩
  | .hbm, ⟨5, _⟩ => ⟨S64x256x512, .bf16⟩
  | .local _ .vmem, ⟨0, _⟩ => ⟨S512x256, .bf16⟩
  | .local _ .vmem, ⟨1, _⟩ => ⟨S256x128, .bf16⟩
  | .local _ .vmem, ⟨2, _⟩ => ⟨S512x2, .i32⟩
  | .local _ .vmem, ⟨3, _⟩ => ⟨S4x256x512, .bf16⟩
  | .local _ .vmem, ⟨4, _⟩ => ⟨S512x512, .f32⟩
  | .local _ .vmem, ⟨5, _⟩ => ⟨S64x256x512, .bf16⟩
  | .local _ .vmem, ⟨6, _⟩ => ⟨S64x256x512, .bf16⟩
  | .local _ .vmem, ⟨7, _⟩ => ⟨S32x512x4, .f32⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 315 → Bool
  | ⟨i, _⟩ => dmaSemScopedAt i

abbrev sig : RefSig :=
  (ofTc nBuf bufTy 1 315 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_13 : BitVec 32) : Fin 3 → Nat :=
  let c2_i32_12 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15 : BitVec 32 := Scalar.muli c2_i32_12 v2
  let v16 : BitVec 32 := Scalar.addi v15 c0_i32_13
  let v17 : Index := Scalar.indexCast v16
  let c0_14 : Index := 0#32
  let c0_15 : Index := 0#32
  ![v17.toNat, 0, 0]
def k0_off2 (d0 : Dev nD) (c0_i32_34 : BitVec 32) (c0_i32_38 : BitVec 32) : Fin 3 → Nat :=
  let c2_i32_37 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v45 : BitVec 32 := Scalar.subi v2 c0_i32_34
  let c32_i32_35 : BitVec 32 := 32#32
  let v46 : BitVec 32 := Scalar.addi v45 c32_i32_35
  let c32_i32_36 : BitVec 32 := 32#32
  let v47 : BitVec 32 := Scalar.remsi v46 c32_i32_36
  let v48 : BitVec 32 := Scalar.muli c2_i32_37 v47
  let v49 : BitVec 32 := Scalar.addi v48 c0_i32_38
  let c0_i32_43 : BitVec 32 := 0#32
  let c0_i32_44 : BitVec 32 := 0#32
  ![v49.toNat, 0, 0]
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_41 : BitVec 32 := 1#32
  let v50 : BitVec 32 := Scalar.muli v7 c1_i32_41
  let v51 : BitVec 32 := Scalar.addi c0_i32_42 v50
  v51.toNat
def k0_off3 (d0 : Dev nD) (c0_i32_47 : BitVec 32) (c0_i32_50 : BitVec 32) : Fin 3 → Nat :=
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v60 : BitVec 32 := Scalar.addi v2 c0_i32_47
  let c32_i32_48 : BitVec 32 := 32#32
  let v61 : BitVec 32 := Scalar.remsi v60 c32_i32_48
  let v62 : BitVec 32 := Scalar.muli c2_i32_49 v61
  let v63 : BitVec 32 := Scalar.addi v62 c0_i32_50
  let c0_i32_55 : BitVec 32 := 0#32
  let c0_i32_56 : BitVec 32 := 0#32
  ![v63.toNat, 0, 0]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_53 : BitVec 32 := 1#32
  let v64 : BitVec 32 := Scalar.muli v5 c1_i32_53
  let v65 : BitVec 32 := Scalar.addi c0_i32_54 v64
  v65.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_66 : BitVec 32 := 1#32
  let v79 : BitVec 32 := Scalar.muli v7 c1_i32_66
  let v80 : BitVec 32 := Scalar.addi c0_i32_67 v79
  v80.toNat
def k0_dev6 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_78 : BitVec 32 := 1#32
  let v93 : BitVec 32 := Scalar.muli v5 c1_i32_78
  let v94 : BitVec 32 := Scalar.addi c0_i32_79 v93
  v94.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v276 : Index := Scalar.indexCast v2
  let c0_173 : Index := 0#32
  let c0_174 : Index := 0#32
  ![v276.toNat, 0, 0]
def k0_dev7 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_238 : BitVec 32 := 1#32
  let v362 : BitVec 32 := Scalar.muli v7 c1_i32_238
  let v363 : BitVec 32 := Scalar.addi c0_i32_239 v362
  v363.toNat
def k0_off5 (d0 : Dev nD) (c1_i32_213 : BitVec 32) (c0_i32_245 : BitVec 32) : Fin 3 → Nat :=
  let c2_i32_244 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v339 : BitVec 32 := Scalar.subi v2 c1_i32_213
  let c32_i32_214 : BitVec 32 := 32#32
  let v340 : BitVec 32 := Scalar.addi v339 c32_i32_214
  let c32_i32_215 : BitVec 32 := 32#32
  let v341 : BitVec 32 := Scalar.remsi v340 c32_i32_215
  let v372 : BitVec 32 := Scalar.muli c2_i32_244 v341
  let v373 : BitVec 32 := Scalar.addi v372 c0_i32_245
  let v374 : Index := Scalar.indexCast v373
  let c0_246 : Index := 0#32
  let c0_247 : Index := 0#32
  ![v374.toNat, 0, 0]
def k0_off6 (d0 : Dev nD) (c1_i32_213 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v339 : BitVec 32 := Scalar.subi v2 c1_i32_213
  let c32_i32_214 : BitVec 32 := 32#32
  let v340 : BitVec 32 := Scalar.addi v339 c32_i32_214
  let c32_i32_215 : BitVec 32 := 32#32
  let v341 : BitVec 32 := Scalar.remsi v340 c32_i32_215
  let v377 : Index := Scalar.indexCast v341
  let c0_248 : Index := 0#32
  let c0_249 : Index := 0#32
  ![v377.toNat, 0, 0]
def k0_dev8 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_274 : BitVec 32 := 1#32
  let v407 : BitVec 32 := Scalar.muli v7 c1_i32_274
  let v408 : BitVec 32 := Scalar.addi c0_i32_275 v407
  v408.toNat
def k0_dev9 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_309 : BitVec 32 := 1#32
  let v450 : BitVec 32 := Scalar.muli v5 c1_i32_309
  let v451 : BitVec 32 := Scalar.addi c0_i32_310 v450
  v451.toNat
def k0_dev10 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_340 : BitVec 32 := 1#32
  let v484 : BitVec 32 := Scalar.muli v5 c1_i32_340
  let v485 : BitVec 32 := Scalar.addi c0_i32_341 v484
  v485.toNat
def k0_dev11 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_377 : BitVec 32 := 1#32
  let v525 : BitVec 32 := Scalar.muli v7 c1_i32_377
  let v526 : BitVec 32 := Scalar.addi c0_i32_378 v525
  v526.toNat
def k0_dev12 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_413 : BitVec 32 := 1#32
  let v570 : BitVec 32 := Scalar.muli v7 c1_i32_413
  let v571 : BitVec 32 := Scalar.addi c0_i32_414 v570
  v571.toNat
def k0_dev13 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_448 : BitVec 32 := 1#32
  let v613 : BitVec 32 := Scalar.muli v5 c1_i32_448
  let v614 : BitVec 32 := Scalar.addi c0_i32_449 v613
  v614.toNat
def k0_dev14 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_479 : BitVec 32 := 1#32
  let v647 : BitVec 32 := Scalar.muli v5 c1_i32_479
  let v648 : BitVec 32 := Scalar.addi c0_i32_480 v647
  v648.toNat
def k0_off7 (d0 : Dev nD) (c1_i32_216 : BitVec 32) (c0_i32_498 : BitVec 32) : Fin 3 → Nat :=
  let c2_i32_497 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v342 : BitVec 32 := Scalar.addi v2 c1_i32_216
  let c32_i32_217 : BitVec 32 := 32#32
  let v343 : BitVec 32 := Scalar.remsi v342 c32_i32_217
  let v671 : BitVec 32 := Scalar.muli c2_i32_497 v343
  let v672 : BitVec 32 := Scalar.addi v671 c0_i32_498
  let v673 : Index := Scalar.indexCast v672
  let c0_499 : Index := 0#32
  let c0_500 : Index := 0#32
  ![v673.toNat, 0, 0]
def k0_off8 (d0 : Dev nD) (c1_i32_216 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v342 : BitVec 32 := Scalar.addi v2 c1_i32_216
  let c32_i32_217 : BitVec 32 := 32#32
  let v343 : BitVec 32 := Scalar.remsi v342 c32_i32_217
  let v676 : Index := Scalar.indexCast v343
  let c0_501 : Index := 0#32
  let c0_502 : Index := 0#32
  ![v676.toNat, 0, 0]
def k0_dev15 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_548 : BitVec 32 := 1#32
  let v734 : BitVec 32 := Scalar.muli v7 c1_i32_548
  let v735 : BitVec 32 := Scalar.addi c0_i32_549 v734
  v735.toNat
def k0_dev16 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_584 : BitVec 32 := 1#32
  let v779 : BitVec 32 := Scalar.muli v7 c1_i32_584
  let v780 : BitVec 32 := Scalar.addi c0_i32_585 v779
  v780.toNat
def k0_dev17 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_619 : BitVec 32 := 1#32
  let v822 : BitVec 32 := Scalar.muli v5 c1_i32_619
  let v823 : BitVec 32 := Scalar.addi c0_i32_620 v822
  v823.toNat
def k0_dev18 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_650 : BitVec 32 := 1#32
  let v856 : BitVec 32 := Scalar.muli v5 c1_i32_650
  let v857 : BitVec 32 := Scalar.addi c0_i32_651 v856
  v857.toNat
def k0_dev19 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_719 : BitVec 32 := 1#32
  let v943 : BitVec 32 := Scalar.muli v7 c1_i32_719
  let v944 : BitVec 32 := Scalar.addi c0_i32_720 v943
  v944.toNat
def k0_dev20 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_755 : BitVec 32 := 1#32
  let v988 : BitVec 32 := Scalar.muli v7 c1_i32_755
  let v989 : BitVec 32 := Scalar.addi c0_i32_756 v988
  v989.toNat
def k0_dev21 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_790 : BitVec 32 := 1#32
  let v1031 : BitVec 32 := Scalar.muli v5 c1_i32_790
  let v1032 : BitVec 32 := Scalar.addi c0_i32_791 v1031
  v1032.toNat
def k0_dev22 (d0 : Dev nD) : Nat :=
  let c0_i32_822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_821 : BitVec 32 := 1#32
  let v1065 : BitVec 32 := Scalar.muli v5 c1_i32_821
  let v1066 : BitVec 32 := Scalar.addi c0_i32_822 v1065
  v1066.toNat
def k0_dev23 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_890 : BitVec 32 := 1#32
  let v1152 : BitVec 32 := Scalar.muli v7 c1_i32_890
  let v1153 : BitVec 32 := Scalar.addi c0_i32_891 v1152
  v1153.toNat
def k0_dev24 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_926 : BitVec 32 := 1#32
  let v1197 : BitVec 32 := Scalar.muli v7 c1_i32_926
  let v1198 : BitVec 32 := Scalar.addi c0_i32_927 v1197
  v1198.toNat
def k0_dev25 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_961 : BitVec 32 := 1#32
  let v1240 : BitVec 32 := Scalar.muli v5 c1_i32_961
  let v1241 : BitVec 32 := Scalar.addi c0_i32_962 v1240
  v1241.toNat
def k0_dev26 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_992 : BitVec 32 := 1#32
  let v1274 : BitVec 32 := Scalar.muli v5 c1_i32_992
  let v1275 : BitVec 32 := Scalar.addi c0_i32_993 v1274
  v1275.toNat
def k0_dev27 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1061 : BitVec 32 := 1#32
  let v1361 : BitVec 32 := Scalar.muli v7 c1_i32_1061
  let v1362 : BitVec 32 := Scalar.addi c0_i32_1062 v1361
  v1362.toNat
def k0_dev28 (d0 : Dev nD) : Nat :=
  let c0_i32_1098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1097 : BitVec 32 := 1#32
  let v1406 : BitVec 32 := Scalar.muli v7 c1_i32_1097
  let v1407 : BitVec 32 := Scalar.addi c0_i32_1098 v1406
  v1407.toNat
def k0_dev29 (d0 : Dev nD) : Nat :=
  let c0_i32_1133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1132 : BitVec 32 := 1#32
  let v1449 : BitVec 32 := Scalar.muli v5 c1_i32_1132
  let v1450 : BitVec 32 := Scalar.addi c0_i32_1133 v1449
  v1450.toNat
def k0_dev30 (d0 : Dev nD) : Nat :=
  let c0_i32_1164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1163 : BitVec 32 := 1#32
  let v1483 : BitVec 32 := Scalar.muli v5 c1_i32_1163
  let v1484 : BitVec 32 := Scalar.addi c0_i32_1164 v1483
  v1484.toNat
def k0_dev31 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1232 : BitVec 32 := 1#32
  let v1570 : BitVec 32 := Scalar.muli v7 c1_i32_1232
  let v1571 : BitVec 32 := Scalar.addi c0_i32_1233 v1570
  v1571.toNat
def k0_dev32 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1268 : BitVec 32 := 1#32
  let v1615 : BitVec 32 := Scalar.muli v7 c1_i32_1268
  let v1616 : BitVec 32 := Scalar.addi c0_i32_1269 v1615
  v1616.toNat
def k0_dev33 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1303 : BitVec 32 := 1#32
  let v1658 : BitVec 32 := Scalar.muli v5 c1_i32_1303
  let v1659 : BitVec 32 := Scalar.addi c0_i32_1304 v1658
  v1659.toNat
def k0_dev34 (d0 : Dev nD) : Nat :=
  let c0_i32_1335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1334 : BitVec 32 := 1#32
  let v1692 : BitVec 32 := Scalar.muli v5 c1_i32_1334
  let v1693 : BitVec 32 := Scalar.addi c0_i32_1335 v1692
  v1693.toNat
def k0_dev35 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1403 : BitVec 32 := 1#32
  let v1779 : BitVec 32 := Scalar.muli v7 c1_i32_1403
  let v1780 : BitVec 32 := Scalar.addi c0_i32_1404 v1779
  v1780.toNat
def k0_dev36 (d0 : Dev nD) : Nat :=
  let c0_i32_1440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1439 : BitVec 32 := 1#32
  let v1824 : BitVec 32 := Scalar.muli v7 c1_i32_1439
  let v1825 : BitVec 32 := Scalar.addi c0_i32_1440 v1824
  v1825.toNat
def k0_dev37 (d0 : Dev nD) : Nat :=
  let c0_i32_1475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1474 : BitVec 32 := 1#32
  let v1867 : BitVec 32 := Scalar.muli v5 c1_i32_1474
  let v1868 : BitVec 32 := Scalar.addi c0_i32_1475 v1867
  v1868.toNat
def k0_dev38 (d0 : Dev nD) : Nat :=
  let c0_i32_1506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1505 : BitVec 32 := 1#32
  let v1901 : BitVec 32 := Scalar.muli v5 c1_i32_1505
  let v1902 : BitVec 32 := Scalar.addi c0_i32_1506 v1901
  v1902.toNat
def k0_dev39 (d0 : Dev nD) : Nat :=
  let c0_i32_1575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1574 : BitVec 32 := 1#32
  let v1988 : BitVec 32 := Scalar.muli v7 c1_i32_1574
  let v1989 : BitVec 32 := Scalar.addi c0_i32_1575 v1988
  v1989.toNat
def k0_dev40 (d0 : Dev nD) : Nat :=
  let c0_i32_1611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1610 : BitVec 32 := 1#32
  let v2033 : BitVec 32 := Scalar.muli v7 c1_i32_1610
  let v2034 : BitVec 32 := Scalar.addi c0_i32_1611 v2033
  v2034.toNat
def k0_dev41 (d0 : Dev nD) : Nat :=
  let c0_i32_1646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1645 : BitVec 32 := 1#32
  let v2076 : BitVec 32 := Scalar.muli v5 c1_i32_1645
  let v2077 : BitVec 32 := Scalar.addi c0_i32_1646 v2076
  v2077.toNat
def k0_dev42 (d0 : Dev nD) : Nat :=
  let c0_i32_1677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1676 : BitVec 32 := 1#32
  let v2110 : BitVec 32 := Scalar.muli v5 c1_i32_1676
  let v2111 : BitVec 32 := Scalar.addi c0_i32_1677 v2110
  v2111.toNat
def k0_dev43 (d0 : Dev nD) : Nat :=
  let c0_i32_1746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1745 : BitVec 32 := 1#32
  let v2197 : BitVec 32 := Scalar.muli v7 c1_i32_1745
  let v2198 : BitVec 32 := Scalar.addi c0_i32_1746 v2197
  v2198.toNat
def k0_dev44 (d0 : Dev nD) : Nat :=
  let c0_i32_1782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1781 : BitVec 32 := 1#32
  let v2242 : BitVec 32 := Scalar.muli v7 c1_i32_1781
  let v2243 : BitVec 32 := Scalar.addi c0_i32_1782 v2242
  v2243.toNat
def k0_dev45 (d0 : Dev nD) : Nat :=
  let c0_i32_1817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1816 : BitVec 32 := 1#32
  let v2285 : BitVec 32 := Scalar.muli v5 c1_i32_1816
  let v2286 : BitVec 32 := Scalar.addi c0_i32_1817 v2285
  v2286.toNat
def k0_dev46 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1847 : BitVec 32 := 1#32
  let v2319 : BitVec 32 := Scalar.muli v5 c1_i32_1847
  let v2320 : BitVec 32 := Scalar.addi c0_i32_1848 v2319
  v2320.toNat
def k0_dev47 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1916 : BitVec 32 := 1#32
  let v2406 : BitVec 32 := Scalar.muli v7 c1_i32_1916
  let v2407 : BitVec 32 := Scalar.addi c0_i32_1917 v2406
  v2407.toNat
def k0_dev48 (d0 : Dev nD) : Nat :=
  let c0_i32_1953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1952 : BitVec 32 := 1#32
  let v2451 : BitVec 32 := Scalar.muli v7 c1_i32_1952
  let v2452 : BitVec 32 := Scalar.addi c0_i32_1953 v2451
  v2452.toNat
def k0_dev49 (d0 : Dev nD) : Nat :=
  let c0_i32_1988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1987 : BitVec 32 := 1#32
  let v2494 : BitVec 32 := Scalar.muli v5 c1_i32_1987
  let v2495 : BitVec 32 := Scalar.addi c0_i32_1988 v2494
  v2495.toNat
def k0_dev50 (d0 : Dev nD) : Nat :=
  let c0_i32_2019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2018 : BitVec 32 := 1#32
  let v2528 : BitVec 32 := Scalar.muli v5 c1_i32_2018
  let v2529 : BitVec 32 := Scalar.addi c0_i32_2019 v2528
  v2529.toNat
def k0_dev51 (d0 : Dev nD) : Nat :=
  let c0_i32_2088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2087 : BitVec 32 := 1#32
  let v2615 : BitVec 32 := Scalar.muli v7 c1_i32_2087
  let v2616 : BitVec 32 := Scalar.addi c0_i32_2088 v2615
  v2616.toNat
def k0_dev52 (d0 : Dev nD) : Nat :=
  let c0_i32_2124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2123 : BitVec 32 := 1#32
  let v2660 : BitVec 32 := Scalar.muli v7 c1_i32_2123
  let v2661 : BitVec 32 := Scalar.addi c0_i32_2124 v2660
  v2661.toNat
def k0_dev53 (d0 : Dev nD) : Nat :=
  let c0_i32_2159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2158 : BitVec 32 := 1#32
  let v2703 : BitVec 32 := Scalar.muli v5 c1_i32_2158
  let v2704 : BitVec 32 := Scalar.addi c0_i32_2159 v2703
  v2704.toNat
def k0_dev54 (d0 : Dev nD) : Nat :=
  let c0_i32_2190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2189 : BitVec 32 := 1#32
  let v2737 : BitVec 32 := Scalar.muli v5 c1_i32_2189
  let v2738 : BitVec 32 := Scalar.addi c0_i32_2190 v2737
  v2738.toNat
def k0_dev55 (d0 : Dev nD) : Nat :=
  let c0_i32_2259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2258 : BitVec 32 := 1#32
  let v2824 : BitVec 32 := Scalar.muli v7 c1_i32_2258
  let v2825 : BitVec 32 := Scalar.addi c0_i32_2259 v2824
  v2825.toNat
def k0_dev56 (d0 : Dev nD) : Nat :=
  let c0_i32_2295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2294 : BitVec 32 := 1#32
  let v2869 : BitVec 32 := Scalar.muli v7 c1_i32_2294
  let v2870 : BitVec 32 := Scalar.addi c0_i32_2295 v2869
  v2870.toNat
def k0_dev57 (d0 : Dev nD) : Nat :=
  let c0_i32_2330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2329 : BitVec 32 := 1#32
  let v2912 : BitVec 32 := Scalar.muli v5 c1_i32_2329
  let v2913 : BitVec 32 := Scalar.addi c0_i32_2330 v2912
  v2913.toNat
def k0_dev58 (d0 : Dev nD) : Nat :=
  let c0_i32_2361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2360 : BitVec 32 := 1#32
  let v2946 : BitVec 32 := Scalar.muli v5 c1_i32_2360
  let v2947 : BitVec 32 := Scalar.addi c0_i32_2361 v2946
  v2947.toNat
def k0_dev59 (d0 : Dev nD) : Nat :=
  let c0_i32_2430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2429 : BitVec 32 := 1#32
  let v3033 : BitVec 32 := Scalar.muli v7 c1_i32_2429
  let v3034 : BitVec 32 := Scalar.addi c0_i32_2430 v3033
  v3034.toNat
def k0_dev60 (d0 : Dev nD) : Nat :=
  let c0_i32_2466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2465 : BitVec 32 := 1#32
  let v3078 : BitVec 32 := Scalar.muli v7 c1_i32_2465
  let v3079 : BitVec 32 := Scalar.addi c0_i32_2466 v3078
  v3079.toNat
def k0_dev61 (d0 : Dev nD) : Nat :=
  let c0_i32_2501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2500 : BitVec 32 := 1#32
  let v3121 : BitVec 32 := Scalar.muli v5 c1_i32_2500
  let v3122 : BitVec 32 := Scalar.addi c0_i32_2501 v3121
  v3122.toNat
def k0_dev62 (d0 : Dev nD) : Nat :=
  let c0_i32_2532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2531 : BitVec 32 := 1#32
  let v3155 : BitVec 32 := Scalar.muli v5 c1_i32_2531
  let v3156 : BitVec 32 := Scalar.addi c0_i32_2532 v3155
  v3156.toNat
def k0_dev63 (d0 : Dev nD) : Nat :=
  let c0_i32_2601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2600 : BitVec 32 := 1#32
  let v3242 : BitVec 32 := Scalar.muli v7 c1_i32_2600
  let v3243 : BitVec 32 := Scalar.addi c0_i32_2601 v3242
  v3243.toNat
def k0_dev64 (d0 : Dev nD) : Nat :=
  let c0_i32_2637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2636 : BitVec 32 := 1#32
  let v3287 : BitVec 32 := Scalar.muli v7 c1_i32_2636
  let v3288 : BitVec 32 := Scalar.addi c0_i32_2637 v3287
  v3288.toNat
def k0_dev65 (d0 : Dev nD) : Nat :=
  let c0_i32_2672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2671 : BitVec 32 := 1#32
  let v3330 : BitVec 32 := Scalar.muli v5 c1_i32_2671
  let v3331 : BitVec 32 := Scalar.addi c0_i32_2672 v3330
  v3331.toNat
def k0_dev66 (d0 : Dev nD) : Nat :=
  let c0_i32_2703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2702 : BitVec 32 := 1#32
  let v3364 : BitVec 32 := Scalar.muli v5 c1_i32_2702
  let v3365 : BitVec 32 := Scalar.addi c0_i32_2703 v3364
  v3365.toNat
def k0_dev67 (d0 : Dev nD) : Nat :=
  let c0_i32_2773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2772 : BitVec 32 := 1#32
  let v3451 : BitVec 32 := Scalar.muli v7 c1_i32_2772
  let v3452 : BitVec 32 := Scalar.addi c0_i32_2773 v3451
  v3452.toNat
def k0_dev68 (d0 : Dev nD) : Nat :=
  let c0_i32_2809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2808 : BitVec 32 := 1#32
  let v3496 : BitVec 32 := Scalar.muli v7 c1_i32_2808
  let v3497 : BitVec 32 := Scalar.addi c0_i32_2809 v3496
  v3497.toNat
def k0_dev69 (d0 : Dev nD) : Nat :=
  let c0_i32_2844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2843 : BitVec 32 := 1#32
  let v3539 : BitVec 32 := Scalar.muli v5 c1_i32_2843
  let v3540 : BitVec 32 := Scalar.addi c0_i32_2844 v3539
  v3540.toNat
def k0_dev70 (d0 : Dev nD) : Nat :=
  let c0_i32_2875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2874 : BitVec 32 := 1#32
  let v3573 : BitVec 32 := Scalar.muli v5 c1_i32_2874
  let v3574 : BitVec 32 := Scalar.addi c0_i32_2875 v3573
  v3574.toNat
def k0_dev71 (d0 : Dev nD) : Nat :=
  let c0_i32_2944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2943 : BitVec 32 := 1#32
  let v3660 : BitVec 32 := Scalar.muli v7 c1_i32_2943
  let v3661 : BitVec 32 := Scalar.addi c0_i32_2944 v3660
  v3661.toNat
def k0_dev72 (d0 : Dev nD) : Nat :=
  let c0_i32_2980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2979 : BitVec 32 := 1#32
  let v3705 : BitVec 32 := Scalar.muli v7 c1_i32_2979
  let v3706 : BitVec 32 := Scalar.addi c0_i32_2980 v3705
  v3706.toNat
def k0_dev73 (d0 : Dev nD) : Nat :=
  let c0_i32_3015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3014 : BitVec 32 := 1#32
  let v3748 : BitVec 32 := Scalar.muli v5 c1_i32_3014
  let v3749 : BitVec 32 := Scalar.addi c0_i32_3015 v3748
  v3749.toNat
def k0_dev74 (d0 : Dev nD) : Nat :=
  let c0_i32_3046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3045 : BitVec 32 := 1#32
  let v3782 : BitVec 32 := Scalar.muli v5 c1_i32_3045
  let v3783 : BitVec 32 := Scalar.addi c0_i32_3046 v3782
  v3783.toNat
def k0_dev75 (d0 : Dev nD) : Nat :=
  let c0_i32_3115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3114 : BitVec 32 := 1#32
  let v3869 : BitVec 32 := Scalar.muli v7 c1_i32_3114
  let v3870 : BitVec 32 := Scalar.addi c0_i32_3115 v3869
  v3870.toNat
def k0_dev76 (d0 : Dev nD) : Nat :=
  let c0_i32_3151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3150 : BitVec 32 := 1#32
  let v3914 : BitVec 32 := Scalar.muli v7 c1_i32_3150
  let v3915 : BitVec 32 := Scalar.addi c0_i32_3151 v3914
  v3915.toNat
def k0_dev77 (d0 : Dev nD) : Nat :=
  let c0_i32_3186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3185 : BitVec 32 := 1#32
  let v3957 : BitVec 32 := Scalar.muli v5 c1_i32_3185
  let v3958 : BitVec 32 := Scalar.addi c0_i32_3186 v3957
  v3958.toNat
def k0_dev78 (d0 : Dev nD) : Nat :=
  let c0_i32_3217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3216 : BitVec 32 := 1#32
  let v3991 : BitVec 32 := Scalar.muli v5 c1_i32_3216
  let v3992 : BitVec 32 := Scalar.addi c0_i32_3217 v3991
  v3992.toNat
def k0_dev79 (d0 : Dev nD) : Nat :=
  let c0_i32_3286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3285 : BitVec 32 := 1#32
  let v4078 : BitVec 32 := Scalar.muli v7 c1_i32_3285
  let v4079 : BitVec 32 := Scalar.addi c0_i32_3286 v4078
  v4079.toNat
def k0_dev80 (d0 : Dev nD) : Nat :=
  let c0_i32_3322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3321 : BitVec 32 := 1#32
  let v4123 : BitVec 32 := Scalar.muli v7 c1_i32_3321
  let v4124 : BitVec 32 := Scalar.addi c0_i32_3322 v4123
  v4124.toNat
def k0_dev81 (d0 : Dev nD) : Nat :=
  let c0_i32_3357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3356 : BitVec 32 := 1#32
  let v4166 : BitVec 32 := Scalar.muli v5 c1_i32_3356
  let v4167 : BitVec 32 := Scalar.addi c0_i32_3357 v4166
  v4167.toNat
def k0_dev82 (d0 : Dev nD) : Nat :=
  let c0_i32_3388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3387 : BitVec 32 := 1#32
  let v4200 : BitVec 32 := Scalar.muli v5 c1_i32_3387
  let v4201 : BitVec 32 := Scalar.addi c0_i32_3388 v4200
  v4201.toNat
def k0_dev83 (d0 : Dev nD) : Nat :=
  let c0_i32_3457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3456 : BitVec 32 := 1#32
  let v4287 : BitVec 32 := Scalar.muli v7 c1_i32_3456
  let v4288 : BitVec 32 := Scalar.addi c0_i32_3457 v4287
  v4288.toNat
def k0_dev84 (d0 : Dev nD) : Nat :=
  let c0_i32_3493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3492 : BitVec 32 := 1#32
  let v4332 : BitVec 32 := Scalar.muli v7 c1_i32_3492
  let v4333 : BitVec 32 := Scalar.addi c0_i32_3493 v4332
  v4333.toNat
def k0_dev85 (d0 : Dev nD) : Nat :=
  let c0_i32_3528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3527 : BitVec 32 := 1#32
  let v4375 : BitVec 32 := Scalar.muli v5 c1_i32_3527
  let v4376 : BitVec 32 := Scalar.addi c0_i32_3528 v4375
  v4376.toNat
def k0_dev86 (d0 : Dev nD) : Nat :=
  let c0_i32_3559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3558 : BitVec 32 := 1#32
  let v4409 : BitVec 32 := Scalar.muli v5 c1_i32_3558
  let v4410 : BitVec 32 := Scalar.addi c0_i32_3559 v4409
  v4410.toNat
def k0_dev87 (d0 : Dev nD) : Nat :=
  let c0_i32_3628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3627 : BitVec 32 := 1#32
  let v4496 : BitVec 32 := Scalar.muli v7 c1_i32_3627
  let v4497 : BitVec 32 := Scalar.addi c0_i32_3628 v4496
  v4497.toNat
def k0_dev88 (d0 : Dev nD) : Nat :=
  let c0_i32_3664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3663 : BitVec 32 := 1#32
  let v4541 : BitVec 32 := Scalar.muli v7 c1_i32_3663
  let v4542 : BitVec 32 := Scalar.addi c0_i32_3664 v4541
  v4542.toNat
def k0_dev89 (d0 : Dev nD) : Nat :=
  let c0_i32_3699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3698 : BitVec 32 := 1#32
  let v4584 : BitVec 32 := Scalar.muli v5 c1_i32_3698
  let v4585 : BitVec 32 := Scalar.addi c0_i32_3699 v4584
  v4585.toNat
def k0_dev90 (d0 : Dev nD) : Nat :=
  let c0_i32_3730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3729 : BitVec 32 := 1#32
  let v4618 : BitVec 32 := Scalar.muli v5 c1_i32_3729
  let v4619 : BitVec 32 := Scalar.addi c0_i32_3730 v4618
  v4619.toNat
def k0_dev91 (d0 : Dev nD) : Nat :=
  let c0_i32_3799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3798 : BitVec 32 := 1#32
  let v4705 : BitVec 32 := Scalar.muli v7 c1_i32_3798
  let v4706 : BitVec 32 := Scalar.addi c0_i32_3799 v4705
  v4706.toNat
def k0_dev92 (d0 : Dev nD) : Nat :=
  let c0_i32_3835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3834 : BitVec 32 := 1#32
  let v4750 : BitVec 32 := Scalar.muli v7 c1_i32_3834
  let v4751 : BitVec 32 := Scalar.addi c0_i32_3835 v4750
  v4751.toNat
def k0_dev93 (d0 : Dev nD) : Nat :=
  let c0_i32_3870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3869 : BitVec 32 := 1#32
  let v4793 : BitVec 32 := Scalar.muli v5 c1_i32_3869
  let v4794 : BitVec 32 := Scalar.addi c0_i32_3870 v4793
  v4794.toNat
def k0_dev94 (d0 : Dev nD) : Nat :=
  let c0_i32_3901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3900 : BitVec 32 := 1#32
  let v4827 : BitVec 32 := Scalar.muli v5 c1_i32_3900
  let v4828 : BitVec 32 := Scalar.addi c0_i32_3901 v4827
  v4828.toNat
def k0_dev95 (d0 : Dev nD) : Nat :=
  let c0_i32_3970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3969 : BitVec 32 := 1#32
  let v4914 : BitVec 32 := Scalar.muli v7 c1_i32_3969
  let v4915 : BitVec 32 := Scalar.addi c0_i32_3970 v4914
  v4915.toNat
def k0_dev96 (d0 : Dev nD) : Nat :=
  let c0_i32_4006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4005 : BitVec 32 := 1#32
  let v4959 : BitVec 32 := Scalar.muli v7 c1_i32_4005
  let v4960 : BitVec 32 := Scalar.addi c0_i32_4006 v4959
  v4960.toNat
def k0_dev97 (d0 : Dev nD) : Nat :=
  let c0_i32_4041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4040 : BitVec 32 := 1#32
  let v5002 : BitVec 32 := Scalar.muli v5 c1_i32_4040
  let v5003 : BitVec 32 := Scalar.addi c0_i32_4041 v5002
  v5003.toNat
def k0_dev98 (d0 : Dev nD) : Nat :=
  let c0_i32_4072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4071 : BitVec 32 := 1#32
  let v5036 : BitVec 32 := Scalar.muli v5 c1_i32_4071
  let v5037 : BitVec 32 := Scalar.addi c0_i32_4072 v5036
  v5037.toNat
def k0_dev99 (d0 : Dev nD) : Nat :=
  let c0_i32_4141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4140 : BitVec 32 := 1#32
  let v5123 : BitVec 32 := Scalar.muli v7 c1_i32_4140
  let v5124 : BitVec 32 := Scalar.addi c0_i32_4141 v5123
  v5124.toNat
def k0_dev100 (d0 : Dev nD) : Nat :=
  let c0_i32_4177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4176 : BitVec 32 := 1#32
  let v5168 : BitVec 32 := Scalar.muli v7 c1_i32_4176
  let v5169 : BitVec 32 := Scalar.addi c0_i32_4177 v5168
  v5169.toNat
def k0_dev101 (d0 : Dev nD) : Nat :=
  let c0_i32_4212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4211 : BitVec 32 := 1#32
  let v5211 : BitVec 32 := Scalar.muli v5 c1_i32_4211
  let v5212 : BitVec 32 := Scalar.addi c0_i32_4212 v5211
  v5212.toNat
def k0_dev102 (d0 : Dev nD) : Nat :=
  let c0_i32_4243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4242 : BitVec 32 := 1#32
  let v5245 : BitVec 32 := Scalar.muli v5 c1_i32_4242
  let v5246 : BitVec 32 := Scalar.addi c0_i32_4243 v5245
  v5246.toNat
def k0_dev103 (d0 : Dev nD) : Nat :=
  let c0_i32_4312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4311 : BitVec 32 := 1#32
  let v5332 : BitVec 32 := Scalar.muli v7 c1_i32_4311
  let v5333 : BitVec 32 := Scalar.addi c0_i32_4312 v5332
  v5333.toNat
def k0_dev104 (d0 : Dev nD) : Nat :=
  let c0_i32_4348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4347 : BitVec 32 := 1#32
  let v5377 : BitVec 32 := Scalar.muli v7 c1_i32_4347
  let v5378 : BitVec 32 := Scalar.addi c0_i32_4348 v5377
  v5378.toNat
def k0_dev105 (d0 : Dev nD) : Nat :=
  let c0_i32_4383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4382 : BitVec 32 := 1#32
  let v5420 : BitVec 32 := Scalar.muli v5 c1_i32_4382
  let v5421 : BitVec 32 := Scalar.addi c0_i32_4383 v5420
  v5421.toNat
def k0_dev106 (d0 : Dev nD) : Nat :=
  let c0_i32_4414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4413 : BitVec 32 := 1#32
  let v5454 : BitVec 32 := Scalar.muli v5 c1_i32_4413
  let v5455 : BitVec 32 := Scalar.addi c0_i32_4414 v5454
  v5455.toNat
def k0_dev107 (d0 : Dev nD) : Nat :=
  let c0_i32_4483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4482 : BitVec 32 := 1#32
  let v5541 : BitVec 32 := Scalar.muli v7 c1_i32_4482
  let v5542 : BitVec 32 := Scalar.addi c0_i32_4483 v5541
  v5542.toNat
def k0_dev108 (d0 : Dev nD) : Nat :=
  let c0_i32_4519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4518 : BitVec 32 := 1#32
  let v5586 : BitVec 32 := Scalar.muli v7 c1_i32_4518
  let v5587 : BitVec 32 := Scalar.addi c0_i32_4519 v5586
  v5587.toNat
def k0_dev109 (d0 : Dev nD) : Nat :=
  let c0_i32_4554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4553 : BitVec 32 := 1#32
  let v5629 : BitVec 32 := Scalar.muli v5 c1_i32_4553
  let v5630 : BitVec 32 := Scalar.addi c0_i32_4554 v5629
  v5630.toNat
def k0_dev110 (d0 : Dev nD) : Nat :=
  let c0_i32_4585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4584 : BitVec 32 := 1#32
  let v5663 : BitVec 32 := Scalar.muli v5 c1_i32_4584
  let v5664 : BitVec 32 := Scalar.addi c0_i32_4585 v5663
  v5664.toNat
def k0_dev111 (d0 : Dev nD) : Nat :=
  let c0_i32_4654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4653 : BitVec 32 := 1#32
  let v5750 : BitVec 32 := Scalar.muli v7 c1_i32_4653
  let v5751 : BitVec 32 := Scalar.addi c0_i32_4654 v5750
  v5751.toNat
def k0_dev112 (d0 : Dev nD) : Nat :=
  let c0_i32_4690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4689 : BitVec 32 := 1#32
  let v5795 : BitVec 32 := Scalar.muli v7 c1_i32_4689
  let v5796 : BitVec 32 := Scalar.addi c0_i32_4690 v5795
  v5796.toNat
def k0_dev113 (d0 : Dev nD) : Nat :=
  let c0_i32_4725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4724 : BitVec 32 := 1#32
  let v5838 : BitVec 32 := Scalar.muli v5 c1_i32_4724
  let v5839 : BitVec 32 := Scalar.addi c0_i32_4725 v5838
  v5839.toNat
def k0_dev114 (d0 : Dev nD) : Nat :=
  let c0_i32_4756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4755 : BitVec 32 := 1#32
  let v5872 : BitVec 32 := Scalar.muli v5 c1_i32_4755
  let v5873 : BitVec 32 := Scalar.addi c0_i32_4756 v5872
  v5873.toNat
def k0_dev115 (d0 : Dev nD) : Nat :=
  let c0_i32_4825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4824 : BitVec 32 := 1#32
  let v5959 : BitVec 32 := Scalar.muli v7 c1_i32_4824
  let v5960 : BitVec 32 := Scalar.addi c0_i32_4825 v5959
  v5960.toNat
def k0_dev116 (d0 : Dev nD) : Nat :=
  let c0_i32_4861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4860 : BitVec 32 := 1#32
  let v6004 : BitVec 32 := Scalar.muli v7 c1_i32_4860
  let v6005 : BitVec 32 := Scalar.addi c0_i32_4861 v6004
  v6005.toNat
def k0_dev117 (d0 : Dev nD) : Nat :=
  let c0_i32_4896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4895 : BitVec 32 := 1#32
  let v6047 : BitVec 32 := Scalar.muli v5 c1_i32_4895
  let v6048 : BitVec 32 := Scalar.addi c0_i32_4896 v6047
  v6048.toNat
def k0_dev118 (d0 : Dev nD) : Nat :=
  let c0_i32_4927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4926 : BitVec 32 := 1#32
  let v6081 : BitVec 32 := Scalar.muli v5 c1_i32_4926
  let v6082 : BitVec 32 := Scalar.addi c0_i32_4927 v6081
  v6082.toNat
def k0_dev119 (d0 : Dev nD) : Nat :=
  let c0_i32_4996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4995 : BitVec 32 := 1#32
  let v6168 : BitVec 32 := Scalar.muli v7 c1_i32_4995
  let v6169 : BitVec 32 := Scalar.addi c0_i32_4996 v6168
  v6169.toNat
def k0_dev120 (d0 : Dev nD) : Nat :=
  let c0_i32_5032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5031 : BitVec 32 := 1#32
  let v6213 : BitVec 32 := Scalar.muli v7 c1_i32_5031
  let v6214 : BitVec 32 := Scalar.addi c0_i32_5032 v6213
  v6214.toNat
def k0_dev121 (d0 : Dev nD) : Nat :=
  let c0_i32_5067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5066 : BitVec 32 := 1#32
  let v6256 : BitVec 32 := Scalar.muli v5 c1_i32_5066
  let v6257 : BitVec 32 := Scalar.addi c0_i32_5067 v6256
  v6257.toNat
def k0_dev122 (d0 : Dev nD) : Nat :=
  let c0_i32_5098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5097 : BitVec 32 := 1#32
  let v6290 : BitVec 32 := Scalar.muli v5 c1_i32_5097
  let v6291 : BitVec 32 := Scalar.addi c0_i32_5098 v6290
  v6291.toNat
def k0_dev123 (d0 : Dev nD) : Nat :=
  let c0_i32_5167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5166 : BitVec 32 := 1#32
  let v6377 : BitVec 32 := Scalar.muli v7 c1_i32_5166
  let v6378 : BitVec 32 := Scalar.addi c0_i32_5167 v6377
  v6378.toNat
def k0_dev124 (d0 : Dev nD) : Nat :=
  let c0_i32_5203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5202 : BitVec 32 := 1#32
  let v6422 : BitVec 32 := Scalar.muli v7 c1_i32_5202
  let v6423 : BitVec 32 := Scalar.addi c0_i32_5203 v6422
  v6423.toNat
def k0_dev125 (d0 : Dev nD) : Nat :=
  let c0_i32_5238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5237 : BitVec 32 := 1#32
  let v6465 : BitVec 32 := Scalar.muli v5 c1_i32_5237
  let v6466 : BitVec 32 := Scalar.addi c0_i32_5238 v6465
  v6466.toNat
def k0_dev126 (d0 : Dev nD) : Nat :=
  let c0_i32_5269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5268 : BitVec 32 := 1#32
  let v6499 : BitVec 32 := Scalar.muli v5 c1_i32_5268
  let v6500 : BitVec 32 := Scalar.addi c0_i32_5269 v6499
  v6500.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x256 : Shape := ⟨2, ![16384, 256]⟩
abbrev S256x128 : Shape := ⟨2, ![256, 128]⟩
abbrev S16384x2 : Shape := ⟨2, ![16384, 2]⟩
abbrev S128x256x512 : Shape := ⟨3, ![128, 256, 512]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16384x256x512 : Shape := ⟨3, ![16384, 256, 512]⟩
abbrev S16384x512 : Shape := ⟨2, ![16384, 512]⟩

abbrev nBuf : Space → Nat
  | .hbm => 97
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x128, .bf16⟩
  | .hbm, ⟨2, _⟩ => ⟨S16384x2, .i32⟩
  | .hbm, ⟨3, _⟩ => ⟨S128x256x512, .bf16⟩
  | .hbm, ⟨4, _⟩ => ⟨S16384x256, .f32⟩
  | .hbm, ⟨5, _⟩ => ⟨S256x128, .f32⟩
  | .hbm, ⟨6, _⟩ => ⟨S16384x128, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x128, .f32⟩
  | .hbm, ⟨17, _⟩ => ⟨S16384x128, .f32⟩
  | .hbm, ⟨18, _⟩ => ⟨S16384x1, .i32⟩
  | .hbm, ⟨19, _⟩ => ⟨S16384, .i32⟩
  | .hbm, ⟨20, _⟩ => ⟨S16384x1, .i32⟩
  | .hbm, ⟨21, _⟩ => ⟨S16384, .i32⟩
  | .hbm, ⟨22, _⟩ => ⟨S16384x1, .i32⟩
  | .hbm, ⟨23, _⟩ => ⟨S_, .i32⟩
  | .hbm, ⟨24, _⟩ => ⟨S16384x1, .i32⟩
  | .hbm, ⟨25, _⟩ => ⟨S16384x1, .i1⟩
  | .hbm, ⟨26, _⟩ => ⟨S_, .i32⟩
  | .hbm, ⟨27, _⟩ => ⟨S16384x1, .i32⟩
  | .hbm, ⟨28, _⟩ => ⟨S16384x1, .i32⟩
  | .hbm, ⟨29, _⟩ => ⟨S16384x1, .i32⟩
  | .hbm, ⟨30, _⟩ => ⟨S16384x1x1, .i32⟩
  | .hbm, ⟨31, _⟩ => ⟨S1, .i32⟩
  | .hbm, ⟨32, _⟩ => ⟨S_, .i32⟩
  | .hbm, ⟨33, _⟩ => ⟨S16384x1x1, .i32⟩
  | .hbm, ⟨34, _⟩ => ⟨S16384x1x1, .i1⟩
  | .hbm, ⟨35, _⟩ => ⟨S1x1x1, .i32⟩
  | .hbm, ⟨36, _⟩ => ⟨S16384x1x1, .i32⟩
  | .hbm, ⟨37, _⟩ => ⟨S16384x1x1, .i1⟩
  | .hbm, ⟨38, _⟩ => ⟨S16384x1x1, .i1⟩
  | .hbm, ⟨39, _⟩ => ⟨S_, .i1⟩
  | .hbm, ⟨40, _⟩ => ⟨S16384x1, .i1⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .i32⟩
  | .hbm, ⟨46, _⟩ => ⟨S_, .i32⟩
  | .hbm, ⟨47, _⟩ => ⟨S16384x1, .i32⟩
  | .hbm, ⟨48, _⟩ => ⟨S16384x1, .i1⟩
  | .hbm, ⟨49, _⟩ => ⟨S_, .i32⟩
  | .hbm, ⟨50, _⟩ => ⟨S16384x1, .i32⟩
  | .hbm, ⟨51, _⟩ => ⟨S16384x1, .i32⟩
  | .hbm, ⟨52, _⟩ => ⟨S16384x1, .i32⟩
  | .hbm, ⟨53, _⟩ => ⟨S16384x1x1, .i32⟩
  | .hbm, ⟨54, _⟩ => ⟨S1, .i32⟩
  | .hbm, ⟨55, _⟩ => ⟨S_, .i32⟩
  | .hbm, ⟨56, _⟩ => ⟨S16384x1x1, .i32⟩
  | .hbm, ⟨57, _⟩ => ⟨S16384x1x1, .i1⟩
  | .hbm, ⟨58, _⟩ => ⟨S1x1x1, .i32⟩
  | .hbm, ⟨59, _⟩ => ⟨S16384x1x1, .i32⟩
  | .hbm, ⟨60, _⟩ => ⟨S16384x1x1, .i1⟩
  | .hbm, ⟨61, _⟩ => ⟨S16384x1x1, .i1⟩
  | .hbm, ⟨62, _⟩ => ⟨S_, .i1⟩
  | .hbm, ⟨63, _⟩ => ⟨S16384x1, .i1⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S128x256x512, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S16384x256x512, .f32⟩
  | .hbm, ⟨79, _⟩ => ⟨S16384x512, .f32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S16384x256x512, .f32⟩
  | .hbm, ⟨89, _⟩ => ⟨S16384x512, .f32⟩
  | .hbm, ⟨90, _⟩ => ⟨S16384x1, .f32⟩
  | .hbm, ⟨91, _⟩ => ⟨S16384x512, .f32⟩
  | .hbm, ⟨92, _⟩ => ⟨S16384x512, .f32⟩
  | .hbm, ⟨93, _⟩ => ⟨S16384x1, .f32⟩
  | .hbm, ⟨94, _⟩ => ⟨S16384x512, .f32⟩
  | .hbm, ⟨95, _⟩ => ⟨S16384x512, .f32⟩
  | .hbm, ⟨96, _⟩ => ⟨S16384x512, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v17 : Ref sig .tc := ⟨.hbm, 44, rfl⟩
abbrev main_v18 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_c : Ref sig .tc := ⟨.hbm, 70, rfl⟩
abbrev main_v22 : Ref sig .tc := ⟨.hbm, 71, rfl⟩
abbrev main_v23 : Ref sig .tc := ⟨.hbm, 72, rfl⟩
abbrev main_c_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Proof.Steps.lean ====
module
public import proofs.«01_k».proof.Proof.Gen.KernelIdeal
@[expose] public section

/-! # The kernel's body as a list of steps

The printed body is one long run of statements.  Here it is written as a prologue (the barrier, the
device's own weights, the first sends, the gate) followed by a list of steps, one per wait, send,
local copy or product, the list built hop by hop.  The printed parts are these programs. -/

namespace Cert.KernelIdeal
open Idealize.ShloMosaic Idealize.SL.Sem
open Facts₀ Facts

variable {F : FTy → Type} [FloatOps F]

/-- The numbers `m - n, …, m - 1` in order. -/
def lastFins (m : ℕ) : (n : ℕ) → n ≤ m → List (Fin m)
  | 0, _ => []
  | n + 1, h => ⟨m - (n + 1), by omega⟩ :: lastFins m n (by omega)

/-- The buffers and semaphore arrays the body is called with. -/
structure Refs where
  arg0 : Memref sig .tc .vmem S512x256 .bf16
  harg0 : arg0.IsWhole
  arg1 : Memref sig .tc .vmem S256x128 .bf16
  harg1 : arg1.IsWhole
  arg2 : Memref sig .tc .vmem S512x2 .i32
  harg2 : arg2.IsWhole
  arg3 : Memref sig .tc .vmem S4x256x512 .bf16
  harg3 : arg3.IsWhole
  arg4 : Memref sig .tc .vmem S512x512 .f32
  harg4 : arg4.IsWhole
  arg5 : Memref sig .tc .hbm S64x256x512 .bf16
  harg5 : arg5.IsWhole
  arg6 : Memref sig .tc .vmem S64x256x512 .bf16
  harg6 : arg6.IsWhole
  arg7 : Memref sig .tc .vmem S64x256x512 .bf16
  harg7 : arg7.IsWhole
  arg8 : Memref sig .tc .vmem S32x512x4 .f32
  harg8 : arg8.IsWhole
  arg9 : DmaSems sig S62
  arg10 : DmaSems sig S62
  arg11 : DmaSems sig S62
  arg12 : DmaSems sig S62
  arg13 : DmaSems sig S62

theorem semInb (i : Fin 31) (k : Fin 2) : ∀ a, (![2 * i.val + k.val] : Fin 1 → Nat) a + S1.size a ≤ S62.size a := by
  intro a
  have ha : a = 0 := Subsingleton.elim _ _
  subst ha
  show 2 * i.val + k.val + 1 ≤ 62
  omega

/-- Semaphore `2 * i + k` of an array of 62. -/
abbrev semAt (A : DmaSems sig S62) (i : Fin 31) (k : Fin 2) : DmaSem sig :=
  ((A.slice (Rect.unit (s := S62) ![2 * i.val + k.val] S1.size (semInb i k))).squeeze S_ squeezes_S1_S_).sem

/-- The slot of the weights of the device `g` places to the left, half `k`. -/
abbrev slotR {sp : Space} (M : Memref sig .tc sp S64x256x512 .bf16) (d : Dev nD) (g : Fin 31) (k : Fin 2) :
    Memref sig .tc sp S256x512 .bf16 :=
  (M.slice (Rect.unit (s := S64x256x512) (k0_off2 d (BitVec.ofNat 32 g.val) (BitVec.ofNat 32 k.val)) S1x256x512.size (k0_off2_inb d g k)) (fun _ => rfl)).squeeze S256x512 squeezes_S1x256x512_S256x512

/-- The slot of the weights of the device `g` places to the right, half `k`. -/
abbrev slotL {sp : Space} (M : Memref sig .tc sp S64x256x512 .bf16) (d : Dev nD) (g : Fin 32) (k : Fin 2) :
    Memref sig .tc sp S256x512 .bf16 :=
  (M.slice (Rect.unit (s := S64x256x512) (k0_off3 d (BitVec.ofNat 32 g.val) (BitVec.ofNat 32 k.val)) S1x256x512.size (k0_off3_inb d g k)) (fun _ => rfl)).squeeze S256x512 squeezes_S1x256x512_S256x512

theorem slotR_words {sp : Space} {M : Memref sig .tc sp S64x256x512 .bf16} (h : M.IsWhole) (d : Dev nD) (g : Fin 31) (k : Fin 2) :
    (slotR M d g k).view.WordExact := (h.wordExact_slice rfl _ (k0_off2_wordsbf16 d g k)).reshape _ _

theorem slotL_words {sp : Space} {M : Memref sig .tc sp S64x256x512 .bf16} (h : M.IsWhole) (d : Dev nD) (g : Fin 32) (k : Fin 2) :
    (slotL M d g k).view.WordExact := (h.wordExact_slice rfl _ (k0_off3_wordsbf16 d g k)).reshape _ _

/-- The neighbours as the body computes them. -/
abbrev leftOf (d : Dev nD) : Dev nD := ⟨k0_dev1 d, k0_dev1_lt d⟩
abbrev rightOf (d : Dev nD) : Dev nD := ⟨k0_dev2 d, k0_dev2_lt d⟩

/-- A program of the body. -/
abbrev P (F : FTy → Type) (α : Type) := Prog (TpuEff nD τ sig (Elt F) Λ₀ .tc) α

variable (R : Refs)

/-- `fwd_r(g, k)`: pass the slot on to the right. -/
noncomputable def sendR (d : Dev nD) (g : Fin 31) (k : Fin 2) : P F PUnit :=
  Prog.lift (.enqueueDma (slotR R.arg6 d g k) (.remote (Dev.tc (rightOf d)) (slotR R.arg6 d g k) (.dma (semAt R.arg9 g k))) (.dma (semAt R.arg10 g k)) (slotR_words R.harg6 d g k) (slotR_words R.harg6 d g k) ⟨⟨rfl, Or.inl rfl⟩, trivial⟩)

/-- `fwd_l(0, k)`: the device's own slot, to the left. -/
noncomputable def sendL0 (d : Dev nD) (k : Fin 2) : P F PUnit :=
  Prog.lift (.enqueueDma (slotL R.arg7 d 0 k) (.remote (Dev.tc (leftOf d)) (slotL R.arg5 d 0 k) (.dma (semAt R.arg11 0 k))) (.dma (semAt R.arg12 0 k)) (slotL_words R.harg7 d 0 k) (slotL_words R.harg5 d 0 k) ⟨⟨rfl, Or.inl rfl⟩, trivial⟩)

/-- `fwd_l(g, k)`: pass the slot on to the left. -/
noncomputable def sendL (d : Dev nD) (g : Fin 31) (k : Fin 2) : P F PUnit :=
  Prog.lift (.enqueueDma (slotL R.arg5 d g.castSucc k) (.remote (Dev.tc (leftOf d)) (slotL R.arg5 d g.castSucc k) (.dma (semAt R.arg11 g k))) (.dma (semAt R.arg12 g k)) (slotL_words R.harg5 d g.castSucc k) (slotL_words R.harg5 d g.castSucc k) ⟨⟨rfl, Or.inl rfl⟩, trivial⟩)

/-- The wait for a slot from the left. -/
noncomputable def waitR (A : DmaSems sig S62) (d : Dev nD) (i : Fin 31) (k : Fin 2) : P F PUnit :=
  Prog.lift (.waitDma2 (semAt A i k) (slotR R.arg6 d i k) (slotR R.arg6 d i k) (slotR_words R.harg6 d i k) (slotR_words R.harg6 d i k))

/-- The wait for a slot from the right: the first ones name the device's own copy as the source. -/
noncomputable def waitL0 (d : Dev nD) (k : Fin 2) : P F PUnit :=
  Prog.lift (.waitDma2 (semAt R.arg12 0 k) (slotL R.arg7 d 0 k) (slotL R.arg5 d 0 k) (slotL_words R.harg7 d 0 k) (slotL_words R.harg5 d 0 k))

/-- The wait for the first slots sent to the left to have left. -/
noncomputable def sentL0 (d : Dev nD) (k : Fin 2) : P F PUnit :=
  Prog.lift (.waitDma2 (semAt R.arg11 0 k) (slotL R.arg5 d 0 k) (slotL R.arg7 d 0 k) (slotL_words R.harg5 d 0 k) (slotL_words R.harg7 d 0 k))

noncomputable def waitL (A : DmaSems sig S62) (d : Dev nD) (i : Fin 31) (k : Fin 2) : P F PUnit :=
  Prog.lift (.waitDma2 (semAt A i k) (slotL R.arg5 d i.castSucc k) (slotL R.arg5 d i.castSucc k) (slotL_words R.harg5 d i.castSucc k) (slotL_words R.harg5 d i.castSucc k))

/-- Bring the slot of the device `i + 1` places to the right next to the compute unit. -/
noncomputable def copyL (d : Dev nD) (i : Fin 31) (k : Fin 2) : P F PUnit :=
  Prog.lift (.enqueueDma (slotL R.arg5 d i.succ k) (.here (slotL R.arg7 d i.succ k)) (.dma (semAt R.arg13 i k)) (slotL_words R.harg5 d i.succ k) (slotL_words R.harg7 d i.succ k) ⟨Or.inl rfl, trivial⟩)

noncomputable def waitC (d : Dev nD) (i : Fin 31) (k : Fin 2) : P F PUnit :=
  Prog.lift (.waitDma2 (semAt R.arg13 i k) (slotL R.arg5 d i.succ k) (slotL R.arg7 d i.succ k) (slotL_words R.harg5 d i.succ k) (slotL_words R.harg7 d i.succ k))

theorem colSlices (j : Fin 4) : S512x4.Slices ![0, j.val] S512x1 := by revert j; decide

/-- The tokens times their gate for expert `j` of a device, times that expert's weights, added to what is there. -/
noncomputable def addExpert (xb : FVec F S512x256 .bf16) (j : Fin 4) (w : Vec F S1x256x512 .bf16) (g : Vec F S1x512x4 .f32)
    (o : Vec F S512x512 .f32) : FVec F S512x512 .f32 :=
  addf (shapeCast S512x512 o shapeCasts_S512x512_S512x512)
    (matmul dot_S512x256_S256x512_S512x512_1_0_0_1_n_n none
      (mulf xb (broadcastTo S512x256 (truncf .bf16 (extractStridedSlice S512x1 ![0, j.val] (shapeCast S512x4 g shapeCasts_S1x512x4_S512x4) (colSlices j)) bitsLt_bf16_f32) broadcasts_S512x1_S512x256))
      (shapeCast S256x512 w shapeCasts_S1x256x512_S256x512)
      (constant S512x512 .f32 0x00000000#32))

/-- `consume`: one expert's product, the weights and the gate read where the offsets say. -/
noncomputable def use (xb : FVec F S512x256 .bf16) (W : Memref sig .tc .vmem S64x256x512 .bf16)
    (offW : Fin 3 → ℕ) (hW : ∀ a, offW a + S1x256x512.size a ≤ S64x256x512.size a)
    (offG : Fin 3 → ℕ) (hG : ∀ a, offG a + S1x512x4.size a ≤ S32x512x4.size a) (j : Fin 4) : P F PUnit := do
  let w : Vec F S1x256x512 .bf16 ← Prog.lift (.load W (Rect.unit (s := S64x256x512) offW S1x256x512.size hW).toLoadRect (View.loadsAt_vmem h_S1x256x512))
  let g : Vec F S1x512x4 .f32 ← Prog.lift (.load R.arg8 (Rect.unit (s := S32x512x4) offG S1x512x4.size hG).toLoadRect (View.loadsAt_vmem h_S1x512x4))
  let o : Vec F S512x512 .f32 ← Prog.lift (.load R.arg4 (Rect.unit (s := S512x512) ![0, 0] S512x512.size inb_S512x512_S512x512_0_0).toLoadRect (View.loadsAt_vmem h_S512x512))
  let _ : Vec F S512x512 .f32 ← Prog.lift (.load R.arg4 (Rect.unit (s := S512x512) ![0, 0] S512x512.size inb_S512x512_S512x512_0_0).toLoadRect (View.loadsAt_vmem h_S512x512))
  Prog.lift (.store R.arg4 (Rect.unit (s := S512x512) ![0, 0] S512x512.size inb_S512x512_S512x512_0_0) (addExpert xb j w g o) Finset.univ (View.stores_vmem_bits_univ h_S512x512 rfl) (.inl rfl))

/-- One step of the body after the prologue. -/
inductive Step
  | waitR (i : Fin 31) (k : Fin 2)
  | sendR (i : Fin 31) (k : Fin 2)
  | useR (i : Fin 31) (k : Fin 2)
  | waitL0 (k : Fin 2)
  | waitL (i : Fin 31) (k : Fin 2)
  | sendL (i : Fin 31) (k : Fin 2)
  | copyL (i : Fin 31) (k : Fin 2)
  | waitC (i : Fin 31) (k : Fin 2)
  | useL (i : Fin 31) (k : Fin 2)
  | sentR (i : Fin 31) (k : Fin 2)
  | sentL0 (k : Fin 2)
  | sentL (i : Fin 31) (k : Fin 2)

/-- What a step runs. -/
noncomputable def den (d : Dev nD) (xb : FVec F S512x256 .bf16) : Step → P F PUnit
  | .waitR i k => waitR R R.arg10 d i k
  | .sendR i k => sendR R d i k
  | .useR i k => use R xb R.arg6 (k0_off5 d (BitVec.ofNat 32 (1 + i.val)) (BitVec.ofNat 32 k.val)) (k0_off5_inb d i k)
      (k0_off6 d (BitVec.ofNat 32 (1 + i.val))) (k0_off6_inb d i) ⟨k.val, by omega⟩
  | .waitL0 k => waitL0 R d k
  | .waitL i k => waitL R R.arg12 d i k
  | .sendL i k => sendL R d i k
  | .copyL i k => copyL R d i k
  | .waitC i k => waitC R d i k
  | .useL i k => use R xb R.arg7 (k0_off7 d (BitVec.ofNat 32 (1 + i.val)) (BitVec.ofNat 32 k.val)) (k0_off7_inb d i k)
      (k0_off8 d (BitVec.ofNat 32 (1 + i.val))) (k0_off8_inb d i) ⟨2 + k.val, by omega⟩
  | .sentR i k => waitR R R.arg9 d i k
  | .sentL0 k => sentL0 R d k
  | .sentL i k => waitL R R.arg11 d i k

/-- Run the steps, then `K`. -/
noncomputable def runSteps (d : Dev nD) (xb : FVec F S512x256 .bf16) : List Step → P F PUnit → P F PUnit
  | [], K => K
  | s :: l, K => den R d xb s >>= fun _ => runSteps d xb l K

theorem runSteps_append (d : Dev nD) (xb : FVec F S512x256 .bf16) (l l' : List Step) (K : P F PUnit) :
    runSteps R d xb (l ++ l') K = runSteps R d xb l (runSteps R d xb l' K) := by
  induction l with
  | nil => rfl
  | cons s l ih => exact congrArg (den R d xb s >>= ·) (funext fun _ => ih)

/-- The first hop; the hops between; the last. -/
def hopFirst : List Step :=
  [.waitR 0 0, .sendR 1 0, .useR 0 0, .waitR 0 1, .sendR 1 1, .useR 0 1,
   .waitL0 0, .sendL 1 0, .copyL 0 0, .waitL0 1, .sendL 1 1, .copyL 0 1]

def hopMid (j : Fin 29) : List Step :=
  let p : Fin 31 := ⟨j.val, by omega⟩
  let i : Fin 31 := ⟨j.val + 1, by omega⟩
  let n : Fin 31 := ⟨j.val + 2, by omega⟩
  [.waitR i 0, .sendR n 0, .useR i 0, .waitR i 1, .sendR n 1, .useR i 1,
   .waitL i 0, .sendL n 0, .copyL i 0, .waitL i 1, .sendL n 1, .copyL i 1,
   .waitC p 0, .useL p 0, .waitC p 1, .useL p 1]

def hopLast : List Step :=
  [.waitR 30 0, .useR 30 0, .waitR 30 1, .useR 30 1,
   .waitL 30 0, .copyL 30 0, .waitL 30 1, .copyL 30 1,
   .waitC 29 0, .useL 29 0, .waitC 29 1, .useL 29 1,
   .waitC 30 0, .useL 30 0, .waitC 30 1, .useL 30 1]

def sentFirst : List Step := [.sentR 0 0, .sentL0 0, .sentR 0 1, .sentL0 1]

def sentNext (j : Fin 30) : List Step :=
  let i : Fin 31 := ⟨j.val + 1, by omega⟩
  [.sentR i 0, .sentL i 0, .sentR i 1, .sentL i 1]

/-- All the steps after the prologue. -/
def allSteps : List Step :=
  hopFirst ++ ((lastFins 29 29 le_rfl).flatMap hopMid ++ (hopLast ++ (sentFirst ++ (lastFins 30 30 le_rfl).flatMap sentNext)))

/-! ## The prologue -/

/-- The barrier's semaphore. -/
abbrev barSem : Sem sig := (SemArray.scalar (sig.barrier 0 rfl) : Sems sig S_).sem

/-- Signal both neighbours and wait for both. -/
noncomputable def barrier (d : Dev nD) (K : P F PUnit) : P F PUnit := do
  semSignalWord (leftOf d) barSem 1#32
  semSignalWord (rightOf d) barSem 1#32
  semWaitWord barSem 2#32
  K

theorem ownInb (k : Fin 4) : ∀ a, (![k.val, 0, 0] : Fin 3 → Nat) a + S1x256x512.size a ≤ S4x256x512.size a := by
  revert k; decide

/-- Put the device's own weights `k` and `2 + k` into its slots. -/
noncomputable def ownCopy (d : Dev nD) (k : Fin 2) (K : P F PUnit) : P F PUnit := do
  let v : Vec F S1x256x512 .bf16 ← Prog.lift (.load R.arg3 (Rect.unit (s := S4x256x512) ![(⟨k.val, by omega⟩ : Fin 4).val, 0, 0] S1x256x512.size (ownInb ⟨k.val, by omega⟩)).toLoadRect (View.loadsAt_vmem h_S1x256x512))
  let _ : Vec F S1x256x512 .bf16 ← Prog.lift (.load R.arg6 (Rect.unit (s := S64x256x512) (k0_off1 d (BitVec.ofNat 32 k.val)) S1x256x512.size (k0_off1_inb d k)).toLoadRect (View.loadsAt_vmem h_S1x256x512))
  Prog.lift (.store R.arg6 (Rect.unit (s := S64x256x512) (k0_off1 d (BitVec.ofNat 32 k.val)) S1x256x512.size (k0_off1_inb d k))
    (shapeCast S1x256x512 (shapeCast S256x512 v shapeCasts_S1x256x512_S256x512 : FVec F S256x512 .bf16) shapeCasts_S256x512_S1x256x512 : FVec F S1x256x512 .bf16) Finset.univ
    (View.stores_vmem h_S1x256x512 (R.harg6.storeExact_slice rfl _ (k0_off1_packedbf16 d k)) (fun _ => rfl)) (.inl rfl))
  let v' : Vec F S1x256x512 .bf16 ← Prog.lift (.load R.arg3 (Rect.unit (s := S4x256x512) ![(⟨2 + k.val, by omega⟩ : Fin 4).val, 0, 0] S1x256x512.size (ownInb ⟨2 + k.val, by omega⟩)).toLoadRect (View.loadsAt_vmem h_S1x256x512))
  let _ : Vec F S1x256x512 .bf16 ← Prog.lift (.load R.arg7 (Rect.unit (s := S64x256x512) (k0_off1 d (BitVec.ofNat 32 k.val)) S1x256x512.size (k0_off1_inb d k)).toLoadRect (View.loadsAt_vmem h_S1x256x512))
  Prog.lift (.store R.arg7 (Rect.unit (s := S64x256x512) (k0_off1 d (BitVec.ofNat 32 k.val)) S1x256x512.size (k0_off1_inb d k))
    (shapeCast S1x256x512 (shapeCast S256x512 v' shapeCasts_S1x256x512_S256x512 : FVec F S256x512 .bf16) shapeCasts_S256x512_S1x256x512 : FVec F S1x256x512 .bf16) Finset.univ
    (View.stores_vmem h_S1x256x512 (R.harg7.storeExact_slice rfl _ (k0_off1_packedbf16 d k)) (fun _ => rfl)) (.inl rfl))
  K

/-- The softmax of the router's scores. -/
noncomputable def probs (xb : FVec F S512x256 .bf16) (rw : Vec F S256x128 .bf16) : FVec F S512x128 .f32 :=
  have s : FVec F S512x128 .f32 := matmul dot_S512x256_S256x128_S512x128_1_0_0_1_n_n none xb (shapeCast S256x128 rw shapeCasts_S256x128_S256x128) (constant S512x128 .f32 0x00000000#32)
  have e : FVec F S512x128 .f32 := exp (subf s (broadcastTo S512x128 (shapeCast S512x1 (multiReduction .maximumf [1] S512 s 0xFF800000#32 reduces_S512x128_S512 (.inl rfl) rfl) shapeCasts_S512_S512x1) broadcasts_S512x1_S512x128))
  divf e (broadcastTo S512x128 (shapeCast S512x1 (multiReduction .add [1] S512 e 0x00000000#32 reduces_S512x128_S512 (.inl rfl) rfl) shapeCasts_S512_S512x1) broadcasts_S512x1_S512x128)

/-- Where a token's chosen expert is. -/
noncomputable def chosen (v : Vec F S512x1 .i32) : IVec S512x128 1 :=
  cmpi .eq (iota .tc S512x128 32 [1] iota_S512x128_d1_w32) (broadcastTo S512x128 (shapeCast S512x1 v shapeCasts_S512x1_S512x1) broadcasts_S512x1_S512x128)

/-- The probability of the chosen expert, one number a token. -/
noncomputable def picked (p : FVec F S512x128 .f32) (c : IVec S512x128 1) : FVec F S512x1 .f32 :=
  shapeCast S512x1 (multiReduction .add [1] S512 (select c p (broadcast S512x128 (Scalar.ofBits .f32 0x00000000#32))) 0x00000000#32 reduces_S512x128_S512 (.inl rfl) rfl) shapeCasts_S512_S512x1

/-- The gate: the probabilities of the two chosen experts, each over their sum. -/
noncomputable def gateOf (p : FVec F S512x128 .f32) (c c' : IVec S512x128 1) : FVec F S512x128 .f32 :=
  divf (mulf p (sitofp .f32 (extui 32 (ori c c') natLt_1_32))) (broadcastTo S512x128 (addf (picked p c) (picked p c')) broadcasts_S512x1_S512x128)

theorem rowSlices (o : Fin 32) : S512x128.Slices ![0, 4 * o.val] S512x4 := by revert o; decide
theorem rowInb (o : Fin 32) : ∀ a, (![o.val, 0, 0] : Fin 3 → Nat) a + S1x512x4.size a ≤ S32x512x4.size a := by revert o; decide

/-- Store the gate's four columns of each device listed, then `K`. -/
noncomputable def gateRows (g : FVec F S512x128 .f32) : List (Fin 32) → P F PUnit → P F PUnit
  | [], K => K
  | o :: l, K => do
    let _ : Vec F S1x512x4 .f32 ← Prog.lift (.load R.arg8 (Rect.unit (s := S32x512x4) ![o.val, 0, 0] S1x512x4.size (rowInb o)).toLoadRect (View.loadsAt_vmem h_S1x512x4))
    Prog.lift (.store R.arg8 (Rect.unit (s := S32x512x4) ![o.val, 0, 0] S1x512x4.size (rowInb o))
      (shapeCast S1x512x4 (extractStridedSlice S512x4 ![0, 4 * o.val] g (rowSlices o)) shapeCasts_S512x4_S1x512x4) Finset.univ (View.stores_vmem_bits_univ h_S1x512x4 rfl) (.inl rfl))
    gateRows g l K

/-- Load the tokens and the routing, compute the gate and store it, clear the result. -/
noncomputable def gate (K : FVec F S512x256 .bf16 → P F PUnit) : P F PUnit := do
  let x : Vec F S512x256 .bf16 ← Prog.lift (.load R.arg0 (Rect.unit (s := S512x256) ![0, 0] S512x256.size inb_S512x256_S512x256_0_0).toLoadRect (View.loadsAt_vmem h_S512x256))
  have xb : FVec F S512x256 .bf16 := shapeCast S512x256 x shapeCasts_S512x256_S512x256
  let rw : Vec F S256x128 .bf16 ← Prog.lift (.load R.arg1 (Rect.unit (s := S256x128) ![0, 0] S256x128.size inb_S256x128_S256x128_0_0).toLoadRect (View.loadsAt_vmem h_S256x128))
  let i0 : Vec F S512x1 .i32 ← Prog.lift (.load R.arg2 (Rect.unit (s := S512x2) ![0, 0] S512x1.size inb_S512x2_S512x1_0_0).toLoadRect (View.loadsAt_vmem h_S512x1))
  let i1 : Vec F S512x1 .i32 ← Prog.lift (.load R.arg2 (Rect.unit (s := S512x2) ![0, 1] S512x1.size inb_S512x2_S512x1_0_1).toLoadRect (View.loadsAt_vmem h_S512x1))
  gateRows R (gateOf (probs xb rw) (chosen i0) (chosen i1)) (lastFins 32 32 le_rfl) do
    let _ : Vec F S512x512 .f32 ← Prog.lift (.load R.arg4 (Rect.unit (s := S512x512) ![0, 0] S512x512.size inb_S512x512_S512x512_0_0).toLoadRect (View.loadsAt_vmem h_S512x512))
    Prog.lift (.store R.arg4 (Rect.unit (s := S512x512) ![0, 0] S512x512.size inb_S512x512_S512x512_0_0) (broadcast S512x512 (Scalar.ofBits .f32 0x00000000#32)) Finset.univ (View.stores_vmem_bits_univ h_S512x512 rfl) (.inl rfl))
    K xb

/-- The products with the device's own weights. -/
noncomputable def useOwn (d : Dev nD) (xb : FVec F S512x256 .bf16) (k : Fin 2) (K : P F PUnit) : P F PUnit := do
  use R xb R.arg6 (k0_off1 d (BitVec.ofNat 32 k.val)) (k0_off1_inb d k) (k0_off4 d) (k0_off4_inb d) ⟨k.val, by omega⟩
  use R xb R.arg7 (k0_off1 d (BitVec.ofNat 32 k.val)) (k0_off1_inb d k) (k0_off4 d) (k0_off4_inb d) ⟨2 + k.val, by omega⟩
  K

/-- The first sends, both ways. -/
noncomputable def sendOwn (d : Dev nD) (k : Fin 2) (K : P F PUnit) : P F PUnit := do
  sendR R d 0 k
  sendL0 R d k
  K

/-- Everything before the first hop, then `K`. -/
noncomputable def prologue (K : Dev nD → FVec F S512x256 .bf16 → P F PUnit) : P F PUnit := do
  let d : Dev nD ← Prog.lift .deviceId
  barrier d <| ownCopy R d 0 <| ownCopy R d 1 <| sendOwn R d 0 <| sendOwn R d 1 <| gate R fun xb =>
    useOwn R d xb 0 <| useOwn R d xb 1 <| K d xb

/-! ## The printed parts are these programs -/

/-- The printed body on the buffers of `R`. -/
noncomputable abbrev bodyOf : P F PUnit :=
  cc0_body R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13

set_option maxRecDepth 100000 in
theorem part266_eq (d : Dev nD) (v : BitVec 32) (xb : FVec F S512x256 .bf16) (K : P F PUnit) :
    (k0_part266 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v >>= fun _ => K)
      = runSteps R d xb ((allSteps.drop 558).take 57) K := rfl

set_option maxRecDepth 100000 in
theorem part265_eq (d : Dev nD) (v v' v'' a b : BitVec 32) (xb : FVec F S512x256 .bf16) (K : P F PUnit) :
    (k0_part265 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb a b >>= fun _ => K)
      = runSteps R d xb ((allSteps.drop 406).take 152) K := rfl

set_option maxRecDepth 100000 in
theorem part264_eq (d : Dev nD) (v v' v'' a b c : BitVec 32) (xb : FVec F S512x256 .bf16) (K : P F PUnit) :
    (k0_part264 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb a b c >>= fun _ => K)
      = runSteps R d xb ((allSteps.drop 262).take 144) K := rfl

set_option maxRecDepth 100000 in
theorem part263_eq (d : Dev nD) (v v' v'' a b : BitVec 32) (xb : FVec F S512x256 .bf16) (K : P F PUnit) :
    (k0_part263 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb a b >>= fun _ => K)
      = runSteps R d xb ((allSteps.drop 117).take 145) K := rfl

set_option maxRecDepth 100000 in
theorem part262_eq (K : Dev nD → FVec F S512x256 .bf16 → P F PUnit) :
    (k0_part262 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 >>= fun r => K r.1 r.2.2.2.2.1)
      = prologue R fun d xb => runSteps R d xb (allSteps.take 117) (K d xb) := rfl

/-- The printed body is the prologue followed by all the steps. -/
theorem body_eq : (bodyOf R : P F PUnit) = prologue R fun d xb => runSteps R d xb allSteps (pure ⟨⟩) := by
  have h266 : ∀ (d : Dev nD) (v : BitVec 32) (xb : FVec F S512x256 .bf16),
      (k0_part266 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v >>= fun _ =>
        (den R d xb (.sentL 30 1) >>= fun _ => (pure ⟨⟩ : P F PUnit)))
        = runSteps R d xb (allSteps.drop 558) (pure ⟨⟩) := by
    intro d v xb
    rw [part266_eq R d v xb]
    have : allSteps.drop 558 = (allSteps.drop 558).take 57 ++ [.sentL 30 1] := by rfl
    rw [this, runSteps_append]
    rfl
  have step : ∀ (n m l : ℕ) (_ : n + m = l) (d : Dev nD) (xb : FVec F S512x256 .bf16),
      runSteps R d xb ((allSteps.drop n).take m) (runSteps R d xb (allSteps.drop l) (pure ⟨⟩))
        = runSteps R d xb (allSteps.drop n) (pure ⟨⟩ : P F PUnit) := by
    intro n m l h d xb
    rw [← runSteps_append, ← h, ← List.drop_drop, List.take_append_drop]
  have h265 : ∀ (d : Dev nD) (v v' v'' a b : BitVec 32) (xb : FVec F S512x256 .bf16),
      (k0_part265 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb a b >>= fun _ =>
        k0_part266 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v >>= fun _ =>
          (den R d xb (.sentL 30 1) >>= fun _ => (pure ⟨⟩ : P F PUnit)))
        = runSteps R d xb (allSteps.drop 406) (pure ⟨⟩) := by
    intro d v v' v'' a b xb
    rw [h266, part265_eq, step 406 152 558 rfl]
  have h264 : ∀ (d : Dev nD) (v v' v'' a b c : BitVec 32) (xb : FVec F S512x256 .bf16),
      (k0_part264 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb a b c >>= fun s =>
        k0_part265 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb s.1 s.2 >>= fun _ =>
        k0_part266 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v >>= fun _ =>
          (den R d xb (.sentL 30 1) >>= fun _ => (pure ⟨⟩ : P F PUnit)))
        = runSteps R d xb (allSteps.drop 262) (pure ⟨⟩) := by
    intro d v v' v'' a b c xb
    simp only [h265]
    rw [part264_eq, step 262 144 406 rfl]
  have h263 : ∀ (d : Dev nD) (v v' v'' a b : BitVec 32) (xb : FVec F S512x256 .bf16),
      (k0_part263 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb a b >>= fun q =>
        k0_part264 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb q.1 q.2.1 q.2.2 >>= fun s =>
        k0_part265 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v v' v'' xb s.1 s.2 >>= fun _ =>
        k0_part266 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 d v >>= fun _ =>
          (den R d xb (.sentL 30 1) >>= fun _ => (pure ⟨⟩ : P F PUnit)))
        = runSteps R d xb (allSteps.drop 117) (pure ⟨⟩) := by
    intro d v v' v'' a b xb
    simp only [h264]
    rw [part263_eq, step 117 145 262 rfl]
  have hall : ∀ (d : Dev nD) (xb : FVec F S512x256 .bf16),
      runSteps R d xb (allSteps.take 117) (runSteps R d xb (allSteps.drop 117) (pure ⟨⟩))
        = runSteps R d xb allSteps (pure ⟨⟩ : P F PUnit) := by
    intro d xb
    rw [← runSteps_append, List.take_append_drop]
  simp only [← hall]
  rw [← part262_eq R fun d xb => runSteps R d xb (allSteps.drop 117) (pure ⟨⟩)]
  exact congrArg (k0_part262 R.arg0 R.harg0 R.arg1 R.harg1 R.arg2 R.harg2 R.arg3 R.harg3 R.arg4 R.harg4 R.arg5 R.harg5 R.arg6 R.harg6 R.arg7 R.harg7 R.arg8 R.harg8 R.arg9 R.arg10 R.arg11 R.arg12 R.arg13 >>= ·) (funext fun r => h263 r.1 r.2.1 r.2.2.1 r.2.2.2.1 r.2.2.2.2.2.1 r.2.2.2.2.2.2 r.2.2.2.2.1)

end Cert.KernelIdeal

end
-- ==== Proof.Slots.lean ====
module
public import proofs.«01_k».proof.Proof.Steps
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
@[expose] public section

/-! # The slots of the weight buffers

Each of the three weight buffers has 64 slots of one expert's weights, two for each device.  Slot
`2 * o + k` belongs to device `o`.  Here: the devices counted around the ring, the elements of a slot,
that the slots are disjoint and fill the buffer, and what a copy, a store or a load does on a slot. -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Facts₀ Facts Gen

variable {F : FTy → Type} [FloatOps F]

/-! ## Around the ring -/

/-- The device `g` places to the left, and `g` places to the right. -/
def lft (c : Dev nD) (g : ℕ) : Dev nD := ⟨(c.val + 32 - g % 32) % 32, Nat.mod_lt _ (by decide)⟩
def rgt (c : Dev nD) (g : ℕ) : Dev nD := ⟨(c.val + g) % 32, Nat.mod_lt _ (by decide)⟩

theorem dev_lt (c : Dev nD) : c.val < 32 := c.isLt

theorem lft_zero (c : Dev nD) : lft c 0 = c := by
  apply Fin.ext; have := dev_lt c; show (c.val + 32 - 0 % 32) % 32 = c.val; omega
theorem rgt_zero (c : Dev nD) : rgt c 0 = c := by
  apply Fin.ext; have := dev_lt c; show (c.val + 0) % 32 = c.val; omega
theorem lft_succ (c : Dev nD) (g : ℕ) : lft (lft c 1) g = lft c (g + 1) := by
  apply Fin.ext; have := dev_lt c
  show ((c.val + 32 - 1 % 32) % 32 + 32 - g % 32) % 32 = (c.val + 32 - (g + 1) % 32) % 32; omega
theorem rgt_succ (c : Dev nD) (g : ℕ) : rgt (rgt c 1) g = rgt c (g + 1) := by
  apply Fin.ext; have := dev_lt c
  show ((c.val + 1) % 32 + g) % 32 = (c.val + (g + 1)) % 32; omega
theorem lft_rgt (c : Dev nD) (g : ℕ) : lft (rgt c 1) (g + 1) = lft c g := by
  apply Fin.ext; have := dev_lt c
  show ((c.val + 1) % 32 + 32 - (g + 1) % 32) % 32 = (c.val + 32 - g % 32) % 32; omega
theorem rgt_lft (c : Dev nD) (g : ℕ) : rgt (lft c 1) (g + 1) = rgt c g := by
  apply Fin.ext; have := dev_lt c
  show ((c.val + 32 - 1 % 32) % 32 + (g + 1)) % 32 = (c.val + g) % 32; omega
theorem lft_one_rgt_one (c : Dev nD) : lft (rgt c 1) 1 = c := (lft_rgt c 0).trans (lft_zero c)
theorem rgt_one_lft_one (c : Dev nD) : rgt (lft c 1) 1 = c := (rgt_lft c 0).trans (rgt_zero c)

theorem leftOf_eq (c : Dev nD) : leftOf c = lft c 1 := Fin.ext (by
  have := dev_lt c; rw [show (leftOf c).val = k0_dev1 c from rfl, k0_dev1_eq]
  show (c.val + 31) % 32 = (c.val + 32 - 1 % 32) % 32; omega)
theorem rightOf_eq (c : Dev nD) : rightOf c = rgt c 1 := Fin.ext (by
  rw [show (rightOf c).val = k0_dev2 c from rfl, k0_dev2_eq]; rfl)

/-- An element under a view is the image of an index. -/
theorem emb_of_mem {κ : Kind} {sp : Space} {s : Shape} {e : EltTy} (v : View sig κ sp s e) {i : v.ty.Idx} (h : i ∈ v.set) :
    ∃ y : s.Idx, v.emb y = i := by
  obtain ⟨y, -, hy⟩ := Finset.mem_map.mp h; exact ⟨y, hy⟩

/-! ## The slots -/

theorem slotInb (o : Dev nD) (k : Fin 2) : ∀ a, (![2 * o.val + k.val, 0, 0] : Fin 3 → ℕ) a + S1x256x512.size a ≤ S64x256x512.size a := by
  have := dev_lt o
  intro a; fin_cases a
  · show 2 * o.val + k.val + 1 ≤ 64; omega
  · exact le_refl 256
  · exact le_refl 512

/-- The rectangle of slot `2 * o + k`. -/
abbrev slotRect (o : Dev nD) (k : Fin 2) : Rect S64x256x512 := Rect.unit (s := S64x256x512) ![2 * o.val + k.val, 0, 0] S1x256x512.size (slotInb o k)

/-- Its elements. -/
def slotSet (o : Dev nD) (k : Fin 2) : Finset S64x256x512.Idx := (slotRect o k).set

theorem mem_slotSet {o : Dev nD} {k : Fin 2} {i : S64x256x512.Idx} : i ∈ slotSet o k ↔ (i 0).val = 2 * o.val + k.val := by
  unfold slotSet slotRect
  rw [Rect.mem_set_unit]
  constructor
  · intro h; have := h 0
    have h1 : 2 * o.val + k.val ≤ (i 0).val := this.1
    have h2 : (i 0).val < 2 * o.val + k.val + 1 := this.2
    omega
  · intro h a; fin_cases a
    · exact ⟨le_of_eq h.symm, by show (i 0).val < 2 * o.val + k.val + 1; omega⟩
    · exact ⟨Nat.zero_le _, by show (i 1).val < 0 + 256; have : (i 1).val < 256 := (i 1).isLt; omega⟩
    · exact ⟨Nat.zero_le _, by show (i 2).val < 0 + 512; have : (i 2).val < 512 := (i 2).isLt; omega⟩

theorem slot_disjoint (p p' : Dev nD × Fin 2) (h : p ≠ p') : Disjoint (slotSet p.1 p.2) (slotSet p'.1 p'.2) := by
  rw [Finset.disjoint_left]
  intro i hi hi'
  rw [mem_slotSet] at hi hi'
  apply h
  have h1 := p.2.isLt; have h2 := p'.2.isLt
  exact Prod.ext (Fin.ext (by omega)) (Fin.ext (by omega))

theorem slot_cover : Finset.univ.biUnion (fun p : Dev nD × Fin 2 => slotSet p.1 p.2) = Finset.univ := by
  ext i
  simp only [Finset.mem_biUnion, Finset.mem_univ, true_and, iff_true]
  have hi : (i 0).val < 64 := (i 0).isLt
  refine ⟨(⟨(i 0).val / 2, by show _ < 32; omega⟩, ⟨(i 0).val % 2, by omega⟩), ?_⟩
  rw [mem_slotSet]
  show (i 0).val = 2 * ((i 0).val / 2) + (i 0).val % 2
  omega

/-! ## The body's views of them -/

abbrev bufR : Memref sig .tc .vmem S64x256x512 .bf16 := Memref.whole cc0_scratch0
abbrev bufV : Memref sig .tc .vmem S64x256x512 .bf16 := Memref.whole cc0_scratch1
abbrev bufH : Memref sig .tc .hbm S64x256x512 .bf16 := Memref.whole main_v1_1

theorem off2_eq (c : Dev nD) (g : Fin 31) (k : Fin 2) :
    k0_off2 c (BitVec.ofNat 32 g.val) (BitVec.ofNat 32 k.val) = ![2 * (lft c g.val).val + k.val, 0, 0] := by
  rw [k0_off2_eq]
  have : (c.val + 32 - g.val) % 32 = (lft c g.val).val := by
    show _ = (c.val + 32 - g.val % 32) % 32; rw [Nat.mod_eq_of_lt (by omega : g.val < 32)]
  rw [this]

theorem off3_eq (c : Dev nD) (g : Fin 32) (k : Fin 2) :
    k0_off3 c (BitVec.ofNat 32 g.val) (BitVec.ofNat 32 k.val) = ![2 * (rgt c g.val).val + k.val, 0, 0] := by
  rw [k0_off3_eq]; rfl

/-- The rectangle at offsets known to be a slot's is that slot's. -/
theorem rect_eq {off : Fin 3 → ℕ} (h : ∀ a, off a + S1x256x512.size a ≤ S64x256x512.size a) {o : Dev nD} {k : Fin 2}
    (e : off = ![2 * o.val + k.val, 0, 0]) : Rect.unit (s := S64x256x512) off S1x256x512.size h = slotRect o k := by
  subst e; rfl

theorem setR (c : Dev nD) (g : Fin 31) (k : Fin 2) :
    ((slotR bufR c g k).view.set : Finset S64x256x512.Idx) = slotSet (lft c g.val) k :=
  (View.set_reshape _ _).trans ((View.set_slice_whole cc0_scratch0 _).trans (congrArg (fun r : Rect S64x256x512 => (r.set : Finset S64x256x512.Idx)) (rect_eq _ (off2_eq c g k))))
theorem setH (c : Dev nD) (g : Fin 32) (k : Fin 2) :
    ((slotL bufH c g k).view.set : Finset S64x256x512.Idx) = slotSet (rgt c g.val) k :=
  (View.set_reshape _ _).trans ((View.set_slice_whole main_v1_1 _).trans (congrArg (fun r : Rect S64x256x512 => (r.set : Finset S64x256x512.Idx)) (rect_eq _ (off3_eq c g k))))
theorem setV (c : Dev nD) (g : Fin 32) (k : Fin 2) :
    ((slotL bufV c g k).view.set : Finset S64x256x512.Idx) = slotSet (rgt c g.val) k :=
  (View.set_reshape _ _).trans ((View.set_slice_whole cc0_scratch1 _).trans (congrArg (fun r : Rect S64x256x512 => (r.set : Finset S64x256x512.Idx)) (rect_eq _ (off3_eq c g k))))

/-- Contents of a weight buffer. -/
abbrev WBuf (F : FTy → Type) := S64x256x512.Idx → Elt F .bf16

/-- A slot copied onto the same slot of another buffer holds what the source held. -/
theorem copyRR (c : Dev nD) (g : Fin 31) (k : Fin 2) (fd fs : WBuf F) :
    ∀ i ∈ slotSet (lft c g.val) k,
      ((slotR bufR c g k).view.write (Elt F) fd ((slotR bufR c g k).view.read (Elt F) fs) Finset.univ : WBuf F) i = fs i := by
  intro i hi; rw [← setR c g k] at hi
  obtain ⟨y, rfl⟩ := emb_of_mem (slotR bufR c g k).view hi
  rw [View.write_emb_of_mem _ _ (Finset.mem_univ y)]; rfl
theorem copyHH (c : Dev nD) (g : Fin 32) (k : Fin 2) (fd fs : WBuf F) :
    ∀ i ∈ slotSet (rgt c g.val) k,
      ((slotL bufH c g k).view.write (Elt F) fd ((slotL bufH c g k).view.read (Elt F) fs) Finset.univ : WBuf F) i = fs i := by
  intro i hi; rw [← setH c g k] at hi
  obtain ⟨y, rfl⟩ := emb_of_mem (slotL bufH c g k).view hi
  rw [View.write_emb_of_mem _ _ (Finset.mem_univ y)]; rfl
theorem copyVH (c : Dev nD) (g : Fin 32) (k : Fin 2) (fd fs : WBuf F) :
    ∀ i ∈ slotSet (rgt c g.val) k,
      ((slotL bufH c g k).view.write (Elt F) fd ((slotL bufV c g k).view.read (Elt F) fs) Finset.univ : WBuf F) i = fs i := by
  intro i hi; rw [← setH c g k] at hi
  obtain ⟨y, rfl⟩ := emb_of_mem (slotL bufH c g k).view hi
  rw [View.write_emb_of_mem _ _ (Finset.mem_univ y)]; rfl
theorem copyHV (c : Dev nD) (g : Fin 32) (k : Fin 2) (fd fs : WBuf F) :
    ∀ i ∈ slotSet (rgt c g.val) k,
      ((slotL bufV c g k).view.write (Elt F) fd ((slotL bufH c g k).view.read (Elt F) fs) Finset.univ : WBuf F) i = fs i := by
  intro i hi; rw [← setV c g k] at hi
  obtain ⟨y, rfl⟩ := emb_of_mem (slotL bufV c g k).view hi
  rw [View.write_emb_of_mem _ _ (Finset.mem_univ y)]; rfl

/-! ## Whole slots read and stored -/

/-- What a slot holds, as a load reads it. -/
def slotOf (G : WBuf F) (o : Dev nD) (k : Fin 2) : Vec F S1x256x512 .bf16 := fun x => G ((slotRect o k).emb x)

section Access
variable {off : Fin 3 → ℕ} (h : ∀ a, off a + S1x256x512.size a ≤ S64x256x512.size a) {o : Dev nD} {k : Fin 2}
  (e : off = ![2 * o.val + k.val, 0, 0])
include e

theorem accR : ((bufR.access (Rect.unit (s := S64x256x512) off S1x256x512.size h)).set : Finset S64x256x512.Idx) = slotSet o k :=
  (View.set_slice_whole cc0_scratch0 _).trans (congrArg (fun r : Rect S64x256x512 => (r.set : Finset S64x256x512.Idx)) (rect_eq h e))
theorem accV : ((bufV.access (Rect.unit (s := S64x256x512) off S1x256x512.size h)).set : Finset S64x256x512.Idx) = slotSet o k :=
  (View.set_slice_whole cc0_scratch1 _).trans (congrArg (fun r : Rect S64x256x512 => (r.set : Finset S64x256x512.Idx)) (rect_eq h e))

theorem readR (G : WBuf F) : bufR.view.readAt (Elt F) (Rect.unit (s := S64x256x512) off S1x256x512.size h).toLoadRect G = slotOf G o k := by
  subst e; rfl
theorem readV (G : WBuf F) : bufV.view.readAt (Elt F) (Rect.unit (s := S64x256x512) off S1x256x512.size h).toLoadRect G = slotOf G o k := by
  subst e; rfl

/-- A slot stored with what `G` has there agrees with `G` on it. -/
theorem writeR (G fd : WBuf F) : ∀ i ∈ slotSet o k,
    ((bufR.access (Rect.unit (s := S64x256x512) off S1x256x512.size h)).write (Elt F) fd (slotOf G o k) Finset.univ : WBuf F) i = G i := by
  subst e
  intro i hi; rw [← accR h rfl] at hi
  obtain ⟨y, rfl⟩ := emb_of_mem (bufR.access (slotRect o k)) hi
  rw [View.write_emb_of_mem _ _ (Finset.mem_univ y)]; rfl
theorem writeV (G fd : WBuf F) : ∀ i ∈ slotSet o k,
    ((bufV.access (Rect.unit (s := S64x256x512) off S1x256x512.size h)).write (Elt F) fd (slotOf G o k) Finset.univ : WBuf F) i = G i := by
  subst e
  intro i hi; rw [← accV h rfl] at hi
  obtain ⟨y, rfl⟩ := emb_of_mem (bufV.access (slotRect o k)) hi
  rw [View.write_emb_of_mem _ _ (Finset.mem_univ y)]; rfl

end Access

end Cert.KernelIdeal

end

end
-- ==== Proof.Cells.lean ====
module
public import proofs.«01_k».proof.Proof.Slots
@[expose] public section

/-! # The semaphore cells of a device

A device has its barrier cell and five arrays of 62 cells: sent to the right, arrived from the left,
sent to the left, arrived from the right, copied next to the compute unit. -/

noncomputable section

namespace Cert.KernelIdeal
open Idealize.ShloMosaic Idealize.SL.Sem
open Idealize.ShloMosaic.TcCoe
open Facts₀ Facts Gen

/-- An index of an array: hop and half. -/
abbrev Pt := Fin 31 × Fin 2
/-- A cell of one of the five arrays; a cell of a device (`none`: the barrier). -/
abbrev XCell := Fin 5 × Pt
abbrev DCell := Option XCell

/-- The five arrays. -/
def arr : Fin 5 → DmaSems sig S62 := ![cc0_scratch3, cc0_scratch4, cc0_scratch5, cc0_scratch6, cc0_scratch7]

abbrev xsem (x : XCell) : SemLoc sig := .dma (semAt (arr x.1) x.2.1 x.2.2)
def csem : DCell → SemLoc sig
  | none => .reg barSem
  | some x => xsem x

/-- The cell `e` of device `c`. -/
abbrev gcell (p : Dev nD × DCell) : GSem nD τ sig := ((p.1 : Thread nD τ), csem p.2)

theorem semAt_val (x : XCell) : (semAt (arr x.1) x.2.1 x.2.2).val = 5 + 62 * x.1.val + (2 * x.2.1.val + x.2.2.val) := by
  revert x; decide +kernel

theorem xsem_inj : Function.Injective xsem := by
  rintro ⟨a, i, k⟩ ⟨a', i', k'⟩ h
  have h1 := semAt_val (a, i, k)
  have h2 := semAt_val (a', i', k')
  have h3 : semAt (arr a) i k = semAt (arr a') i' k' := SemLoc.dma.inj h
  rw [show (a, i, k).1 = a from rfl] at h1
  simp only at h1 h2
  rw [h3, h2] at h1
  have := i.isLt; have := i'.isLt; have := k.isLt; have := k'.isLt
  have ha : a = a' := Fin.ext (by omega)
  have hi : i = i' := Fin.ext (by omega)
  have hk : k = k' := Fin.ext (by omega)
  rw [ha, hi, hk]

theorem csem_inj : Function.Injective csem := by
  rintro (_ | x) (_ | y) h
  · rfl
  · cases h
  · cases h
  · exact congrArg some (xsem_inj h)

theorem gcell_inj : Function.Injective gcell := by
  rintro ⟨c, e⟩ ⟨c', e'⟩ h
  have h1 : (c : Thread nD τ) = (c' : Thread nD τ) := congrArg Prod.fst h
  have h2 : csem e = csem e' := congrArg Prod.snd h
  have : c = c' := congrArg Prod.fst h1
  rw [this, csem_inj h2]

/-- Which device's which cell a cell is, if it is one of these. -/
def whose : GSem nD τ sig → Option (Dev nD × DCell) := Function.partialInv gcell

theorem whose_gcell (p : Dev nD × DCell) : whose (gcell p) = some p := Function.partialInv_left gcell_inj p

theorem whose_stage (c : Dev nD) (q : DmaSem sig) (hq : q.val < 5) : whose ((c : Thread nD τ), .dma q) = none := by
  rcases h : whose ((c : Thread nD τ), .dma q) with _ | p
  · rfl
  · exfalso
    have h2 := (Function.partialInv_of_injective gcell_inj p _).mp h
    obtain ⟨c', _ | x⟩ := p
    · have := congrArg Prod.snd h2; cases this
    · have h3 : semAt (arr x.1) x.2.1 x.2.2 = q := SemLoc.dma.inj (congrArg Prod.snd h2)
      have := semAt_val x
      rw [h3] at this; omega

end Cert.KernelIdeal

end

end
-- ==== Proof.Protocol.lean ====
module
public import proofs.«01_k».proof.Proof.Cells
public import Idealize.ShloMosaic.Lib.Pointwise.Index
@[expose] public section

/-! # The protocol of the ring

What each transfer and each barrier signal hands over, and the order the waits are allowed in. -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Slot `(o, k)` of device `c`'s buffers: the one filled from the left, the one filled from the right, and the
    latter's copy next to the compute unit. -/
def ptR (c o : Dev nD) (k : Fin 2) (q : PosShare TreeShare) (f : WBuf F) : sProp 𝕄 :=
  ((c : Thread nD τ).loc cc0_scratch0) ↦[slotSet o k]{q} f
def ptV (c o : Dev nD) (k : Fin 2) (q : PosShare TreeShare) (f : WBuf F) : sProp 𝕄 :=
  ((c : Thread nD τ).loc cc0_scratch1) ↦[slotSet o k]{q} f
def ptH (c o : Dev nD) (k : Fin 2) (q : PosShare TreeShare) (f : WBuf F) : sProp 𝕄 :=
  ((c : Thread nD τ).loc main_v1_1) ↦[slotSet o k]{q} f

section
omit [FloatOps F]
instance ptR_storable (c o k q f) : BI.Storable (upEmb : UEmb _ 𝕄) (ptR (F := F) c o k q f) := by unfold ptR; infer_instance
instance ptV_storable (c o k q f) : BI.Storable (upEmb : UEmb _ 𝕄) (ptV (F := F) c o k q f) := by unfold ptV; infer_instance
instance ptH_storable (c o k q f) : BI.Storable (upEmb : UEmb _ 𝕄) (ptH (F := F) c o k q f) := by unfold ptH; infer_instance

theorem ptR_halves (c o k) (f : WBuf F) : (ptR c o k fullShare f : sProp 𝕄) = iprop(ptR c o k fullShare.left f ∗ ptR c o k fullShare.right f) := by
  unfold ptR; exact BI.equiv_iff.mp ⟨(pointsTo_share (PosShare.mem_left_op_right fullShare)).1, (pointsTo_share (PosShare.mem_left_op_right fullShare)).2⟩
theorem ptV_halves (c o k) (f : WBuf F) : (ptV c o k fullShare f : sProp 𝕄) = iprop(ptV c o k fullShare.left f ∗ ptV c o k fullShare.right f) := by
  unfold ptV; exact BI.equiv_iff.mp ⟨(pointsTo_share (PosShare.mem_left_op_right fullShare)).1, (pointsTo_share (PosShare.mem_left_op_right fullShare)).2⟩
theorem ptH_halves (c o k) (f : WBuf F) : (ptH c o k fullShare f : sProp 𝕄) = iprop(ptH c o k fullShare.left f ∗ ptH c o k fullShare.right f) := by
  unfold ptH; exact BI.equiv_iff.mp ⟨(pointsTo_share (PosShare.mem_left_op_right fullShare)).1, (pointsTo_share (PosShare.mem_left_op_right fullShare)).2⟩
end

/-! ## Contents -/

variable (W : Dev nD → Vec F S4x256x512 .bf16)

/-- The weights that travel right: each device's first two experts; and left: its last two. -/
def GR : WBuf F := fun i => W ⟨(i 0).val / 2, by have : (i 0).val < 64 := (i 0).isLt; show _ < 32; omega⟩
  (ix3 ⟨(i 0).val % 2, by omega⟩ (i 1) (i 2))
def GL : WBuf F := fun i => W ⟨(i 0).val / 2, by have : (i 0).val < 64 := (i 0).isLt; show _ < 32; omega⟩
  (ix3 ⟨2 + (i 0).val % 2, by omega⟩ (i 1) (i 2))

/-- A slot's transfer credit. -/
def N : ℕ := (slotR bufR (0 : Dev nD) 0 0).view.dmaCredit
theorem N_pos : 0 < N := View.dmaCredit_pos _ (by decide)

/-! ## The schedule -/

/-- What the right neighbour's barrier signal hands over: its slots that are to be filled from the left;
    the left neighbour's: its slots that are to be filled from the right. -/
def barPay (c : Dev nD) : Bool → sProp 𝕄
  | true => bigSep Finset.univ fun p : Pt => iprop(∃ f, ptR (rgt c 1) (lft c p.1.val) p.2 fullShare f)
  | false => bigSep Finset.univ fun p : Pt => iprop(∃ f, ptH (lft c 1) (rgt c p.1.val) p.2 fullShare f)

/-- What a completed transfer hands to the device that waits for it. -/
def xferPay (c : Dev nD) : XCell → sProp 𝕄
  | (0, i, k) => ptR c (lft c i.val) k fullShare.left (GR W)
  | (1, i, k) => ptR c (lft c (i.val + 1)) k fullShare (GR W)
  | (2, i, k) => if i.val = 0 then ptV c (rgt c i.val) k fullShare.left (GL W) else ptH c (rgt c i.val) k fullShare.left (GL W)
  | (3, i, k) => ptH c (rgt c (i.val + 1)) k fullShare (GL W)
  | (_, i, k) => iprop(ptV c (rgt c (i.val + 1)) k fullShare (GL W) ∗ ptH c (rgt c (i.val + 1)) k fullShare.right (GL W))

def payOf (d : Bool) : Option (Dev nD × DCell) → sProp 𝕄
  | none => iprop(emp)
  | some (c, none) => barPay c d
  | some (c, some x) => xferPay W c x

def dutiesOf : Option (Dev nD × DCell) → Finset Bool
  | none => ∅
  | some (_, none) => Finset.univ
  | some (_, some _) => {false}

def amountOf : Option (Dev nD × DCell) → ℕ
  | some (_, some _) => N
  | _ => 1

/-- One round: a barrier cell has two duties of one unit, one for each neighbour; a transfer's cell one of a
    slot's credit. -/
def ringRd : Rounds.Schedule (GSem nD τ sig) Bool 𝕄 where
  duties g r := if r = 0 then dutiesOf (whose g) else ∅
  unitless _ := False
  amount g _ _ := amountOf (whose g)
  payload g _ d := payOf W d (whose g)
  amount_pos g _ _ _ := by
    rcases whose g with _ | ⟨c, _ | x⟩
    · exact Nat.one_pos
    · exact Nat.one_pos
    · exact N_pos

instance barPay_storable (c : Dev nD) (d : Bool) : BI.Storable (upEmb : UEmb _ 𝕄) (barPay (F := F) c d) := by
  cases d <;> (unfold barPay; infer_instance)

instance xferPay_storable (c : Dev nD) (x : XCell) : BI.Storable (upEmb : UEmb _ 𝕄) (xferPay W c x) := by
  obtain ⟨a, i, k⟩ := x
  fin_cases a
  · exact ptR_storable ..
  · exact ptR_storable ..
  · show BI.Storable upEmb (if i.val = 0 then _ else _)
    split <;> infer_instance
  · exact ptH_storable ..
  · show BI.Storable upEmb iprop(ptV c _ k fullShare _ ∗ ptH c _ k _ _)
    infer_instance

instance ringRd_payload_storable (g : GSem nD τ sig) (r : ℕ) (d : Bool) :
    BI.Storable (upEmb : UEmb _ 𝕄) ((ringRd W).payload g r d) := by
  show BI.Storable upEmb (payOf W d (whose g))
  rcases whose g with _ | ⟨c, _ | x⟩ <;> (dsimp only [payOf]; infer_instance)

section Sched
variable (c : Dev nD) (x : XCell)

theorem duties_bar : (ringRd W).duties (gcell (c, none)) 0 = Finset.univ := by
  show (if (0 : ℕ) = 0 then dutiesOf (whose (gcell (c, none))) else ∅) = _
  rw [if_pos rfl, whose_gcell]; rfl
theorem duties_xfer : (ringRd W).duties (gcell (c, some x)) 0 = {false} := by
  show (if (0 : ℕ) = 0 then dutiesOf (whose (gcell (c, some x))) else ∅) = _
  rw [if_pos rfl, whose_gcell]; rfl
theorem duties_later (g : GSem nD τ sig) : ∀ r, 1 ≤ r → (ringRd W).duties g r = ∅ :=
  fun r hr => if_neg (by omega)
theorem amount_bar (r : ℕ) (d : Bool) : (ringRd W).amount (gcell (c, none)) r d = 1 := by
  show amountOf (whose (gcell (c, none))) = _; rw [whose_gcell]; rfl
theorem amount_xfer (r : ℕ) (d : Bool) : (ringRd W).amount (gcell (c, some x)) r d = N := by
  show amountOf (whose (gcell (c, some x))) = _; rw [whose_gcell]; rfl
theorem expect_bar : (ringRd W).expect (gcell (c, none)) 0 = 2 := by
  unfold Schedule.expect Schedule.amountOf
  rw [duties_bar, Finset.sum_congr rfl fun d _ => amount_bar W c 0 d, Finset.sum_const, Finset.card_univ, Fintype.card_bool, smul_eq_mul]
theorem expect_xfer : (ringRd W).expect (gcell (c, some x)) 0 = N := by
  unfold Schedule.expect Schedule.amountOf; rw [duties_xfer, Finset.sum_singleton, amount_xfer]
theorem payload_bar (r : ℕ) (d : Bool) : (ringRd W).payload (gcell (c, none)) r d = barPay c d := by
  show payOf W d (whose (gcell (c, none))) = _; rw [whose_gcell]; rfl
theorem payload_xfer (r : ℕ) (d : Bool) : (ringRd W).payload (gcell (c, some x)) r d = xferPay W c x := by
  show payOf W d (whose (gcell (c, some x))) = _; rw [whose_gcell]; rfl

/-- What the barrier's wait yields; what a transfer's wait yields. -/
theorem rest_bar : bigSep ((ringRd W).duties (gcell (c, none)) 0 \ ∅) (fun d => (ringRd W).payload (gcell (c, none)) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_xfer : bigSep ((ringRd W).duties (gcell (c, some x)) 0 \ ∅) (fun d => (ringRd W).payload (gcell (c, some x)) 0 d)
    = xferPay W c x := by
  rw [Finset.sdiff_empty, duties_xfer, bigSep_singleton, payload_xfer]

end Sched

/-! ## Levels -/

def L (g : GSem nD τ sig) : Finset Unit := if g.1.2 = .tc then {()} else ∅

/-- The barrier at 1, the arrivals of hop `i` at `i + 2`, everything else at 0. -/
def lvOf : Option (Dev nD × DCell) → ℕ
  | some (_, none) => 1
  | some (_, some (1, i, _)) => i.val + 2
  | some (_, some (3, i, _)) => i.val + 2
  | _ => 0
def lv (g : GSem nD τ sig) (_ : Unit) : ℕ := lvOf (whose g)

theorem L_of_ne (g : GSem nD τ sig) (h : g.1.2 ≠ .tc) : L g = ∅ := if_neg h
theorem L_tc (c : Dev nD) (sm : SemLoc sig) : L ((c : Thread nD τ), sm) = {()} := if_pos rfl
theorem lv_gcell (p : Dev nD × DCell) (u : Unit) : lv (gcell p) u = lvOf (some p) := by
  show lvOf (whose (gcell p)) = _; rw [whose_gcell]

end Cert.KernelIdeal

end

end
-- ==== Proof.State.lean ====
module
public import proofs.«01_k».proof.Proof.Protocol
@[expose] public section

/-! # What a device holds while it runs

The transfers and waits a device has done so far are a set of events.  Each cell, each slot and each
transfer has its own resources, decided by the events done; an event changes those of one cell and of
the slots it moves. -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

local notation "𝕄" => MT nD τ sig Unit (Elt F) ℕ UU ℕ

/-! ## Events -/

/-- Arrived, sent on, and that sending over, from the left and from the right; copied, and that copy over. -/
inductive Ev
  | wR | sR | fR | wL | sL | fL | cL | dL
deriving DecidableEq

/-- The events done. -/
abbrev Done := Set (Ev × Pt)

/-- The event a cell's wait is, and the one that starts its transfer if the device itself does. -/
def waitEv : Fin 5 → Ev := ![.fR, .wR, .fL, .wL, .dL]
def issueEv : Fin 5 → Option Ev := ![some .sR, none, some .sL, none, some .cL]

theorem waitEv_inj : Function.Injective waitEv := by decide
theorem issueEv_ne (a b : Fin 5) : issueEv a ≠ some (waitEv b) := by revert a b; decide

theorem issueEv_one (a b : Fin 5) (e : Ev) (ha : issueEv a = some e) (hb : issueEv b = some e) : a = b := by
  cases e <;> revert a b <;> decide

def waited (D : Done) (x : XCell) : Prop := (waitEv x.1, x.2) ∈ D
def issued (D : Done) (x : XCell) : Prop := ∀ e, issueEv x.1 = some e → (e, x.2) ∈ D

/-! ## One focus at a time -/

section Focus
variable {I : Type} [Fintype I] [DecidableEq I] {M : Type} [RA.URA M]

/-- Take one member out of a family and put it back changed. -/
theorem swap {Φ Φ' : I → sProp 𝕄} (i : I) (h : ∀ j, j ≠ i → Φ j = Φ' j) :
    bigSep Finset.univ Φ ⊢ (iprop(Φ i ∗ (Φ' i -∗ bigSep Finset.univ Φ')) : sProp 𝕄) := by
  rw [bigSep_univ_at Φ i, bigSep_univ_at Φ' i,
    bigSep_congr (s := Finset.univ.erase i) (Φ := Φ) (Ψ := Φ') fun j hj => h j (Finset.ne_of_mem_erase hj)]
  iintro ⟨H, HR⟩
  isplitl [H]; · iexact H
  iintro H'
  isplitl [H']; · iexact H'
  iexact HR

/-- The same of a sum. -/
theorem sum_swap {A : Type} [AddCommMonoid A] {f f' : I → A} (i : I) (h : ∀ j, j ≠ i → f j = f' j) (h' : f' i = 0) :
    ∑ j, f j = ∑ j, f' j + f i := by
  rw [← Finset.add_sum_erase Finset.univ f (Finset.mem_univ i), ← Finset.add_sum_erase Finset.univ f' (Finset.mem_univ i), h', zero_add, add_comm]
  congr 1
  exact Finset.sum_congr rfl fun j hj => h j (Finset.ne_of_mem_erase hj)

end Focus

/-! ## The families -/

section Fam
variable (W : Dev nD → Vec F S4x256x512 .bf16) (c : Dev nD) (D : Done)
open Classical

/-- A cell: its position; its credit while its transfer is under way; the right to start it before. -/
def cellF (x : XCell) : sProp 𝕄 :=
  iprop(atPos ER (gcell (c, some x)) (if waited D x then 1 else 0) ∅ 0
    ∗ (if issued D x ∧ ¬ waited D x then cred (tallyAt (gcell (c, some x)) () N) else iprop(emp))
    ∗ (if issued D x then iprop(emp) else dutyTok ER (gcell (c, some x)) 0 false))

/-- Before a slot is passed on: the right to, and the neighbour's slot it goes to. -/
def outR (p : Pt) : sProp 𝕄 :=
  if (Ev.sR, p) ∈ D then iprop(emp)
  else iprop(dutyTok ER (gcell (rgt c 1, some (1, p))) 0 false ∗ ∃ f, ptR (rgt c 1) (lft c p.1.val) p.2 fullShare f)
def outL (p : Pt) : sProp 𝕄 :=
  if (Ev.sL, p) ∈ D then iprop(emp)
  else iprop(dutyTok ER (gcell (lft c 1, some (3, p))) 0 false ∗ ∃ f, ptH (lft c 1) (rgt c p.1.val) p.2 fullShare f)

/-- Slot of the device `q.1` places to the left: whether it has come and whether half of it is lent to a transfer. -/
def hasR (q : Fin 32 × Fin 2) : Prop := ∀ i : Fin 31, i.val + 1 = q.1.val → (Ev.wR, (i, q.2)) ∈ D
def goneR (q : Fin 32 × Fin 2) : Prop := ∃ i : Fin 31, i.val = q.1.val ∧ (Ev.sR, (i, q.2)) ∈ D
def slR (q : Fin 32 × Fin 2) : sProp 𝕄 :=
  if hasR D q then
    iprop((if goneR D q then iprop(emp) else ptR c (lft c q.1.val) q.2 fullShare.left (GR W)) ∗ ptR c (lft c q.1.val) q.2 fullShare.right (GR W))
  else iprop(emp)

/-- The device's own weights that go left. -/
def ownV (k : Fin 2) : sProp 𝕄 :=
  iprop((if (Ev.sL, ((0 : Fin 31), k)) ∈ D then iprop(emp) else ptV c (rgt c 0) k fullShare.left (GL W)) ∗ ptV c (rgt c 0) k fullShare.right (GL W))

/-- Slot of the device `p.1 + 1` places to the right, where it arrives and next to the compute unit. -/
def goneH (p : Pt) : Prop := ∃ i : Fin 31, i.val = p.1.val + 1 ∧ (Ev.sL, (i, p.2)) ∈ D
def slH (p : Pt) : sProp 𝕄 :=
  if (Ev.wL, p) ∈ D then
    iprop((if goneH D p then iprop(emp) else ptH c (rgt c (p.1.val + 1)) p.2 fullShare.left (GL W))
      ∗ (if (Ev.cL, p) ∈ D then iprop(emp) else ptH c (rgt c (p.1.val + 1)) p.2 fullShare.right (GL W)))
  else iprop(emp)
def slV (p : Pt) : sProp 𝕄 :=
  if (Ev.dL, p) ∈ D then ptV c (rgt c (p.1.val + 1)) p.2 fullShare (GL W)
  else if (Ev.cL, p) ∈ D then iprop(emp) else iprop(∃ f, ptV c (rgt c (p.1.val + 1)) p.2 fullShare f)

/-- Halves that came back. -/
def backR (p : Pt) : sProp 𝕄 := if (Ev.fR, p) ∈ D then xferPay W c (0, p) else iprop(emp)
def backL (p : Pt) : sProp 𝕄 := if (Ev.fL, p) ∈ D then xferPay W c (2, p) else iprop(emp)
def backC (p : Pt) : sProp 𝕄 := if (Ev.dL, p) ∈ D then ptH c (rgt c (p.1.val + 1)) p.2 fullShare.right (GL W) else iprop(emp)

/-- What the device still owes the neighbours' arrival cells. -/
def dueR (p : Pt) : CellTallies nD τ sig Unit := if (Ev.sR, p) ∈ D then 0 else tallyAt (gcell (rgt c 1, some (1, p))) () N
def dueL (p : Pt) : CellTallies nD τ sig Unit := if (Ev.sL, p) ∈ D then 0 else tallyAt (gcell (lft c 1, some (3, p))) () N
def due : CellTallies nD τ sig Unit := ∑ p, dueR c D p + ∑ p, dueL c D p
def owesF : sProp 𝕄 := iprop(∃ w : Waits sig Unit, owes (c : Thread nD τ) (due c D) w)

/-- All of it. -/
def Inv : sProp 𝕄 :=
  iprop(bigSep Finset.univ (cellF c D) ∗ bigSep Finset.univ (outR c D) ∗ bigSep Finset.univ (outL c D)
    ∗ bigSep Finset.univ (slR W c D) ∗ bigSep Finset.univ (ownV W c D) ∗ bigSep Finset.univ (slH W c D) ∗ bigSep Finset.univ (slV W c D)
    ∗ bigSep Finset.univ (backR W c D) ∗ bigSep Finset.univ (backL W c D) ∗ bigSep Finset.univ (backC W c D) ∗ owesF c D)

end Fam

/-! ## What an event leaves alone -/

section Other
variable (W : Dev nD → Vec F S4x256x512 .bf16) (c : Dev nD) (D : Done) {e : Ev} {p : Pt}

theorem mem_other {e' : Ev} {p' : Pt} (h : (e', p') ≠ (e, p)) : ((e', p') ∈ insert (e, p) D) ↔ (e', p') ∈ D := by
  rw [Set.mem_insert_iff]; exact ⟨fun h' => h'.resolve_left h, Or.inr⟩
theorem mem_ev {e' : Ev} {p' : Pt} (h : e' ≠ e) : ((e', p') ∈ insert (e, p) D) ↔ (e', p') ∈ D :=
  mem_other D fun h' => h ((Prod.mk.inj h').1)

theorem hasR_other (h : Ev.wR ≠ e) {q : Fin 32 × Fin 2} : hasR (insert (e, p) D) q = hasR D q :=
  propext (forall_congr' fun _ => forall_congr' fun _ => mem_ev D h)
theorem goneR_other (h : Ev.sR ≠ e) {q : Fin 32 × Fin 2} : goneR (insert (e, p) D) q = goneR D q :=
  propext (exists_congr fun _ => and_congr_right' (mem_ev D h))
theorem goneH_other (h : Ev.sL ≠ e) {q : Pt} : goneH (insert (e, p) D) q = goneH D q :=
  propext (exists_congr fun _ => and_congr_right' (mem_ev D h))
theorem dueR_other (h : Ev.sR ≠ e) : dueR c (insert (e, p) D) = dueR c D := by
  funext p'; unfold dueR; rw [mem_ev D h]
theorem dueL_other (h : Ev.sL ≠ e) : dueL c (insert (e, p) D) = dueL c D := by
  funext p'; unfold dueL; rw [mem_ev D h]

theorem outR_other (h : Ev.sR ≠ e) : (outR c (insert (e, p) D) : Pt → sProp 𝕄) = outR c D := by
  funext p'; unfold outR; rw [mem_ev D h]
theorem outL_other (h : Ev.sL ≠ e) : (outL c (insert (e, p) D) : Pt → sProp 𝕄) = outL c D := by
  funext p'; unfold outL; rw [mem_ev D h]
theorem slR_other (h : Ev.wR ≠ e) (h' : Ev.sR ≠ e) : (slR W c (insert (e, p) D) : _ → sProp 𝕄) = slR W c D := by
  funext p'; unfold slR; rw [hasR_other D h, goneR_other D h']
theorem ownV_other (h : Ev.sL ≠ e) : (ownV W c (insert (e, p) D) : _ → sProp 𝕄) = ownV W c D := by
  funext p'; unfold ownV; rw [mem_ev D h]
theorem slH_other (h : Ev.wL ≠ e) (h' : Ev.sL ≠ e) (h'' : Ev.cL ≠ e) : (slH W c (insert (e, p) D) : _ → sProp 𝕄) = slH W c D := by
  funext p'; unfold slH; rw [mem_ev D h, goneH_other D h', mem_ev D h'']
theorem slV_other (h : Ev.dL ≠ e) (h' : Ev.cL ≠ e) : (slV W c (insert (e, p) D) : _ → sProp 𝕄) = slV W c D := by
  funext p'; unfold slV; rw [mem_ev D h, mem_ev D h']
theorem backR_other (h : Ev.fR ≠ e) : (backR W c (insert (e, p) D) : _ → sProp 𝕄) = backR W c D := by
  funext p'; unfold backR; rw [mem_ev D h]
theorem backL_other (h : Ev.fL ≠ e) : (backL W c (insert (e, p) D) : _ → sProp 𝕄) = backL W c D := by
  funext p'; unfold backL; rw [mem_ev D h]
theorem backC_other (h : Ev.dL ≠ e) : (backC W c (insert (e, p) D) : _ → sProp 𝕄) = backC W c D := by
  funext p'; unfold backC; rw [mem_ev D h]
theorem due_other (h : Ev.sR ≠ e) (h' : Ev.sL ≠ e) : due c (insert (e, p) D) = due c D := by
  unfold due; rw [dueR_other c D h, dueL_other c D h']
theorem owesF_other (h : Ev.sR ≠ e) (h' : Ev.sL ≠ e) : (owesF c (insert (e, p) D) : sProp 𝕄) = owesF c D := by
  unfold owesF; rw [due_other c D h h']

theorem cellF_congr {D D' : Done} {x : XCell} (h : waited D x ↔ waited D' x) (h' : issued D x ↔ issued D' x) :
    (cellF c D x : sProp 𝕄) = cellF c D' x := by
  unfold cellF; rw [propext h, propext h']

/-- A wait changes its own cell only; -/
theorem cellF_wait (x y : XCell) (h : y ≠ x) : (cellF c D y : sProp 𝕄) = cellF c (insert (waitEv x.1, x.2) D) y := by
  refine cellF_congr c ?_ ?_
  · unfold waited; refine (mem_other D fun h' => h ?_).symm
    exact Prod.ext (waitEv_inj ((Prod.mk.inj h').1)) ((Prod.mk.inj h').2)
  · unfold issued
    refine forall_congr' fun e => forall_congr' fun he => (mem_ev D fun h' => ?_).symm
    exact issueEv_ne y.1 x.1 (he.trans (congrArg some h'))

/-- and so does a start. -/
theorem cellF_issue (x y : XCell) {e : Ev} (he : issueEv x.1 = some e) (h : y ≠ x) : (cellF c D y : sProp 𝕄) = cellF c (insert (e, x.2) D) y := by
  refine cellF_congr c ?_ ?_
  · unfold waited; refine (mem_ev D fun h' => ?_).symm
    exact issueEv_ne x.1 y.1 (he.trans (congrArg some h'.symm))
  · unfold issued
    refine forall_congr' fun e' => forall_congr' fun he' => (mem_other D fun h' => h ?_).symm
    have h1 : e' = e := (Prod.mk.inj h').1
    have h2 : y.2 = x.2 := (Prod.mk.inj h').2
    have h3 : y.1 = x.1 := by
      rw [h1] at he'
      exact issueEv_one _ _ e he' he
    exact Prod.ext h3 h2

theorem issued_wait (x y : XCell) : issued (insert (waitEv x.1, x.2) D) y ↔ issued D y := by
  unfold issued
  refine forall_congr' fun e => forall_congr' fun he => mem_ev D fun h' => ?_
  exact issueEv_ne y.1 x.1 (he.trans (congrArg some h'))
theorem waited_wait (x : XCell) : waited (insert (waitEv x.1, x.2) D) x := Set.mem_insert _ _
theorem waited_issue (x : XCell) {e : Ev} (he : issueEv x.1 = some e) : waited (insert (e, x.2) D) x ↔ waited D x :=
  mem_ev D fun h' => issueEv_ne x.1 x.1 (he.trans (congrArg some h'.symm))
theorem issued_issue (x : XCell) {e : Ev} (he : issueEv x.1 = some e) : issued (insert (e, x.2) D) x := by
  intro e' he'; rw [he] at he'; cases he'; exact Set.mem_insert _ _

end Other

end Cert.KernelIdeal

end

end
-- ==== Proof.Take.lean ====
module
public import proofs.«01_k».proof.Proof.State
@[expose] public section

/-! # What each event takes out of a device's state and puts back -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

local notation "𝕄" => MT nD τ sig Unit (Elt F) ℕ UU ℕ

section Take
variable (W : Dev nD → Vec F S4x256x512 .bf16) (c : Dev nD) (D : Done) (p : Pt)

/-! ## Waits -/

/-- A slot has arrived from the left. -/
theorem take_wR (h : (Ev.wR, p) ∉ D) (hs : ∀ i : Fin 31, i.val = p.1.val + 1 → (Ev.sR, (i, p.2)) ∉ D) :
    Inv W c D ⊢ (iprop(cellF c D (1, p) ∗ owesF c D ∗ (cellF c (insert (Ev.wR, p) D) (1, p) -∗ owesF c (insert (Ev.wR, p) D)
      -∗ xferPay W c (1, p) -∗ Inv W c (insert (Ev.wR, p) D))) : sProp 𝕄) := by
  unfold Inv
  rw [outR_other c D (by decide), outL_other c D (by decide), ownV_other W c D (by decide), slH_other W c D (by decide) (by decide) (by decide),
    slV_other W c D (by decide) (by decide), backR_other W c D (by decide), backL_other W c D (by decide), backC_other W c D (by decide)]
  iintro ⟨HC, HoR, HoL, HsR, Hown, HsH, HsV, HbR, HbL, HbC, HO⟩
  ihave HC := (swap (Φ' := cellF c (insert (Ev.wR, p) D)) (1, p) fun y hy => cellF_wait c D (1, p) y hy) $$ HC
  icases HC with ⟨HC, HCk⟩
  ihave HsR := (swap (Φ' := slR W c (insert (Ev.wR, p) D)) (p.1.succ, p.2) fun y hy => by
    have e1 : goneR (insert (Ev.wR, p) D) y = goneR D y := goneR_other D (by decide)
    have e2 : hasR (insert (Ev.wR, p) D) y = hasR D y := by
      refine propext (forall_congr' fun i => forall_congr' fun hi => mem_other D fun he => hy ?_)
      have := (Prod.mk.inj he).2
      have h1 : i = p.1 := (Prod.mk.inj this).1
      exact Prod.ext (Fin.ext (by rw [← hi, h1]; rfl)) (Prod.mk.inj this).2
    unfold slR; rw [e1, e2]) $$ HsR
  icases HsR with ⟨-, HsRk⟩
  isplitl [HC]; · iexact HC
  isplitl [HO]; · iexact HO
  iintro HC HO HP
  isplitl [HC HCk]; · iapply HCk $$ HC
  isplitl [HoR]; · iexact HoR
  isplitl [HoL]; · iexact HoL
  isplitl [HP HsRk]
  · iapply HsRk
    have hh : hasR (insert (Ev.wR, p) D) (p.1.succ, p.2) := by
      intro i hi
      have : i = p.1 := Fin.ext (by have : i.val + 1 = p.1.val + 1 := hi; omega)
      rw [this]; exact Set.mem_insert _ _
    have hg : ¬ goneR (insert (Ev.wR, p) D) (p.1.succ, p.2) := by
      rintro ⟨i, hi, hm⟩
      exact hs i hi ((mem_ev D (by decide)).mp hm)
    unfold slR; rw [if_pos hh, if_neg hg]
    ihave HP := (Entails.of_eq (show xferPay W c (1, p) = _ from ptR_halves c (lft c (p.1.val + 1)) p.2 (GR W))) $$ HP
    iexact HP
  isplitl [Hown]; · iexact Hown
  isplitl [HsH]; · iexact HsH
  isplitl [HsV]; · iexact HsV
  isplitl [HbR]; · iexact HbR
  isplitl [HbL]; · iexact HbL
  isplitl [HbC]; · iexact HbC
  iexact HO

/-- A slot has arrived from the right. -/
theorem take_wL (h : (Ev.wL, p) ∉ D) (hs : ∀ i : Fin 31, i.val = p.1.val + 1 → (Ev.sL, (i, p.2)) ∉ D) (hc : (Ev.cL, p) ∉ D) :
    Inv W c D ⊢ (iprop(cellF c D (3, p) ∗ owesF c D ∗ (cellF c (insert (Ev.wL, p) D) (3, p) -∗ owesF c (insert (Ev.wL, p) D)
      -∗ xferPay W c (3, p) -∗ Inv W c (insert (Ev.wL, p) D))) : sProp 𝕄) := by
  unfold Inv
  rw [outR_other c D (by decide), outL_other c D (by decide), ownV_other W c D (by decide), slR_other W c D (by decide) (by decide),
    slV_other W c D (by decide) (by decide), backR_other W c D (by decide), backL_other W c D (by decide), backC_other W c D (by decide)]
  iintro ⟨HC, HoR, HoL, HsR, Hown, HsH, HsV, HbR, HbL, HbC, HO⟩
  ihave HC := (swap (Φ' := cellF c (insert (Ev.wL, p) D)) (3, p) fun y hy => cellF_wait c D (3, p) y hy) $$ HC
  icases HC with ⟨HC, HCk⟩
  ihave HsH := (swap (Φ' := slH W c (insert (Ev.wL, p) D)) p fun y hy => by
    have e1 : goneH (insert (Ev.wL, p) D) y = goneH D y := goneH_other D (by decide)
    unfold slH; rw [e1, mem_ev (e' := .cL) D (by decide), mem_other (e' := .wL) D fun he => hy (Prod.mk.inj he).2]) $$ HsH
  icases HsH with ⟨-, HsHk⟩
  isplitl [HC]; · iexact HC
  isplitl [HO]; · iexact HO
  iintro HC HO HP
  isplitl [HC HCk]; · iapply HCk $$ HC
  isplitl [HoR]; · iexact HoR
  isplitl [HoL]; · iexact HoL
  isplitl [HsR]; · iexact HsR
  isplitl [Hown]; · iexact Hown
  isplitl [HP HsHk]
  · iapply HsHk
    have hg : ¬ goneH (insert (Ev.wL, p) D) p := by
      rintro ⟨i, hi, hm⟩
      exact hs i hi ((mem_ev D (by decide)).mp hm)
    unfold slH; rw [if_pos (Set.mem_insert _ _), if_neg hg, mem_ev (e' := .cL) D (by decide), if_neg hc]
    ihave HP := (Entails.of_eq (show xferPay W c (3, p) = _ from ptH_halves c (rgt c (p.1.val + 1)) p.2 (GL W))) $$ HP
    iexact HP
  isplitl [HsV]; · iexact HsV
  isplitl [HbR]; · iexact HbR
  isplitl [HbL]; · iexact HbL
  isplitl [HbC]; · iexact HbC
  iexact HO

/-- A sending to the right is over. -/
theorem take_fR :
    Inv W c D ⊢ (iprop(cellF c D (0, p) ∗ owesF c D ∗ (cellF c (insert (Ev.fR, p) D) (0, p) -∗ owesF c (insert (Ev.fR, p) D)
      -∗ xferPay W c (0, p) -∗ Inv W c (insert (Ev.fR, p) D))) : sProp 𝕄) := by
  unfold Inv
  rw [outR_other c D (by decide), outL_other c D (by decide), ownV_other W c D (by decide), slR_other W c D (by decide) (by decide),
    slH_other W c D (by decide) (by decide) (by decide),
    slV_other W c D (by decide) (by decide), backL_other W c D (by decide), backC_other W c D (by decide)]
  iintro ⟨HC, HoR, HoL, HsR, Hown, HsH, HsV, HbR, HbL, HbC, HO⟩
  ihave HC := (swap (Φ' := cellF c (insert (Ev.fR, p) D)) (0, p) fun y hy => cellF_wait c D (0, p) y hy) $$ HC
  icases HC with ⟨HC, HCk⟩
  ihave HbR := (swap (Φ' := backR W c (insert (Ev.fR, p) D)) p fun y hy => by
    unfold backR; rw [mem_other D fun he => hy (Prod.mk.inj he).2]) $$ HbR
  icases HbR with ⟨-, HbRk⟩
  isplitl [HC]; · iexact HC
  isplitl [HO]; · iexact HO
  iintro HC HO HP
  isplitl [HC HCk]; · iapply HCk $$ HC
  isplitl [HoR]; · iexact HoR
  isplitl [HoL]; · iexact HoL
  isplitl [HsR]; · iexact HsR
  isplitl [Hown]; · iexact Hown
  isplitl [HsH]; · iexact HsH
  isplitl [HsV]; · iexact HsV
  isplitl [HP HbRk]
  · iapply HbRk
    unfold backR; rw [if_pos (Set.mem_insert _ _)]
    iexact HP
  isplitl [HbL]; · iexact HbL
  isplitl [HbC]; · iexact HbC
  iexact HO

/-- A sending to the left is over. -/
theorem take_fL :
    Inv W c D ⊢ (iprop(cellF c D (2, p) ∗ owesF c D ∗ (cellF c (insert (Ev.fL, p) D) (2, p) -∗ owesF c (insert (Ev.fL, p) D)
      -∗ xferPay W c (2, p) -∗ Inv W c (insert (Ev.fL, p) D))) : sProp 𝕄) := by
  unfold Inv
  rw [outR_other c D (by decide), outL_other c D (by decide), ownV_other W c D (by decide), slR_other W c D (by decide) (by decide),
    slH_other W c D (by decide) (by decide) (by decide),
    slV_other W c D (by decide) (by decide), backR_other W c D (by decide), backC_other W c D (by decide)]
  iintro ⟨HC, HoR, HoL, HsR, Hown, HsH, HsV, HbR, HbL, HbC, HO⟩
  ihave HC := (swap (Φ' := cellF c (insert (Ev.fL, p) D)) (2, p) fun y hy => cellF_wait c D (2, p) y hy) $$ HC
  icases HC with ⟨HC, HCk⟩
  ihave HbL := (swap (Φ' := backL W c (insert (Ev.fL, p) D)) p fun y hy => by
    unfold backL; rw [mem_other D fun he => hy (Prod.mk.inj he).2]) $$ HbL
  icases HbL with ⟨-, HbLk⟩
  isplitl [HC]; · iexact HC
  isplitl [HO]; · iexact HO
  iintro HC HO HP
  isplitl [HC HCk]; · iapply HCk $$ HC
  isplitl [HoR]; · iexact HoR
  isplitl [HoL]; · iexact HoL
  isplitl [HsR]; · iexact HsR
  isplitl [Hown]; · iexact Hown
  isplitl [HsH]; · iexact HsH
  isplitl [HsV]; · iexact HsV
  isplitl [HbR]; · iexact HbR
  isplitl [HP HbLk]
  · iapply HbLk
    unfold backL; rw [if_pos (Set.mem_insert _ _)]
    iexact HP
  isplitl [HbC]; · iexact HbC
  iexact HO

/-- A copy to the compute unit's memory is over. -/
theorem take_dL :
    Inv W c D ⊢ (iprop(cellF c D (4, p) ∗ owesF c D ∗ (cellF c (insert (Ev.dL, p) D) (4, p) -∗ owesF c (insert (Ev.dL, p) D)
      -∗ xferPay W c (4, p) -∗ Inv W c (insert (Ev.dL, p) D))) : sProp 𝕄) := by
  unfold Inv
  rw [outR_other c D (by decide), outL_other c D (by decide), ownV_other W c D (by decide), slR_other W c D (by decide) (by decide),
    slH_other W c D (by decide) (by decide) (by decide), backR_other W c D (by decide), backL_other W c D (by decide)]
  iintro ⟨HC, HoR, HoL, HsR, Hown, HsH, HsV, HbR, HbL, HbC, HO⟩
  ihave HC := (swap (Φ' := cellF c (insert (Ev.dL, p) D)) (4, p) fun y hy => cellF_wait c D (4, p) y hy) $$ HC
  icases HC with ⟨HC, HCk⟩
  ihave HsV := (swap (Φ' := slV W c (insert (Ev.dL, p) D)) p fun y hy => by
    unfold slV; rw [mem_ev (e' := .cL) D (by decide), mem_other D fun he => hy (Prod.mk.inj he).2]) $$ HsV
  icases HsV with ⟨-, HsVk⟩
  ihave HbC := (swap (Φ' := backC W c (insert (Ev.dL, p) D)) p fun y hy => by
    unfold backC; rw [mem_other D fun he => hy (Prod.mk.inj he).2]) $$ HbC
  icases HbC with ⟨-, HbCk⟩
  isplitl [HC]; · iexact HC
  isplitl [HO]; · iexact HO
  iintro HC HO HP
  ihave HP := (Entails.of_eq (show xferPay W c (4, p) = iprop(ptV c (rgt c (p.1.val + 1)) p.2 fullShare (GL W) ∗ ptH c (rgt c (p.1.val + 1)) p.2 fullShare.right (GL W)) from rfl)) $$ HP
  icases HP with ⟨HPV, HPH⟩
  isplitl [HC HCk]; · iapply HCk $$ HC
  isplitl [HoR]; · iexact HoR
  isplitl [HoL]; · iexact HoL
  isplitl [HsR]; · iexact HsR
  isplitl [Hown]; · iexact Hown
  isplitl [HsH]; · iexact HsH
  isplitl [HPV HsVk]
  · iapply HsVk
    unfold slV; rw [if_pos (Set.mem_insert _ _)]
    iexact HPV
  isplitl [HbR]; · iexact HbR
  isplitl [HbL]; · iexact HbL
  isplitl [HPH HbCk]
  · iapply HbCk
    unfold backC; rw [if_pos (Set.mem_insert _ _)]
    iexact HPH
  iexact HO

/-- Any wait: its cell goes a round further, and what it hands over goes where it belongs. -/
theorem take_wait (x : XCell) (h : ¬ waited D x)
    (hr : x.1 = 1 → ∀ i : Fin 31, i.val = x.2.1.val + 1 → (Ev.sR, (i, x.2.2)) ∉ D)
    (hl : x.1 = 3 → (∀ i : Fin 31, i.val = x.2.1.val + 1 → (Ev.sL, (i, x.2.2)) ∉ D) ∧ (Ev.cL, x.2) ∉ D) :
    Inv W c D ⊢ (iprop(cellF c D x ∗ owesF c D ∗ (cellF c (insert (waitEv x.1, x.2) D) x -∗ owesF c (insert (waitEv x.1, x.2) D)
      -∗ xferPay W c x -∗ Inv W c (insert (waitEv x.1, x.2) D))) : sProp 𝕄) := by
  obtain ⟨a, p⟩ := x
  fin_cases a
  · exact take_fR W c D p
  · exact take_wR W c D p h (hr rfl)
  · exact take_fL W c D p
  · exact take_wL W c D p h (hl rfl).1 (hl rfl).2
  · exact take_dL W c D p

/-! ## Sends -/

/-- Sending to the right takes the left half of the slot and the neighbour's slot. -/
theorem take_sR (h : (Ev.sR, p) ∉ D) (hw : hasR D (p.1.castSucc, p.2)) :
    Inv W c D ⊢ (iprop(cellF c D (0, p) ∗ outR c D p ∗ owesF c D ∗ ptR c (lft c p.1.val) p.2 fullShare.left (GR W)
      ∗ (cellF c (insert (Ev.sR, p) D) (0, p) -∗ owesF c (insert (Ev.sR, p) D) -∗ Inv W c (insert (Ev.sR, p) D))) : sProp 𝕄) := by
  unfold Inv
  rw [outL_other c D (by decide), ownV_other W c D (by decide), slH_other W c D (by decide) (by decide) (by decide),
    slV_other W c D (by decide) (by decide), backR_other W c D (by decide), backL_other W c D (by decide), backC_other W c D (by decide)]
  iintro ⟨HC, HoR, HoL, HsR, Hown, HsH, HsV, HbR, HbL, HbC, HO⟩
  ihave HC := (swap (0, p) fun y hy => cellF_issue c D (0, p) y (e := Ev.sR) rfl hy) $$ HC
  icases HC with ⟨HC, HCk⟩
  ihave HoR := (swap (Φ' := outR c (insert (Ev.sR, p) D)) p fun y hy => by
    unfold outR; rw [mem_other D fun he => hy (Prod.mk.inj he).2]) $$ HoR
  icases HoR with ⟨HoR, HoRk⟩
  ihave HsR := (swap (Φ' := slR W c (insert (Ev.sR, p) D)) (p.1.castSucc, p.2) fun y hy => by
    have e1 : hasR (insert (Ev.sR, p) D) y = hasR D y := hasR_other D (by decide)
    have e2 : goneR (insert (Ev.sR, p) D) y = goneR D y := by
      refine propext (exists_congr fun i => and_congr_right fun hi => mem_other D fun he => hy ?_)
      have := (Prod.mk.inj he).2
      have h1 : i = p.1 := (Prod.mk.inj this).1
      exact Prod.ext (Fin.ext (by rw [← hi, h1]; rfl)) (Prod.mk.inj this).2
    unfold slR; rw [e1, e2]) $$ HsR
  icases HsR with ⟨HsR, HsRk⟩
  have hg : ¬ goneR D (p.1.castSucc, p.2) := by
    rintro ⟨i, hi, hm⟩
    have : i = p.1 := Fin.ext hi
    rw [this] at hm; exact h hm
  have hg' : goneR (insert (Ev.sR, p) D) (p.1.castSucc, p.2) := ⟨p.1, rfl, Set.mem_insert _ _⟩
  have hw' : hasR (insert (Ev.sR, p) D) (p.1.castSucc, p.2) := by rw [hasR_other D (by decide)]; exact hw
  ihave HsR := (Entails.of_eq (show slR W c D (p.1.castSucc, p.2)
      = iprop(ptR c (lft c p.1.val) p.2 fullShare.left (GR W) ∗ ptR c (lft c p.1.val) p.2 fullShare.right (GR W)) by
    unfold slR; rw [if_pos hw, if_neg hg]; rfl)) $$ HsR
  icases HsR with ⟨HsRl, HsRr⟩
  isplitl [HC]; · iexact HC
  isplitl [HoR]; · iexact HoR
  isplitl [HO]; · iexact HO
  isplitl [HsRl]; · iexact HsRl
  iintro HC HO
  isplitl [HC HCk]; · iapply HCk $$ HC
  isplitl [HoRk]
  · iapply HoRk
    unfold outR; rw [if_pos (Set.mem_insert _ _)]
    iempintro
  isplitl [HoL]; · iexact HoL
  isplitl [HsRr HsRk]
  · iapply HsRk
    unfold slR; rw [if_pos hw', if_pos hg']
    isplitr; · iempintro
    iexact HsRr
  isplitl [Hown]; · iexact Hown
  isplitl [HsH]; · iexact HsH
  isplitl [HsV]; · iexact HsV
  isplitl [HbR]; · iexact HbR
  isplitl [HbL]; · iexact HbL
  isplitl [HbC]; · iexact HbC
  iexact HO

/-- Sending the own weights to the left. -/
theorem take_sL0 (k : Fin 2) (h : (Ev.sL, ((0 : Fin 31), k)) ∉ D) :
    Inv W c D ⊢ (iprop(cellF c D (2, 0, k) ∗ outL c D (0, k) ∗ owesF c D ∗ ptV c (rgt c 0) k fullShare.left (GL W)
      ∗ (cellF c (insert (Ev.sL, ((0 : Fin 31), k)) D) (2, 0, k) -∗ owesF c (insert (Ev.sL, ((0 : Fin 31), k)) D)
        -∗ Inv W c (insert (Ev.sL, ((0 : Fin 31), k)) D))) : sProp 𝕄) := by
  unfold Inv
  rw [outR_other c D (by decide), slR_other W c D (by decide) (by decide),
    slV_other W c D (by decide) (by decide), backR_other W c D (by decide), backL_other W c D (by decide), backC_other W c D (by decide)]
  iintro ⟨HC, HoR, HoL, HsR, Hown, HsH, HsV, HbR, HbL, HbC, HO⟩
  ihave HC := (swap (2, 0, k) fun y hy => cellF_issue c D (2, 0, k) y (e := Ev.sL) rfl hy) $$ HC
  icases HC with ⟨HC, HCk⟩
  ihave HoL := (swap (Φ' := outL c (insert (Ev.sL, ((0 : Fin 31), k)) D)) (0, k) fun y hy => by
    unfold outL; rw [mem_other D fun he => hy (Prod.mk.inj he).2]) $$ HoL
  icases HoL with ⟨HoL, HoLk⟩
  ihave Hown := (swap (Φ' := ownV W c (insert (Ev.sL, ((0 : Fin 31), k)) D)) k fun y hy => by
    unfold ownV; rw [mem_other D fun he => hy (Prod.mk.inj (Prod.mk.inj he).2).2]) $$ Hown
  icases Hown with ⟨Hown, Hownk⟩
  ihave Hown := (Entails.of_eq (show ownV W c D k
      = iprop(ptV c (rgt c 0) k fullShare.left (GL W) ∗ ptV c (rgt c 0) k fullShare.right (GL W)) by
    unfold ownV; rw [if_neg h])) $$ Hown
  icases Hown with ⟨Hl, Hr⟩
  ihave HsH := (Entails.of_eq (congrArg (bigSep Finset.univ) (show slH W c D = slH W c (insert (Ev.sL, ((0 : Fin 31), k)) D) by
    funext y
    have e1 : goneH (insert (Ev.sL, ((0 : Fin 31), k)) D) y = goneH D y := by
      refine propext (exists_congr fun i => and_congr_right fun hi => mem_other D fun he => ?_)
      have h0 : i.val = 0 := congrArg Fin.val (Prod.mk.inj (Prod.mk.inj he).2).1
      omega
    unfold slH; rw [e1, mem_ev (e' := .wL) D (by decide), mem_ev (e' := .cL) D (by decide)]))) $$ HsH
  isplitl [HC]; · iexact HC
  isplitl [HoL]; · iexact HoL
  isplitl [HO]; · iexact HO
  isplitl [Hl]; · iexact Hl
  iintro HC HO
  isplitl [HC HCk]; · iapply HCk $$ HC
  isplitl [HoR]; · iexact HoR
  isplitl [HoLk]
  · iapply HoLk
    unfold outL; rw [if_pos (Set.mem_insert _ _)]
    iempintro
  isplitl [HsR]; · iexact HsR
  isplitl [Hr Hownk]
  · iapply Hownk
    unfold ownV; rw [if_pos (Set.mem_insert _ _)]
    isplitr; · iempintro
    iexact Hr
  isplitl [HsH]; · iexact HsH
  isplitl [HsV]; · iexact HsV
  isplitl [HbR]; · iexact HbR
  isplitl [HbL]; · iexact HbL
  isplitl [HbC]; · iexact HbC
  iexact HO

/-- Sending on to the left what has arrived from the right one hop before. -/
theorem take_sL (j : Fin 31) (hj : p.1.val = j.val + 1) (h : (Ev.sL, p) ∉ D) (hw : (Ev.wL, (j, p.2)) ∈ D) :
    Inv W c D ⊢ (iprop(cellF c D (2, p) ∗ outL c D p ∗ owesF c D ∗ ptH c (rgt c p.1.val) p.2 fullShare.left (GL W)
      ∗ (cellF c (insert (Ev.sL, p) D) (2, p) -∗ owesF c (insert (Ev.sL, p) D) -∗ Inv W c (insert (Ev.sL, p) D))) : sProp 𝕄) := by
  unfold Inv
  rw [outR_other c D (by decide), slR_other W c D (by decide) (by decide),
    slV_other W c D (by decide) (by decide), backR_other W c D (by decide), backL_other W c D (by decide), backC_other W c D (by decide)]
  iintro ⟨HC, HoR, HoL, HsR, Hown, HsH, HsV, HbR, HbL, HbC, HO⟩
  ihave HC := (swap (2, p) fun y hy => cellF_issue c D (2, p) y (e := Ev.sL) rfl hy) $$ HC
  icases HC with ⟨HC, HCk⟩
  ihave HoL := (swap (Φ' := outL c (insert (Ev.sL, p) D)) p fun y hy => by
    unfold outL; rw [mem_other D fun he => hy (Prod.mk.inj he).2]) $$ HoL
  icases HoL with ⟨HoL, HoLk⟩
  ihave Hown := (Entails.of_eq (congrArg (bigSep Finset.univ) (show ownV W c D = ownV W c (insert (Ev.sL, p) D) by
    funext y
    unfold ownV; rw [mem_other (e' := .sL) D fun he => ?_]
    have h0 : 0 = p.1.val := congrArg Fin.val (Prod.mk.inj (Prod.mk.inj he).2).1
    omega))) $$ Hown
  ihave HsH := (swap (Φ' := slH W c (insert (Ev.sL, p) D)) (j, p.2) fun y hy => by
    have e1 : goneH (insert (Ev.sL, p) D) y = goneH D y := by
      refine propext (exists_congr fun i => and_congr_right fun hi => mem_other D fun he => hy ?_)
      have := (Prod.mk.inj he).2
      have h1 : i = p.1 := (Prod.mk.inj this).1
      exact Prod.ext (Fin.ext (show y.1.val = j.val by have := congrArg Fin.val h1; omega)) (Prod.mk.inj this).2
    unfold slH; rw [e1, mem_ev (e' := .wL) D (by decide), mem_ev (e' := .cL) D (by decide)]) $$ HsH
  icases HsH with ⟨HsH, HsHk⟩
  have hg : ¬ goneH D (j, p.2) := by
    rintro ⟨i, hi, hm⟩
    have : i = p.1 := Fin.ext (hi.trans hj.symm)
    rw [this] at hm; exact h hm
  have hg' : goneH (insert (Ev.sL, p) D) (j, p.2) := ⟨p.1, hj, Set.mem_insert _ _⟩
  ihave HsH := (Entails.of_eq (show slH W c D (j, p.2)
      = iprop(ptH c (rgt c p.1.val) p.2 fullShare.left (GL W)
        ∗ (open Classical in if (Ev.cL, (j, p.2)) ∈ D then iprop(emp) else ptH c (rgt c (j.val + 1)) p.2 fullShare.right (GL W))) by
    unfold slH; rw [if_pos hw, if_neg hg, hj])) $$ HsH
  icases HsH with ⟨Hl, Hr⟩
  isplitl [HC]; · iexact HC
  isplitl [HoL]; · iexact HoL
  isplitl [HO]; · iexact HO
  isplitl [Hl]; · iexact Hl
  iintro HC HO
  isplitl [HC HCk]; · iapply HCk $$ HC
  isplitl [HoR]; · iexact HoR
  isplitl [HoLk]
  · iapply HoLk
    unfold outL; rw [if_pos (Set.mem_insert _ _)]
    iempintro
  isplitl [HsR]; · iexact HsR
  isplitl [Hown]; · iexact Hown
  isplitl [Hr HsHk]
  · iapply HsHk
    unfold slH; rw [mem_ev (e' := .wL) D (by decide), mem_ev (e' := .cL) D (by decide), if_pos hw, if_pos hg']
    isplitr; · iempintro
    iexact Hr
  isplitl [HsV]; · iexact HsV
  isplitl [HbR]; · iexact HbR
  isplitl [HbL]; · iexact HbL
  isplitl [HbC]; · iexact HbC
  iexact HO

/-! ## Copies and uses -/

/-- Copying an arrived slot next to the compute unit. -/
theorem take_cL (h : (Ev.cL, p) ∉ D) (hd : (Ev.dL, p) ∉ D) (hw : (Ev.wL, p) ∈ D) :
    Inv W c D ⊢ (iprop(cellF c D (4, p) ∗ ptH c (rgt c (p.1.val + 1)) p.2 fullShare.right (GL W)
      ∗ (∃ f, ptV c (rgt c (p.1.val + 1)) p.2 fullShare f)
      ∗ (cellF c (insert (Ev.cL, p) D) (4, p) -∗ Inv W c (insert (Ev.cL, p) D))) : sProp 𝕄) := by
  unfold Inv
  rw [outR_other c D (by decide), outL_other c D (by decide), ownV_other W c D (by decide), slR_other W c D (by decide) (by decide),
    backR_other W c D (by decide), backL_other W c D (by decide), backC_other W c D (by decide), owesF_other c D (by decide) (by decide)]
  iintro ⟨HC, HoR, HoL, HsR, Hown, HsH, HsV, HbR, HbL, HbC, HO⟩
  ihave HC := (swap (4, p) fun y hy => cellF_issue c D (4, p) y (e := Ev.cL) rfl hy) $$ HC
  icases HC with ⟨HC, HCk⟩
  ihave HsH := (swap (Φ' := slH W c (insert (Ev.cL, p) D)) p fun y hy => by
    have e1 : goneH (insert (Ev.cL, p) D) y = goneH D y := goneH_other D (by decide)
    unfold slH; rw [e1, mem_ev (e' := .wL) D (by decide), mem_other (e' := .cL) D fun he => hy (Prod.mk.inj he).2]) $$ HsH
  icases HsH with ⟨HsH, HsHk⟩
  ihave HsH := (Entails.of_eq (show slH W c D p
      = iprop((open Classical in if goneH D p then iprop(emp) else ptH c (rgt c (p.1.val + 1)) p.2 fullShare.left (GL W))
        ∗ ptH c (rgt c (p.1.val + 1)) p.2 fullShare.right (GL W)) by
    unfold slH; rw [if_pos hw, if_neg h])) $$ HsH
  icases HsH with ⟨Hl, Hr⟩
  ihave HsV := (swap (Φ' := slV W c (insert (Ev.cL, p) D)) p fun y hy => by
    unfold slV; rw [mem_ev (e' := .dL) D (by decide), mem_other (e' := .cL) D fun he => hy (Prod.mk.inj he).2]) $$ HsV
  icases HsV with ⟨HsV, HsVk⟩
  ihave HsV := (Entails.of_eq (show slV W c D p = iprop(∃ f, ptV c (rgt c (p.1.val + 1)) p.2 fullShare f) by
    unfold slV; rw [if_neg hd, if_neg h])) $$ HsV
  isplitl [HC]; · iexact HC
  isplitl [Hr]; · iexact Hr
  isplitl [HsV]; · iexact HsV
  iintro HC
  isplitl [HC HCk]; · iapply HCk $$ HC
  isplitl [HoR]; · iexact HoR
  isplitl [HoL]; · iexact HoL
  isplitl [HsR]; · iexact HsR
  isplitl [Hown]; · iexact Hown
  isplitl [Hl HsHk]
  · iapply HsHk
    have e1 : goneH (insert (Ev.cL, p) D) p = goneH D p := goneH_other D (by decide)
    unfold slH; rw [mem_ev (e' := .wL) D (by decide), e1, if_pos hw, if_pos (Set.mem_insert _ _)]
    isplitl [Hl]; · iexact Hl
    iempintro
  isplitl [HsVk]
  · iapply HsVk
    unfold slV; rw [mem_ev (e' := .dL) D (by decide), if_neg hd, if_pos (Set.mem_insert _ _)]
    iempintro
  isplitl [HbR]; · iexact HbR
  isplitl [HbL]; · iexact HbL
  isplitl [HbC]; · iexact HbC
  iexact HO

/-- Reading a slot that came from the left; one that came from the right; the device's own. -/
theorem read_R (q : Fin 32 × Fin 2) (hw : hasR D q) :
    Inv W c D ⊢ (iprop(ptR c (lft c q.1.val) q.2 fullShare.right (GR W) ∗ (ptR c (lft c q.1.val) q.2 fullShare.right (GR W) -∗ Inv W c D)) : sProp 𝕄) := by
  unfold Inv
  iintro ⟨HC, HoR, HoL, HsR, H⟩
  ihave HsR := (swap (Φ' := slR W c D) q fun y hy => rfl) $$ HsR
  icases HsR with ⟨HsR, HsRk⟩
  ihave HsR := (Entails.of_eq (show slR W c D q
      = iprop((open Classical in if goneR D q then iprop(emp) else ptR c (lft c q.1.val) q.2 fullShare.left (GR W)) ∗ ptR c (lft c q.1.val) q.2 fullShare.right (GR W)) by
    unfold slR; rw [if_pos hw])) $$ HsR
  icases HsR with ⟨Hl, Hr⟩
  isplitl [Hr]; · iexact Hr
  iintro Hr
  isplitl [HC]; · iexact HC
  isplitl [HoR]; · iexact HoR
  isplitl [HoL]; · iexact HoL
  isplitl [Hl Hr HsRk]
  · iapply HsRk
    unfold slR; rw [if_pos hw]
    isplitl [Hl]; · iexact Hl
    iexact Hr
  iexact H

theorem read_V (hd : (Ev.dL, p) ∈ D) :
    Inv W c D ⊢ (iprop(ptV c (rgt c (p.1.val + 1)) p.2 fullShare (GL W) ∗ (ptV c (rgt c (p.1.val + 1)) p.2 fullShare (GL W) -∗ Inv W c D)) : sProp 𝕄) := by
  unfold Inv
  iintro ⟨HC, HoR, HoL, HsR, Hown, HsH, HsV, H⟩
  ihave HsV := (swap (Φ' := slV W c D) p fun y hy => rfl) $$ HsV
  icases HsV with ⟨HsV, HsVk⟩
  ihave HsV := (Entails.of_eq (show slV W c D p = ptV c (rgt c (p.1.val + 1)) p.2 fullShare (GL W) by
    unfold slV; rw [if_pos hd])) $$ HsV
  isplitl [HsV]; · iexact HsV
  iintro Hr
  isplitl [HC]; · iexact HC
  isplitl [HoR]; · iexact HoR
  isplitl [HoL]; · iexact HoL
  isplitl [HsR]; · iexact HsR
  isplitl [Hown]; · iexact Hown
  isplitl [HsH]; · iexact HsH
  isplitl [Hr HsVk]
  · iapply HsVk
    unfold slV; rw [if_pos hd]
    iexact Hr
  iexact H

theorem read_own (k : Fin 2) :
    Inv W c D ⊢ (iprop(ptV c (rgt c 0) k fullShare.right (GL W) ∗ (ptV c (rgt c 0) k fullShare.right (GL W) -∗ Inv W c D)) : sProp 𝕄) := by
  unfold Inv
  iintro ⟨HC, HoR, HoL, HsR, Hown, H⟩
  ihave Hown := (swap (Φ' := ownV W c D) k fun y hy => rfl) $$ Hown
  icases Hown with ⟨Hown, Hownk⟩
  ihave Hown := (Entails.of_eq (show ownV W c D k = iprop((open Classical in if (Ev.sL, ((0 : Fin 31), k)) ∈ D then iprop(emp) else ptV c (rgt c 0) k fullShare.left (GL W)) ∗ ptV c (rgt c 0) k fullShare.right (GL W)) from rfl)) $$ Hown
  icases Hown with ⟨Hl, Hr⟩
  isplitl [Hr]; · iexact Hr
  iintro Hr
  isplitl [HC]; · iexact HC
  isplitl [HoR]; · iexact HoR
  isplitl [HoL]; · iexact HoL
  isplitl [HsR]; · iexact HsR
  isplitl [Hl Hr Hownk]
  · iapply Hownk
    unfold ownV
    isplitl [Hl]; · iexact Hl
    iexact Hr
  iexact H

end Take

end Cert.KernelIdeal

end

end
-- ==== Proof.Moves.lean ====
module
public import proofs.«01_k».proof.Proof.Take
public import proofs.«01_k».proof.Proof.Steps
@[expose] public section

/-! # What each wait, send and copy does to a device's state -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

local notation "𝕄" => MT nD τ sig Unit (Elt F) ℕ UU ℕ

abbrev 𝒱₀ : Variants := Variants.none

section Moves
variable (W : Dev nD → Vec F S4x256x512 .bf16) (K : Dev nD × DCell → ℕ) (c : Dev nD) (D : Done)

/-! ## What everyone knows -/

/-- Every cell's invariant, that it is at its first round, and the levels. -/
def recs : sProp 𝕄 :=
  iprop((bigSep Finset.univ fun p : Dev nD × DCell => iprop(cellInv ER (ringRd W) (K p) (gcell p) ∗ reached ER (gcell p) 0)) ∗ levAts L lv)

instance recs_persistent : BI.Persistent (recs W K : sProp 𝕄) := by unfold recs; infer_instance

theorem inv_at (p : Dev nD × DCell) : recs W K ⊢ (cellInv ER (ringRd W) (K p) (gcell p) : sProp 𝕄) := by
  unfold recs
  rw [bigSep_univ_at _ p]
  iintro ⟨⟨⟨H, -⟩, -⟩, -⟩; iexact H
theorem reached_at (p : Dev nD × DCell) : recs W K ⊢ (reached ER (gcell p) 0 : sProp 𝕄) := by
  unfold recs
  rw [bigSep_univ_at _ p]
  iintro ⟨⟨⟨-, H⟩, -⟩, -⟩; iexact H
theorem recs_levs : recs W K ⊢ (levAts L lv : sProp 𝕄) := by
  unfold recs
  iintro ⟨-, H⟩; iexact H

/-! ## The order of the waits -/

theorem due_pos {g : GSem nD τ sig} {u : Unit} (h : 0 < due c D g u) :
    ∃ p : Pt, ((Ev.sR, p) ∉ D ∧ g = gcell (rgt c 1, some (1, p))) ∨ ((Ev.sL, p) ∉ D ∧ g = gcell (lft c 1, some (3, p))) := by
  unfold due at h
  rw [Pi.add_apply, Finsupp.add_apply, Finset.sum_apply, Finset.sum_apply, Finsupp.finset_sum_apply, Finsupp.finset_sum_apply] at h
  by_contra hn
  rw [not_exists] at hn
  have hR : ∑ p, dueR c D p g u = 0 := Finset.sum_eq_zero fun p _ => by
    unfold dueR
    split_ifs with hp
    · rfl
    · rw [tallyAt_apply, if_neg fun h' => (hn p) (Or.inl ⟨hp, h'.1⟩)]
  have hL : ∑ p, dueL c D p g u = 0 := Finset.sum_eq_zero fun p _ => by
    unfold dueL
    split_ifs with hp
    · rfl
    · rw [tallyAt_apply, if_neg fun h' => (hn p) (Or.inr ⟨hp, h'.1⟩)]
  rw [hR, hL] at h
  exact Nat.lt_irrefl 0 h

/-- A wait is allowed when everything still to be sent arrives at a higher level. -/
theorem mayWait (x : DCell) (h : ∀ p : Pt, (Ev.sR, p) ∉ D ∨ (Ev.sL, p) ∉ D → lvOf (some (c, x)) < p.1.val + 2) :
    (levAts L lv : sProp 𝕄) ⊢ MayWait (c : Thread nD τ) (csem x) () (due c D) := by
  refine MayOwe.of_cut (L := L) (lev := lv) (lvOf (some (c, x)))
    (fun p hp => by rw [Finset.mem_singleton.mp hp, L_tc]; exact Finset.mem_singleton_self _)
    (fun g u hg => by obtain ⟨p, ⟨-, rfl⟩ | ⟨-, rfl⟩⟩ := due_pos c D hg <;> exact Finset.mem_singleton_self _)
    (fun p hp => by rw [Finset.mem_singleton.mp hp]; exact le_of_eq (lv_gcell (c, x) ()))
    (fun g u hg => by
      obtain ⟨p, ⟨hp, rfl⟩ | ⟨hp, rfl⟩⟩ := due_pos c D hg
      · rw [lv_gcell]; exact h p (Or.inl hp)
      · rw [lv_gcell]; exact h p (Or.inr hp))

/-! ## The waits -/

section Wait
variable {Q : PUnit.{1} → sProp (MT nD τ sig Unit (Elt F) ℕ UU ℕ)} {k : PUnit.{1} → P F PUnit}

theorem wp_wait (x : XCell) {sem : DmaSem sig} (hs : xsem x = .dma sem) {sp sp' : Space} {s s' : Shape} {e e' : EltTy}
    {src : Memref sig .tc sp' s' e'} {dst : Memref sig .tc sp s e}
    {hsrc : src.view.WordExact} {hdst : dst.view.WordExact} (hN : dst.view.dmaCredit = N)
    (hi : issued D x) (h : ¬ waited D x)
    (hr : x.1 = 1 → ∀ i : Fin 31, i.val = x.2.1.val + 1 → (Ev.sR, (i, x.2.2)) ∉ D)
    (hl : x.1 = 3 → (∀ i : Fin 31, i.val = x.2.1.val + 1 → (Ev.sL, (i, x.2.2)) ∉ D) ∧ (Ev.cL, x.2) ∉ D)
    (hlev : ∀ p : Pt, (Ev.sR, p) ∉ D ∨ (Ev.sL, p) ∉ D → lvOf (some (c, some x)) < p.1.val + 2) :
    iprop(recs W K ∗ Inv W c D)
      ⊢ (iprop((Inv W c (insert (waitEv x.1, x.2) D) -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 sem src dst hsrc hdst) k) Q) : sProp 𝕄) := by
  have hg : gcell (c, some x) = ((c : Thread nD τ), .dma sem) := congrArg (Prod.mk (c : Thread nD τ)) hs
  have hinv := inv_at W K (c, some x)
  have hrest := rest_xfer W c x
  have hexp := expect_xfer W c x
  have hmay : recs W K ⊢ (MayWait (c : Thread nD τ) (csem (some x)) () (due c D) : sProp 𝕄) := (@recs_levs F _ W K).trans (mayWait (F := F) c D (some x) hlev)
  have hC : (cellF c D x : sProp 𝕄)
      = iprop(atPos ER (gcell (c, some x)) 0 ∅ 0 ∗ cred (tallyAt (gcell (c, some x)) () N) ∗ emp) := by
    unfold cellF; rw [if_neg h, if_pos ⟨hi, h⟩, if_pos hi]
  have hC' : (cellF c (insert (waitEv x.1, x.2) D) x : sProp 𝕄)
      = iprop(atPos ER (gcell (c, some x)) (0 + 1) ∅ 0 ∗ emp ∗ emp) := by
    unfold cellF
    rw [if_pos (waited_wait D x), if_neg (fun h' => h'.2 (waited_wait D x)), if_pos ((issued_wait D x x).mpr hi)]
  rw [hg] at hinv hrest hexp hC hC'
  rw [← hN] at hC
  rw [show csem (some x) = .dma sem from hs] at hmay
  iintro ⟨#HR, HI⟩
  iintro Hk
  ihave HI := (take_wait W c D x h hr hl) $$ HI
  icases HI with ⟨HC, HO, Hback⟩
  ihave HC := (Entails.of_eq hC) $$ HC
  icases HC with ⟨Hat, Hcr, -⟩
  unfold owesF
  icases HO with ⟨%w, HO⟩
  rw [due_other c D (e := waitEv x.1) (p := x.2) (fun h' => issueEv_ne 0 x.1 (congrArg some h')) (fun h' => issueEv_ne 2 x.1 (congrArg some h'))]
  iapply (Rounds.wp_wait_rest_token 𝒱₀ ER (ringRd W) (c : Thread nD τ) none (κ := K (c, some x))
      (wpE_waitDma2_eq 𝒱₀ (c : Thread nD τ) none Set.univ) (Set.mem_univ _) () (O := due c D) (W := w) (R := 0) (m := 0) (T := ∅)
      (by rw [Nat.zero_add, hN]; exact hexp.symm)) $$ [Hcr HO Hat]
  · isplitr; · iapply hinv; iexact HR
    isplitl [Hcr]; · iexact Hcr
    isplitl [HO]; · iexact HO
    isplitr
    · iapply hmay; iexact HR
    iexact Hat
  iintro ⟨HO, Hat, -, Hpay⟩
  ihave Hp := (Entails.of_eq hrest) $$ Hpay
  iapply Hk
  iapply Hback $$ [Hat] [HO] Hp
  · iapply (Entails.of_eq hC'.symm)
    isplitl [Hat]; · iexact Hat
    isplitl; · iempintro
    iempintro
  · iexists _; iexact HO

end Wait

/-! ## The sends and the copy -/

theorem slotR_pt (c' : Dev nD) (g : Fin 31) (k : Fin 2) (q : PosShare TreeShare) (f : WBuf F) :
    (((slotR bufR c g k).view.loc (c' : Thread nD τ)) ↦[(slotR bufR c g k).view.set]{q} f : sProp 𝕄) = ptR c' (lft c g.val) k q f :=
  congrArg (fun S : Finset S64x256x512.Idx => (((c' : Thread nD τ).loc cc0_scratch0) ↦[S]{q} f : sProp 𝕄)) (setR c g k)
theorem slotH_pt (c' : Dev nD) (g : Fin 32) (k : Fin 2) (q : PosShare TreeShare) (f : WBuf F) :
    (((slotL bufH c g k).view.loc (c' : Thread nD τ)) ↦[(slotL bufH c g k).view.set]{q} f : sProp 𝕄) = ptH c' (rgt c g.val) k q f :=
  congrArg (fun S : Finset S64x256x512.Idx => (((c' : Thread nD τ).loc main_v1_1) ↦[S]{q} f : sProp 𝕄)) (setH c g k)
theorem slotV_pt (c' : Dev nD) (g : Fin 32) (k : Fin 2) (q : PosShare TreeShare) (f : WBuf F) :
    (((slotL bufV c g k).view.loc (c' : Thread nD τ)) ↦[(slotL bufV c g k).view.set]{q} f : sProp 𝕄) = ptV c' (rgt c g.val) k q f :=
  congrArg (fun S : Finset S64x256x512.Idx => (((c' : Thread nD τ).loc cc0_scratch1) ↦[S]{q} f : sProp 𝕄)) (setV c g k)

theorem creditR (g : Fin 31) (k : Fin 2) : (slotR bufR c g k).view.dmaCredit = N := rfl
theorem creditH (g : Fin 32) (k : Fin 2) : (slotL bufH c g k).view.dmaCredit = N := rfl
theorem creditV (g : Fin 32) (k : Fin 2) : (slotL bufV c g k).view.dmaCredit = N := rfl

theorem pay0 (i : Fin 31) (k : Fin 2) : xferPay W c (0, i, k) = ptR c (lft c i.val) k fullShare.left (GR W) := rfl
theorem pay1 (i : Fin 31) (k : Fin 2) : xferPay W c (1, i, k) = ptR c (lft c (i.val + 1)) k fullShare (GR W) := rfl
theorem pay2 (i : Fin 31) (k : Fin 2) : xferPay W c (2, i, k)
    = if i.val = 0 then ptV c (rgt c i.val) k fullShare.left (GL W) else ptH c (rgt c i.val) k fullShare.left (GL W) := rfl
theorem pay3 (i : Fin 31) (k : Fin 2) : xferPay W c (3, i, k) = ptH c (rgt c (i.val + 1)) k fullShare (GL W) := rfl
theorem pay4 (i : Fin 31) (k : Fin 2) : xferPay W c (4, i, k)
    = iprop(ptV c (rgt c (i.val + 1)) k fullShare (GL W) ∗ ptH c (rgt c (i.val + 1)) k fullShare.right (GL W)) := rfl

/-- A slot copied from a buffer with the right contents is what the transfer is to hand over. -/
theorem landR (g : Fin 31) (k : Fin 2) (fd : WBuf F) :
    (((slotR bufR c g k).view.loc (rgt c 1 : Thread nD τ)) ↦[(slotR bufR c g k).view.set]{fullShare}
      ((slotR bufR c g k).view.write (Elt F) fd ((slotR bufR c g k).view.read (Elt F) (GR W)) Finset.univ) : sProp 𝕄)
      ⊢ xferPay W (rgt c 1) (1, g, k) := by
  rw [slotR_pt c (rgt c 1) g k fullShare]
  rw [pay1, lft_rgt]
  unfold ptR
  exact Entails.of_eq (pointsTo_congr (copyRR c g k fd (GR W)))
theorem landL0 (k : Fin 2) (fd : WBuf F) :
    (((slotL bufH c 0 k).view.loc (lft c 1 : Thread nD τ)) ↦[(slotL bufH c 0 k).view.set]{fullShare}
      ((slotL bufH c 0 k).view.write (Elt F) fd ((slotL bufV c 0 k).view.read (Elt F) (GL W)) Finset.univ) : sProp 𝕄)
      ⊢ xferPay W (lft c 1) (3, 0, k) := by
  rw [slotH_pt c (lft c 1) 0 k fullShare]
  rw [pay3, rgt_lft]
  unfold ptH
  exact Entails.of_eq (pointsTo_congr (copyVH c 0 k fd (GL W)))
theorem landL (g : Fin 31) (k : Fin 2) (fd : WBuf F) :
    (((slotL bufH c g.castSucc k).view.loc (lft c 1 : Thread nD τ)) ↦[(slotL bufH c g.castSucc k).view.set]{fullShare}
      ((slotL bufH c g.castSucc k).view.write (Elt F) fd ((slotL bufH c g.castSucc k).view.read (Elt F) (GL W)) Finset.univ) : sProp 𝕄)
      ⊢ xferPay W (lft c 1) (3, g, k) := by
  rw [slotH_pt c (lft c 1) g.castSucc k fullShare]
  rw [pay3, rgt_lft]
  unfold ptH
  exact Entails.of_eq (pointsTo_congr (copyHH c g.castSucc k fd (GL W)))
theorem landC (i : Fin 31) (k : Fin 2) (fd : WBuf F) :
    iprop((((slotL bufV c i.succ k).view.loc (c : Thread nD τ)) ↦[(slotL bufV c i.succ k).view.set]{fullShare}
      ((slotL bufV c i.succ k).view.write (Elt F) fd ((slotL bufH c i.succ k).view.read (Elt F) (GL W)) Finset.univ))
      ∗ ((slotL bufH c i.succ k).view.loc (c : Thread nD τ)) ↦[(slotL bufH c i.succ k).view.set]{fullShare.right} (GL W))
      ⊢ (xferPay W c (4, i, k) : sProp 𝕄) := by
  rw [slotV_pt c c i.succ k fullShare, slotH_pt c c i.succ k fullShare.right]
  iintro ⟨H1, H2⟩
  rw [pay4]
  ihave H1 := (Entails.of_eq (show ptV c (rgt c i.succ.val) k fullShare _ = ptV c (rgt c (i.val + 1)) k fullShare (GL W) by
    unfold ptV; exact pointsTo_congr (copyHV c i.succ k fd (GL W)))) $$ H1
  isplitl [H1]; · iexact H1
  iexact H2

/-- What a send lends. -/
theorem lendL (g : Fin 31) (k : Fin 2) (hg : g.val ≠ 0) :
    (((slotL bufH c g.castSucc k).view.loc (c : Thread nD τ)) ↦[(slotL bufH c g.castSucc k).view.set]{fullShare.left} (GL W) : sProp 𝕄)
      ⊢ xferPay W c (2, g, k) := by
  rw [slotH_pt c c g.castSucc k fullShare.left]
  rw [pay2, if_neg hg]; exact Entails.refl _
theorem lendL0 (k : Fin 2) :
    (((slotL bufV c 0 k).view.loc (c : Thread nD τ)) ↦[(slotL bufV c 0 k).view.set]{fullShare.left} (GL W) : sProp 𝕄)
      ⊢ xferPay W c (2, 0, k) := by
  rw [slotV_pt c c 0 k fullShare.left]
  rw [pay2, if_pos (show ((0 : Fin 31)).val = 0 from rfl)]; exact Entails.refl _
theorem lendR (g : Fin 31) (k : Fin 2) :
    (((slotR bufR c g k).view.loc (c : Thread nD τ)) ↦[(slotR bufR c g k).view.set]{fullShare.left} (GR W) : sProp 𝕄)
      ⊢ xferPay W c (0, g, k) := by
  exact Entails.of_eq ((slotR_pt c c g k fullShare.left (GR W)).trans (pay0 W c g k).symm)

section Send
variable {Q : PUnit.{1} → sProp (MT nD τ sig Unit (Elt F) ℕ UU ℕ)} {k' : PUnit.{1} → P F PUnit}

theorem due_sR (p : Pt) (h : (Ev.sR, p) ∉ D) : due c D = due c (insert (Ev.sR, p) D) + tallyAt (gcell (rgt c 1, some (1, p))) () N := by
  unfold due
  rw [dueL_other c D (by decide), sum_swap (f := dueR c D) (f' := dueR c (insert (Ev.sR, p) D)) p
    (fun y hy => by unfold dueR; rw [mem_other D fun he => hy (Prod.mk.inj he).2])
    (by unfold dueR; rw [if_pos (Set.mem_insert _ _)]), add_right_comm]
  congr 1
  unfold dueR; rw [if_neg h]
theorem due_sL (p : Pt) (h : (Ev.sL, p) ∉ D) : due c D = due c (insert (Ev.sL, p) D) + tallyAt (gcell (lft c 1, some (3, p))) () N := by
  unfold due
  rw [dueR_other c D (by decide), sum_swap (f := dueL c D) (f' := dueL c (insert (Ev.sL, p) D)) p
    (fun y hy => by unfold dueL; rw [mem_other D fun he => hy (Prod.mk.inj he).2])
    (by unfold dueL; rw [if_pos (Set.mem_insert _ _)]), ← add_assoc]
  congr 1
  unfold dueL; rw [if_neg h]

theorem cellF_start (x : XCell) {e : Ev} (he : issueEv x.1 = some e) (h : (e, x.2) ∉ D) (hw : ¬ waited D x) :
    (cellF c D x : sProp 𝕄) = iprop(atPos ER (gcell (c, some x)) 0 ∅ 0 ∗ emp ∗ dutyTok ER (gcell (c, some x)) 0 false)
    ∧ (cellF c (insert (e, x.2) D) x : sProp 𝕄)
      = iprop(atPos ER (gcell (c, some x)) 0 ∅ 0 ∗ cred (tallyAt (gcell (c, some x)) () N) ∗ emp) := by
  have hi : ¬ issued D x := fun hi => h (hi e he)
  have hw' : ¬ waited (insert (e, x.2) D) x := fun h' => hw ((waited_issue D x he).mp h')
  have hi' := issued_issue D x he
  constructor
  · unfold cellF; rw [if_neg hw, if_neg (fun h' => hi h'.1), if_neg hi]
  · unfold cellF; rw [if_neg hw', if_pos ⟨hi', hw'⟩, if_pos hi']

/-- A send: what the own send cell, the neighbour's arrival cell and the two slots contribute, and what is left. -/
theorem wp_send (n : Dev nD) (x y : XCell) {e : Ev} (he : issueEv x.1 = some e) {sS sV : DmaSem sig} (hs : xsem x = .dma sS) (hv : xsem y = .dma sV)
    {sp sp' : Space} {src : Memref sig .tc sp S256x512 .bf16} {dst : Memref sig .tc sp' S256x512 .bf16}
    {hsc : (dst : Memref sig (Dev.tc n : Thread nD τ).2.kind sp' S256x512 .bf16).view.ref.isScScratch = false}
    {hsrc : src.view.WordExact} {hdst : dst.view.WordExact}
    {hsem : DmaTarget.Typed sp (.dma sV) (.remote (Dev.tc n : Thread nD τ) dst (.dma sS) hsc)}
    (hN : dst.view.amount (SemLoc.dma sV) = N) (h : (e, x.2) ∉ D) (hf : ¬ waited D x)
    (hdue : due c D = due c (insert (e, x.2) D) + tallyAt (gcell (n, some y)) () N)
    {fs : Buf (Elt F) (src.view.loc (c : Thread nD τ))} {fd : Buf (Elt F) (dst.view.loc (n : Thread nD τ))}
    (hp₁ : (src.view.loc (c : Thread nD τ) ↦[src.view.set]{fullShare.left} fs) ⊢ (xferPay W c x : sProp 𝕄))
    (hp₂ : (dst.view.loc (n : Thread nD τ) ↦[dst.view.set]{fullShare} (dst.view.write (Elt F) fd (src.view.read (Elt F) fs) Finset.univ)) ⊢ (xferPay W n y : sProp 𝕄)) :
    iprop(recs W K ∗ cellF c D x ∗ owesF c D ∗ dutyTok ER (gcell (n, some y)) 0 false
        ∗ (src.view.loc (c : Thread nD τ) ↦[src.view.set]{fullShare.left} fs) ∗ (dst.view.loc (n : Thread nD τ) ↦[dst.view.set]{fullShare} fd))
      ⊢ (iprop((cellF c (insert (e, x.2) D) x -∗ owesF c (insert (e, x.2) D) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma src (.remote (Dev.tc n : Thread nD τ) dst (.dma sS) hsc) (.dma sV) hsrc hdst hsem) k') Q) : sProp 𝕄) := by
  have hg : gcell (c, some x) = ((c : Thread nD τ), .dma sS) := congrArg (Prod.mk (c : Thread nD τ)) hs
  have hg' : gcell (n, some y) = ((n : Thread nD τ), .dma sV) := congrArg (Prod.mk (n : Thread nD τ)) hv
  have hc := cellF_start (F := F) c D x he h hf
  have hinv := inv_at W K (c, some x)
  have hinv' := inv_at W K (n, some y)
  have hre := reached_at W K (c, some x)
  have hre' := reached_at W K (n, some y)
  have hd := duties_xfer W c x
  have hd' := duties_xfer W n y
  have ha := amount_xfer W c x 0 false
  have ha' := amount_xfer W n y 0 false
  have hp := payload_xfer W c x 0 false
  have hp' := payload_xfer W n y 0 false
  rw [hg] at hc hinv hre hd ha hp
  rw [hg'] at hdue hinv' hre' hd' ha' hp'
  rw [hg']
  iintro ⟨#HR, HC, HO, Htok2, Hsrc, Hdst⟩
  iintro Hk
  ihave HC := (Entails.of_eq hc.1) $$ HC
  icases HC with ⟨Hat, -, Htok⟩
  unfold owesF
  icases HO with ⟨%w, HO⟩
  iapply (Rounds.wp_send_pointsTo 𝒱₀ ER (ringRd W) (c : Thread nD τ) none (κ₁ := K (c, some x)) (κ₂ := K (n, some y))
    (r₁ := 0) (r₂ := 0) (d₁ := false) (d₂ := false) (fs := fs) (fd := fd)
    (by rw [hd]; exact Finset.mem_singleton_self _) (by rw [hd']; exact Finset.mem_singleton_self _)
    () () N hN ha ha' (due c (insert (e, x.2) D)) hdue (W := w)
    (hp₁.trans (Entails.of_eq hp.symm)) (hp₂.trans (Entails.of_eq hp'.symm))) $$ [Hsrc Hdst HO Htok Htok2]
  · isplitr; · iapply hinv; iexact HR
    isplitr; · iapply hinv'; iexact HR
    isplitl [Hsrc]; · iexact Hsrc
    isplitl [Hdst]; · iexact Hdst
    isplitl [HO]; · iexact HO
    isplitl [Htok]; · iexact Htok
    isplitr; · iapply hre; iexact HR
    isplitl [Htok2]; · iexact Htok2
    iapply hre'; iexact HR
  iintro ⟨Hcr, HO⟩
  iapply Hk $$ [Hat Hcr] [HO]
  · iapply (Entails.of_eq hc.2.symm)
    isplitl [Hat]; · iexact Hat
    isplitl [Hcr]; · iexact Hcr
    iempintro
  · iexists _; iexact HO

/-- Sending a slot on to the right. -/
theorem wp_sendR (n : Dev nD) (hn : n = rgt c 1) (g : Fin 31) (k : Fin 2)
    {sS sV : DmaSem sig} (hs : xsem (0, g, k) = .dma sS) (hv : xsem (1, g, k) = .dma sV)
    {hsc : (slotR bufR c g k : Memref sig (Dev.tc n : Thread nD τ).2.kind .vmem S256x512 .bf16).view.ref.isScScratch = false}
    {hsrc : (slotR bufR c g k).view.WordExact} {hdst : (slotR bufR c g k).view.WordExact}
    {hsem : DmaTarget.Typed .vmem (.dma sV) (.remote (Dev.tc n : Thread nD τ) (slotR bufR c g k : Memref sig .tc .vmem S256x512 .bf16) (.dma sS) hsc)}
    (h : (Ev.sR, (g, k)) ∉ D) (hf : (Ev.fR, (g, k)) ∉ D) (hw : hasR D (g.castSucc, k)) :
    iprop(recs W K ∗ Inv W c D)
      ⊢ (iprop((Inv W c (insert (Ev.sR, (g, k)) D) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (slotR bufR c g k) (.remote (Dev.tc n : Thread nD τ) (slotR bufR c g k) (.dma sS) hsc) (.dma sV) hsrc hdst hsem) k') Q) : sProp 𝕄) := by
  subst hn
  iintro ⟨#HR, HI⟩
  iintro Hk
  ihave HI := (take_sR W c D (g, k) h hw) $$ HI
  icases HI with ⟨HC, Hout, HO, Hsrc, Hback⟩
  ihave Hout := (Entails.of_eq (show (outR c D (g, k) : sProp 𝕄) = _ from if_neg h)) $$ Hout
  icases Hout with ⟨Htok2, ⟨%fd, Hdst⟩⟩
  ihave Hsrc := (Entails.of_eq (slotR_pt c c g k fullShare.left (GR W)).symm) $$ Hsrc
  ihave Hdst := (Entails.of_eq (slotR_pt c (rgt c 1) g k fullShare fd).symm) $$ Hdst
  iapply (wp_send W K c D (rgt c 1) (0, g, k) (1, g, k) (e := Ev.sR) rfl hs hv (src := slotR bufR c g k) (dst := slotR bufR c g k) (creditR c g k) h hf (due_sR c D (g, k) h) (fs := GR W) (fd := fd)
    (Entails.of_eq (slotR_pt c c g k fullShare.left (GR W)))
    (by
      rw [slotR_pt c (rgt c 1) g k fullShare]
      show _ ⊢ ptR (rgt c 1) (lft (rgt c 1) (g.val + 1)) k fullShare (GR W)
      rw [lft_rgt]
      exact Entails.of_eq (pointsTo_congr (copyRR c g k fd (GR W))))) $$ [HC HO Htok2 Hsrc Hdst]
  · isplitr; · iexact HR
    isplitl [HC]; · iexact HC
    isplitl [HO]; · iexact HO
    isplitl [Htok2]; · iexact Htok2
    isplitl [Hsrc]; · iexact Hsrc
    iexact Hdst
  iintro HC HO
  iapply Hk
  iapply Hback $$ HC HO

/-- Sending the own weights to the left. -/
theorem wp_sendL0 (n : Dev nD) (hn : n = lft c 1) (k : Fin 2)
    {sS sV : DmaSem sig} (hs : xsem (2, 0, k) = .dma sS) (hv : xsem (3, 0, k) = .dma sV)
    {hsc : (slotL bufH c 0 k : Memref sig (Dev.tc n : Thread nD τ).2.kind .hbm S256x512 .bf16).view.ref.isScScratch = false}
    {hsrc : (slotL bufV c 0 k).view.WordExact} {hdst : (slotL bufH c 0 k).view.WordExact}
    {hsem : DmaTarget.Typed .vmem (.dma sV) (.remote (Dev.tc n : Thread nD τ) (slotL bufH c 0 k : Memref sig .tc .hbm S256x512 .bf16) (.dma sS) hsc)}
    (h : (Ev.sL, ((0 : Fin 31), k)) ∉ D) (hf : (Ev.fL, ((0 : Fin 31), k)) ∉ D) :
    iprop(recs W K ∗ Inv W c D)
      ⊢ (iprop((Inv W c (insert (Ev.sL, ((0 : Fin 31), k)) D) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (slotL bufV c 0 k) (.remote (Dev.tc n : Thread nD τ) (slotL bufH c 0 k) (.dma sS) hsc) (.dma sV) hsrc hdst hsem) k') Q) : sProp 𝕄) := by
  subst hn
  iintro ⟨#HR, HI⟩
  iintro Hk
  ihave HI := (take_sL0 W c D k h) $$ HI
  icases HI with ⟨HC, Hout, HO, Hsrc, Hback⟩
  ihave Hout := (Entails.of_eq (show (outL c D (0, k) : sProp 𝕄) = _ from if_neg h)) $$ Hout
  icases Hout with ⟨Htok2, ⟨%fd, Hdst⟩⟩
  ihave Hsrc := (Entails.of_eq (show ptV c (rgt c 0) k fullShare.left (GL W) = _ from (slotV_pt c c 0 k fullShare.left (GL W)).symm)) $$ Hsrc
  ihave Hdst := (Entails.of_eq (show ptH (lft c 1) (rgt c ((0 : Fin 31), k).1.val) ((0 : Fin 31), k).2 fullShare fd = _ from (slotH_pt c (lft c 1) 0 k fullShare fd).symm)) $$ Hdst
  iapply (wp_send W K c D (lft c 1) (2, 0, k) (3, 0, k) (e := Ev.sL) rfl hs hv (src := slotL bufV c 0 k) (dst := slotL bufH c 0 k) (creditH c 0 k) h hf (due_sL c D (0, k) h) (fs := GL W) (fd := fd)
    (Entails.of_eq (slotV_pt c c 0 k fullShare.left (GL W)))
    (by
      rw [slotH_pt c (lft c 1) 0 k fullShare]
      show _ ⊢ ptH (lft c 1) (rgt (lft c 1) (0 + 1)) k fullShare (GL W)
      rw [rgt_lft]
      exact Entails.of_eq (pointsTo_congr (copyVH c 0 k fd (GL W))))) $$ [HC HO Htok2 Hsrc Hdst]
  · isplitr; · iexact HR
    isplitl [HC]; · iexact HC
    isplitl [HO]; · iexact HO
    isplitl [Htok2]; · iexact Htok2
    isplitl [Hsrc]; · iexact Hsrc
    iexact Hdst
  iintro HC HO
  iapply Hk
  iapply Hback $$ HC HO

/-- Sending a slot on to the left. -/
theorem wp_sendL (n : Dev nD) (hn : n = lft c 1) (g j : Fin 31) (hj : g.val = j.val + 1) (k : Fin 2)
    {sS sV : DmaSem sig} (hs : xsem (2, g, k) = .dma sS) (hv : xsem (3, g, k) = .dma sV)
    {hsc : (slotL bufH c g.castSucc k : Memref sig (Dev.tc n : Thread nD τ).2.kind .hbm S256x512 .bf16).view.ref.isScScratch = false}
    {hsrc : (slotL bufH c g.castSucc k).view.WordExact} {hdst : (slotL bufH c g.castSucc k).view.WordExact}
    {hsem : DmaTarget.Typed .hbm (.dma sV) (.remote (Dev.tc n : Thread nD τ) (slotL bufH c g.castSucc k : Memref sig .tc .hbm S256x512 .bf16) (.dma sS) hsc)}
    (h : (Ev.sL, (g, k)) ∉ D) (hf : (Ev.fL, (g, k)) ∉ D) (hw : (Ev.wL, (j, k)) ∈ D) :
    iprop(recs W K ∗ Inv W c D)
      ⊢ (iprop((Inv W c (insert (Ev.sL, (g, k)) D) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (slotL bufH c g.castSucc k) (.remote (Dev.tc n : Thread nD τ) (slotL bufH c g.castSucc k) (.dma sS) hsc) (.dma sV) hsrc hdst hsem) k') Q) : sProp 𝕄) := by
  subst hn
  iintro ⟨#HR, HI⟩
  iintro Hk
  ihave HI := (take_sL W c D (g, k) j hj h hw) $$ HI
  icases HI with ⟨HC, Hout, HO, Hsrc, Hback⟩
  ihave Hout := (Entails.of_eq (show (outL c D (g, k) : sProp 𝕄) = _ from if_neg h)) $$ Hout
  icases Hout with ⟨Htok2, ⟨%fd, Hdst⟩⟩
  ihave Hsrc := (Entails.of_eq (show ptH c (rgt c (g, k).1.val) (g, k).2 fullShare.left (GL W) = _ from (slotH_pt c c g.castSucc k fullShare.left (GL W)).symm)) $$ Hsrc
  ihave Hdst := (Entails.of_eq (show ptH (lft c 1) (rgt c (g, k).1.val) (g, k).2 fullShare fd = _ from (slotH_pt c (lft c 1) g.castSucc k fullShare fd).symm)) $$ Hdst
  iapply (wp_send W K c D (lft c 1) (2, g, k) (3, g, k) (e := Ev.sL) rfl hs hv (src := slotL bufH c g.castSucc k) (dst := slotL bufH c g.castSucc k) (creditH c g.castSucc k) h hf (due_sL c D (g, k) h) (fs := GL W) (fd := fd)
    (by
      rw [slotH_pt c c g.castSucc k fullShare.left (GL W)]
      refine Entails.of_eq ?_
      show _ = (if g.val = 0 then _ else _)
      rw [if_neg (by omega)]; rfl)
    (by
      rw [slotH_pt c (lft c 1) g.castSucc k fullShare]
      show _ ⊢ ptH (lft c 1) (rgt (lft c 1) (g.val + 1)) k fullShare (GL W)
      rw [rgt_lft]
      exact Entails.of_eq (pointsTo_congr (copyHH c g.castSucc k fd (GL W))))) $$ [HC HO Htok2 Hsrc Hdst]
  · isplitr; · iexact HR
    isplitl [HC]; · iexact HC
    isplitl [HO]; · iexact HO
    isplitl [Htok2]; · iexact Htok2
    isplitl [Hsrc]; · iexact Hsrc
    iexact Hdst
  iintro HC HO
  iapply Hk
  iapply Hback $$ HC HO

/-- Copying an arrived slot next to the compute unit. -/
theorem wp_copyL (i : Fin 31) (k : Fin 2) {sem : DmaSem sig} (hs : xsem (4, i, k) = .dma sem)
    {hsrc : (slotL bufH c i.succ k).view.WordExact} {hdst : (slotL bufV c i.succ k).view.WordExact}
    {hsem : DmaTarget.Typed (nD := nD) (τ := τ) (p := (c : Thread nD τ).2) .hbm (.dma sem) (.here (slotL bufV c i.succ k : Memref sig .tc .vmem S256x512 .bf16))}
    (h : (Ev.cL, (i, k)) ∉ D) (hd : (Ev.dL, (i, k)) ∉ D) (hw : (Ev.wL, (i, k)) ∈ D) :
    iprop(recs W K ∗ Inv W c D)
      ⊢ (iprop((Inv W c (insert (Ev.cL, (i, k)) D) -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (slotL bufH c i.succ k) (.here (slotL bufV c i.succ k)) (.dma sem) hsrc hdst hsem) k') Q) : sProp 𝕄) := by
  have hg : gcell (c, some (4, i, k)) = ((c : Thread nD τ), .dma sem) := congrArg (Prod.mk (c : Thread nD τ)) hs
  have hc := cellF_start (F := F) c D (4, i, k) (e := Ev.cL) rfl h hd
  have hinv := inv_at W K (c, some (4, i, k))
  have hre := reached_at W K (c, some (4, i, k))
  have hdu := duties_xfer W c (4, i, k)
  have ha := amount_xfer W c (4, i, k) 0 false
  have hp := payload_xfer W c (4, i, k) 0 false
  rw [hg] at hc hinv hre hdu ha hp
  iintro ⟨#HR, HI⟩
  iintro Hk
  ihave HI := (take_cL W c D (i, k) h hd hw) $$ HI
  icases HI with ⟨HC, Hsrc, ⟨%fd, Hdst⟩, Hback⟩
  ihave HC := (Entails.of_eq hc.1) $$ HC
  icases HC with ⟨Hat, -, Htok⟩
  ihave Hsrc := (Entails.of_eq (show ptH c (rgt c ((i, k).1.val + 1)) (i, k).2 fullShare.right (GL W) = _ from (slotH_pt c c i.succ k fullShare.right (GL W)).symm)) $$ Hsrc
  ihave Hdst := (Entails.of_eq (show ptV c (rgt c ((i, k).1.val + 1)) (i, k).2 fullShare fd = _ from (slotV_pt c c i.succ k fullShare fd).symm)) $$ Hdst
  iapply (Rounds.wp_copy_pointsTo 𝒱₀ ER (ringRd W) (c : Thread nD τ) none (src := slotL bufH c i.succ k) (dst := slotL bufV c i.succ k) (κ := K (c, some (4, i, k)))
    (r := 0) (d := false) (fs := GL W) (fd := fd) (by rw [hdu]; exact Finset.mem_singleton_self _) () N (show (slotL bufV c i.succ k).view.amount (.dma sem) = N from creditV c i.succ k) ha
    ((landC W c i k fd).trans (Entails.of_eq hp.symm))) $$ [Hsrc Hdst Htok]
  · isplitr; · iapply hinv; iexact HR
    isplitl [Hsrc]; · iexact Hsrc
    isplitl [Hdst]; · iexact Hdst
    isplitl [Htok]; · iexact Htok
    iapply hre; iexact HR
  iintro Hcr
  iapply Hk
  iapply Hback
  iapply (Entails.of_eq hc.2.symm)
  isplitl [Hat]; · iexact Hat
  isplitl [Hcr]; · iexact Hcr
  iempintro

end Send

end Moves

end Cert.KernelIdeal

end

end
-- ==== Proof.Use.lean ====
module
public import proofs.«01_k».proof.Proof.Moves
@[expose] public section

/-! # One step of the body

Each step after the prologue, run from a device's state: what it needs of the events done, which event it
adds, and what it does to the result. -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

local notation "𝕄" => MT nD τ sig Unit (Elt F) ℕ UU ℕ

/-- The body's buffers and semaphores. -/
abbrev R₀ : Refs :=
  { arg0 := Memref.whole cc0_stg0_0, harg0 := Memref.isWhole_whole _, arg1 := Memref.whole cc0_stg1_0, harg1 := Memref.isWhole_whole _,
    arg2 := Memref.whole cc0_stg2_0, harg2 := Memref.isWhole_whole _, arg3 := Memref.whole cc0_stg3_0, harg3 := Memref.isWhole_whole _,
    arg4 := Memref.whole cc0_stg4_0, harg4 := Memref.isWhole_whole _, arg5 := bufH, harg5 := Memref.isWhole_whole _,
    arg6 := bufR, harg6 := Memref.isWhole_whole _, arg7 := bufV, harg7 := Memref.isWhole_whole _,
    arg8 := Memref.whole cc0_scratch2, harg8 := Memref.isWhole_whole _,
    arg9 := cc0_scratch3, arg10 := cc0_scratch4, arg11 := cc0_scratch5, arg12 := cc0_scratch6, arg13 := cc0_scratch7 }

/-! ## The gate buffer and the result -/

abbrev GBuf (F : FTy → Type) := S32x512x4.Idx → Elt F .f32

theorem gateInb (o : Dev nD) : ∀ a, (![o.val, 0, 0] : Fin 3 → ℕ) a + S1x512x4.size a ≤ S32x512x4.size a := rowInb o
abbrev gateRect (o : Dev nD) : Rect S32x512x4 := Rect.unit (s := S32x512x4) ![o.val, 0, 0] S1x512x4.size (gateInb o)
/-- A device's rows of the gate, as a load reads them. -/
def rowOf (G : GBuf F) (o : Dev nD) : Vec F S1x512x4 .f32 := fun x => G ((gateRect o).emb x)

theorem readG {off : Fin 3 → ℕ} (h : ∀ a, off a + S1x512x4.size a ≤ S32x512x4.size a) {o : Dev nD} (e : off = ![o.val, 0, 0]) (G : GBuf F) :
    (Memref.whole cc0_scratch2 : Memref sig .tc .vmem S32x512x4 .f32).view.readAt (Elt F) (Rect.unit (s := S32x512x4) off S1x512x4.size h).toLoadRect G = rowOf G o := by
  subst e; rfl

theorem zero2 : (![0, 0] : Fin 2 → Nat) = fun _ => 0 := funext fun a => by fin_cases a <;> rfl
abbrev rOut : Rect S512x512 := Rect.unit (s := S512x512) ![0, 0] S512x512.size Gen.inb_S512x512_S512x512_0_0
theorem readO (f : Vec F S512x512 .f32) : (Memref.whole cc0_stg4_0 : Memref sig .tc .vmem S512x512 .f32).view.readAt (Elt F) rOut.toLoadRect f = f :=
  Memref.readAt_unit_zero (Elt F) cc0_stg4_0 zero2 _ f
theorem writeO (f w : Vec F S512x512 .f32) :
    ((Memref.whole cc0_stg4_0 : Memref sig .tc .vmem S512x512 .f32).access rOut : View sig .tc _ _ _).write (Elt F) f w Finset.univ = w :=
  Memref.write_access_unit_zero_univ (Elt F) cc0_stg4_0 zero2 _ f w

def gatePt (c : Dev nD) (G : GBuf F) : sProp 𝕄 := ((c : Thread nD τ).loc cc0_scratch2) ↦{fullShare} G
def outPt (c : Dev nD) (O : Vec F S512x512 .f32) : sProp 𝕄 := ((c : Thread nD τ).loc cc0_stg4_0) ↦{fullShare} O

section Use
variable (W : Dev nD → Vec F S4x256x512 .bf16) (K : Dev nD × DCell → ℕ) (c : Dev nD) (D : Done)
variable (xb : FVec F S512x256 .bf16) (G : GBuf F) (O : Vec F S512x512 .f32)
variable {Q : PUnit.{1} → sProp (MT nD τ sig Unit (Elt F) ℕ UU ℕ)} {k : PUnit.{1} → P F PUnit}

theorem setOnR {off : Fin 3 → ℕ} (h : ∀ a, off a + S1x256x512.size a ≤ S64x256x512.size a) {o : Dev nD} {k : Fin 2}
    (e : off = ![2 * o.val + k.val, 0, 0]) :
    (bufR.view.setOn (Rect.unit (s := S64x256x512) off S1x256x512.size h).toLoadRect.set : Finset S64x256x512.Idx) ⊆ slotSet o k := by
  rw [← accR h e]; exact (View.set_slice _ _).symm.subset
theorem setOnV {off : Fin 3 → ℕ} (h : ∀ a, off a + S1x256x512.size a ≤ S64x256x512.size a) {o : Dev nD} {k : Fin 2}
    (e : off = ![2 * o.val + k.val, 0, 0]) :
    (bufV.view.setOn (Rect.unit (s := S64x256x512) off S1x256x512.size h).toLoadRect.set : Finset S64x256x512.Idx) ⊆ slotSet o k := by
  rw [← accV h e]; exact (View.set_slice _ _).symm.subset

/-- The product with weights read from a slot that came from the left. -/
theorem wp_use_R {offW : Fin 3 → ℕ} (hW : ∀ a, offW a + S1x256x512.size a ≤ S64x256x512.size a)
    {offG : Fin 3 → ℕ} (hG : ∀ a, offG a + S1x512x4.size a ≤ S32x512x4.size a) (j : Fin 4) {o o' : Dev nD} {k' : Fin 2}
    (eW : offW = ![2 * o.val + k'.val, 0, 0]) (eG : offG = ![o'.val, 0, 0]) (q : PosShare TreeShare) (f : WBuf F) :
    iprop(ptR c o k' q f ∗ gatePt c G ∗ outPt c O)
      ⊢ (iprop((ptR c o k' q f -∗ gatePt c G -∗ outPt c (addExpert xb j (slotOf f o k') (rowOf G o') O)
          -∗ wp frame (wpE (defs₀ (F := F)) 𝒱₀ (c : Thread nD τ) none) Set.univ (k ⟨⟩) Q)
        -∗ wp frame (wpE (defs₀ (F := F)) 𝒱₀ (c : Thread nD τ) none) Set.univ (use R₀ xb bufR offW hW offG hG j >>= k) Q) : sProp 𝕄) := by
  iintro ⟨HW, HG, HO⟩ Hk
  unfold use ptR gatePt outPt
  simp only [Prog.lift, Prog.bind_op, Prog.bind_ret]
  iapply (wp_load 𝒱₀ (c : Thread nD τ) none Set.univ (m := bufR) (setOnR hW eW)) $$ HW; iintro HW
  rw [readR hW eW]
  iapply (wp_load 𝒱₀ (c : Thread nD τ) none Set.univ (m := (Memref.whole cc0_scratch2 : Memref sig .tc .vmem S32x512x4 .f32)) (Finset.subset_univ _)) $$ HG; iintro HG
  rw [readG hG eG]
  iapply (wp_load 𝒱₀ (c : Thread nD τ) none Set.univ (m := (Memref.whole cc0_stg4_0 : Memref sig .tc .vmem S512x512 .f32)) (Finset.subset_univ _)) $$ HO; iintro HO
  iapply (wp_load 𝒱₀ (c : Thread nD τ) none Set.univ (m := (Memref.whole cc0_stg4_0 : Memref sig .tc .vmem S512x512 .f32)) (Finset.subset_univ _)) $$ HO; iintro HO
  rw [readO]
  iapply (wp_store 𝒱₀ (c : Thread nD τ) none Set.univ (m := (Memref.whole cc0_stg4_0 : Memref sig .tc .vmem S512x512 .f32)) (r := rOut) (Mk := Finset.univ) (Finset.subset_univ _)) $$ HO; iintro HO
  rw [writeO]
  iapply Hk $$ HW HG HO

/-- The product with weights read from the other buffer. -/
theorem wp_use_V {offW : Fin 3 → ℕ} (hW : ∀ a, offW a + S1x256x512.size a ≤ S64x256x512.size a)
    {offG : Fin 3 → ℕ} (hG : ∀ a, offG a + S1x512x4.size a ≤ S32x512x4.size a) (j : Fin 4) {o o' : Dev nD} {k' : Fin 2}
    (eW : offW = ![2 * o.val + k'.val, 0, 0]) (eG : offG = ![o'.val, 0, 0]) (q : PosShare TreeShare) (f : WBuf F) :
    iprop(ptV c o k' q f ∗ gatePt c G ∗ outPt c O)
      ⊢ (iprop((ptV c o k' q f -∗ gatePt c G -∗ outPt c (addExpert xb j (slotOf f o k') (rowOf G o') O)
          -∗ wp frame (wpE (defs₀ (F := F)) 𝒱₀ (c : Thread nD τ) none) Set.univ (k ⟨⟩) Q)
        -∗ wp frame (wpE (defs₀ (F := F)) 𝒱₀ (c : Thread nD τ) none) Set.univ (use R₀ xb bufV offW hW offG hG j >>= k) Q) : sProp 𝕄) := by
  iintro ⟨HW, HG, HO⟩ Hk
  unfold use ptV gatePt outPt
  simp only [Prog.lift, Prog.bind_op, Prog.bind_ret]
  iapply (wp_load 𝒱₀ (c : Thread nD τ) none Set.univ (m := bufV) (setOnV hW eW)) $$ HW; iintro HW
  rw [readV hW eW]
  iapply (wp_load 𝒱₀ (c : Thread nD τ) none Set.univ (m := (Memref.whole cc0_scratch2 : Memref sig .tc .vmem S32x512x4 .f32)) (Finset.subset_univ _)) $$ HG; iintro HG
  rw [readG hG eG]
  iapply (wp_load 𝒱₀ (c : Thread nD τ) none Set.univ (m := (Memref.whole cc0_stg4_0 : Memref sig .tc .vmem S512x512 .f32)) (Finset.subset_univ _)) $$ HO; iintro HO
  iapply (wp_load 𝒱₀ (c : Thread nD τ) none Set.univ (m := (Memref.whole cc0_stg4_0 : Memref sig .tc .vmem S512x512 .f32)) (Finset.subset_univ _)) $$ HO; iintro HO
  rw [readO]
  iapply (wp_store 𝒱₀ (c : Thread nD τ) none Set.univ (m := (Memref.whole cc0_stg4_0 : Memref sig .tc .vmem S512x512 .f32)) (r := rOut) (Mk := Finset.univ) (Finset.subset_univ _)) $$ HO; iintro HO
  rw [writeO]
  iapply Hk $$ HW HG HO

/-! ## A step: what it needs, the event it is, what it adds -/

/-- All the slots of the first hops have been sent on. -/
def sentUpTo (D : Done) (i : Fin 31) : Prop := ∀ p : Pt, p.1.val ≤ i.val → (Ev.sR, p) ∈ D ∧ (Ev.sL, p) ∈ D
def okWaitL (D : Done) (i : Fin 31) (k : Fin 2) : Prop :=
  (Ev.wL, (i, k)) ∉ D ∧ (∀ j : Fin 31, j.val = i.val + 1 → (Ev.sL, (j, k)) ∉ D) ∧ (Ev.cL, (i, k)) ∉ D ∧ sentUpTo D i

def ok (D : Done) : Step → Prop
  | .waitR i k => (Ev.wR, (i, k)) ∉ D ∧ (∀ j : Fin 31, j.val = i.val + 1 → (Ev.sR, (j, k)) ∉ D) ∧ sentUpTo D i
  | .sendR i k => (Ev.sR, (i, k)) ∉ D ∧ (Ev.fR, (i, k)) ∉ D ∧ ∀ j : Fin 31, j.val + 1 = i.val → (Ev.wR, (j, k)) ∈ D
  | .useR i k => (Ev.wR, (i, k)) ∈ D
  | .waitL0 k => okWaitL D 0 k
  | .waitL i k => okWaitL D i k
  | .sendL i k => (Ev.sL, (i, k)) ∉ D ∧ (Ev.fL, (i, k)) ∉ D ∧ ∃ j : Fin 31, i.val = j.val + 1 ∧ (Ev.wL, (j, k)) ∈ D
  | .copyL i k => (Ev.cL, (i, k)) ∉ D ∧ (Ev.dL, (i, k)) ∉ D ∧ (Ev.wL, (i, k)) ∈ D
  | .waitC i k => (Ev.cL, (i, k)) ∈ D ∧ (Ev.dL, (i, k)) ∉ D
  | .useL i k => (Ev.dL, (i, k)) ∈ D
  | .sentR i k => (Ev.sR, (i, k)) ∈ D ∧ (Ev.fR, (i, k)) ∉ D
  | .sentL0 k => (Ev.sL, ((0 : Fin 31), k)) ∈ D ∧ (Ev.fL, ((0 : Fin 31), k)) ∉ D
  | .sentL i k => (Ev.sL, (i, k)) ∈ D ∧ (Ev.fL, (i, k)) ∉ D

def evOf : Step → Option (Ev × Pt)
  | .waitR i k => some (.wR, i, k)
  | .sendR i k => some (.sR, i, k)
  | .waitL0 k => some (.wL, 0, k)
  | .waitL i k => some (.wL, i, k)
  | .sendL i k => some (.sL, i, k)
  | .copyL i k => some (.cL, i, k)
  | .waitC i k => some (.dL, i, k)
  | .sentR i k => some (.fR, i, k)
  | .sentL0 k => some (.fL, 0, k)
  | .sentL i k => some (.fL, i, k)
  | _ => none

def after (D : Done) (s : Step) : Done := match evOf s with | some e => insert e D | none => D

def outStep (O : Vec F S512x512 .f32) : Step → Vec F S512x512 .f32
  | .useR i k => addExpert xb ⟨k.val, by omega⟩ (slotOf (GR W) (lft c (i.val + 1)) k) (rowOf G (lft c (i.val + 1))) O
  | .useL i k => addExpert xb ⟨2 + k.val, by omega⟩ (slotOf (GL W) (rgt c (i.val + 1)) k) (rowOf G (rgt c (i.val + 1))) O
  | _ => O

theorem lev_wait (i : Fin 31) (h : sentUpTo D i) : ∀ p : Pt, (Ev.sR, p) ∉ D ∨ (Ev.sL, p) ∉ D → i.val + 2 < p.1.val + 2 := by
  intro p hp
  by_contra hn
  have := h p (by omega)
  rcases hp with hp | hp
  · exact hp this.1
  · exact hp this.2

theorem off5_eq (i : Fin 31) (k : Fin 2) :
    k0_off5 c (BitVec.ofNat 32 (1 + i.val)) (BitVec.ofNat 32 k.val) = ![2 * (lft c (i.val + 1)).val + k.val, 0, 0] := by
  rw [k0_off5_eq]
  have : (c.val + 31 - i.val) % 32 = (lft c (i.val + 1)).val := by
    show _ = (c.val + 32 - (i.val + 1) % 32) % 32; have := i.isLt; omega
  rw [this]
theorem off6_eq (i : Fin 31) : k0_off6 c (BitVec.ofNat 32 (1 + i.val)) = ![(lft c (i.val + 1)).val, 0, 0] := by
  rw [k0_off6_eq]
  have : (c.val + 31 - i.val) % 32 = (lft c (i.val + 1)).val := by
    show _ = (c.val + 32 - (i.val + 1) % 32) % 32; have := i.isLt; omega
  rw [this]
theorem off7_eq (i : Fin 31) (k : Fin 2) :
    k0_off7 c (BitVec.ofNat 32 (1 + i.val)) (BitVec.ofNat 32 k.val) = ![2 * (rgt c (i.val + 1)).val + k.val, 0, 0] := by
  rw [k0_off7_eq]
  have : (c.val + i.val + 1) % 32 = (rgt c (i.val + 1)).val := by
    show _ = (c.val + (i.val + 1)) % 32; rw [Nat.add_assoc]
  rw [this]
theorem off8_eq (i : Fin 31) : k0_off8 c (BitVec.ofNat 32 (1 + i.val)) = ![(rgt c (i.val + 1)).val, 0, 0] := by
  rw [k0_off8_eq]
  have : (c.val + i.val + 1) % 32 = (rgt c (i.val + 1)).val := by
    show _ = (c.val + (i.val + 1)) % 32; rw [Nat.add_assoc]
  rw [this]

/-- A step that touches the state only. -/
theorem frameStep {D' : Done} {prog : P F PUnit}
    (h : iprop(recs W K ∗ Inv W c D) ⊢ (iprop((Inv W c D' -∗ wp frame (wpE (defs₀ (F := F)) 𝒱₀ (c : Thread nD τ) none) Set.univ (k ⟨⟩) Q)
      -∗ wp frame (wpE (defs₀ (F := F)) 𝒱₀ (c : Thread nD τ) none) Set.univ prog Q) : sProp 𝕄)) :
    iprop(recs W K ∗ Inv W c D ∗ gatePt c G ∗ outPt c O)
      ⊢ (iprop((Inv W c D' -∗ gatePt c G -∗ outPt c O -∗ wp frame (wpE (defs₀ (F := F)) 𝒱₀ (c : Thread nD τ) none) Set.univ (k ⟨⟩) Q)
        -∗ wp frame (wpE (defs₀ (F := F)) 𝒱₀ (c : Thread nD τ) none) Set.univ prog Q) : sProp 𝕄) := by
  iintro ⟨HR, HI, HG, HO⟩ Hk
  iapply h $$ [HR HI]
  · isplitl [HR]; · iexact HR
    iexact HI
  iintro HI
  iapply Hk $$ HI HG HO

/-- A wait's step. -/
theorem waitStep (x : XCell) {sem : DmaSem sig} (hs : xsem x = .dma sem) {sp sp' : Space} {s s' : Shape} {e e' : EltTy}
    {src : Memref sig .tc sp' s' e'} {dst : Memref sig .tc sp s e}
    {hsrc : src.view.WordExact} {hdst : dst.view.WordExact} (hN : dst.view.dmaCredit = N)
    (hi : issued D x) (h : ¬ waited D x)
    (hr : x.1 = 1 → ∀ i : Fin 31, i.val = x.2.1.val + 1 → (Ev.sR, (i, x.2.2)) ∉ D)
    (hl : x.1 = 3 → (∀ i : Fin 31, i.val = x.2.1.val + 1 → (Ev.sL, (i, x.2.2)) ∉ D) ∧ (Ev.cL, x.2) ∉ D)
    (hlev : ∀ p : Pt, (Ev.sR, p) ∉ D ∨ (Ev.sL, p) ∉ D → lvOf (some (c, some x)) < p.1.val + 2) :
    iprop(recs W K ∗ Inv W c D ∗ gatePt c G ∗ outPt c O)
      ⊢ (iprop((Inv W c (insert (waitEv x.1, x.2) D) -∗ gatePt c G -∗ outPt c O -∗ wp frame (wpE (defs₀ (F := F)) 𝒱₀ (c : Thread nD τ) none) Set.univ (k ⟨⟩) Q)
        -∗ wp frame (wpE (defs₀ (F := F)) 𝒱₀ (c : Thread nD τ) none) Set.univ
            ((Prog.lift (.waitDma2 sem src dst hsrc hdst) : P F PUnit) >>= k) Q) : sProp 𝕄) := by
  refine frameStep W K c D G O ?_
  simp only [Prog.lift, Prog.bind_op, Prog.bind_ret]
  exact wp_wait W K c D x hs hN hi h hr hl hlev

theorem wp_step (s : Step) (h : ok D s) :
    iprop(recs W K ∗ Inv W c D ∗ gatePt c G ∗ outPt c O)
      ⊢ (iprop((Inv W c (after D s) -∗ gatePt c G -∗ outPt c (outStep W c xb G O s)
          -∗ wp frame (wpE (defs₀ (F := F)) 𝒱₀ (c : Thread nD τ) none) Set.univ (k ⟨⟩) Q)
        -∗ wp frame (wpE (defs₀ (F := F)) 𝒱₀ (c : Thread nD τ) none) Set.univ (den R₀ c xb s >>= k) Q) : sProp 𝕄) := by
  cases s with
  | waitR i k =>
    exact waitStep W K c D G O (1, i, k) rfl (creditR c i k) (fun e he => by cases he) h.1 (fun _ => h.2.1) (fun h' => by cases h')
      (lev_wait D i h.2.2)
  | sendR i k =>
    refine frameStep W K c D G O ?_
    simp only [den, sendR, Prog.lift, Prog.bind_op, Prog.bind_ret]
    exact wp_sendR W K c D (rightOf c) (rightOf_eq c) i k rfl rfl h.1 h.2.1 h.2.2
  | useR i k =>
    show _ ⊢ (iprop((Inv W c D -∗ gatePt c G -∗ outPt c (addExpert xb (⟨k.val, by omega⟩ : Fin 4) (slotOf (GR W) (lft c (i.val + 1)) k) (rowOf G (lft c (i.val + 1))) O) -∗ _) -∗ _) : sProp 𝕄)
    iintro ⟨-, HI, HG, HO⟩ Hk
    have hread : (Inv W c D : sProp 𝕄) ⊢ iprop(ptR c (lft c (i.val + 1)) k fullShare.right (GR W)
        ∗ (ptR c (lft c (i.val + 1)) k fullShare.right (GR W) -∗ Inv W c D)) :=
      read_R W c D (i.succ, k) (by
        intro j hj
        have : j = i := Fin.ext (by have : j.val + 1 = i.val + 1 := hj; omega)
        rw [this]; exact h)
    ihave HI := hread $$ HI
    icases HI with ⟨HP, HI⟩
    iapply (wp_use_R c xb G O (Gen.k0_off5_inb c i k) (Gen.k0_off6_inb c i) ⟨k.val, by omega⟩ (off5_eq c i k) (off6_eq c i) fullShare.right (GR W)) $$ [HP HG HO]
    · isplitl [HP]; · iexact HP
      isplitl [HG]; · iexact HG
      iexact HO
    iintro HP HG HO
    iapply Hk $$ [HI HP] HG HO
    iapply HI $$ HP
  | waitL0 k =>
    exact waitStep W K c D G O (3, 0, k) rfl (creditH c 0 k) (fun e he => by cases he) h.1 (fun h' => by cases h') (fun _ => ⟨h.2.1, h.2.2.1⟩)
      (lev_wait D 0 h.2.2.2)
  | waitL i k =>
    exact waitStep W K c D G O (3, i, k) rfl (creditH c i.castSucc k) (fun e he => by cases he) h.1 (fun h' => by cases h') (fun _ => ⟨h.2.1, h.2.2.1⟩)
      (lev_wait D i h.2.2.2)
  | sendL i k =>
    obtain ⟨h1, h2, j, hj, h3⟩ := h
    refine frameStep W K c D G O ?_
    simp only [den, sendL, Prog.lift, Prog.bind_op, Prog.bind_ret]
    exact wp_sendL W K c D (leftOf c) (leftOf_eq c) i j hj k rfl rfl h1 h2 h3
  | copyL i k =>
    refine frameStep W K c D G O ?_
    simp only [den, copyL, Prog.lift, Prog.bind_op, Prog.bind_ret]
    exact wp_copyL W K c D i k rfl h.1 h.2.1 h.2.2
  | waitC i k =>
    exact waitStep W K c D G O (4, i, k) rfl (creditV c i.succ k) (fun e he => by cases he; exact h.1) h.2 (fun h' => by cases h') (fun h' => by cases h')
      (fun p _ => Nat.succ_pos _)
  | useL i k =>
    show _ ⊢ (iprop((Inv W c D -∗ gatePt c G -∗ outPt c (addExpert xb (⟨2 + k.val, by omega⟩ : Fin 4) (slotOf (GL W) (rgt c (i.val + 1)) k) (rowOf G (rgt c (i.val + 1))) O) -∗ _) -∗ _) : sProp 𝕄)
    iintro ⟨-, HI, HG, HO⟩ Hk
    ihave HI := (read_V W c D (i, k) h) $$ HI
    icases HI with ⟨HP, HI⟩
    iapply (wp_use_V c xb G O (Gen.k0_off7_inb c i k) (Gen.k0_off8_inb c i) ⟨2 + k.val, by omega⟩ (off7_eq c i k) (off8_eq c i) fullShare (GL W)) $$ [HP HG HO]
    · isplitl [HP]; · iexact HP
      isplitl [HG]; · iexact HG
      iexact HO
    iintro HP HG HO
    iapply Hk $$ [HI HP] HG HO
    iapply HI $$ HP
  | sentR i k =>
    exact waitStep W K c D G O (0, i, k) rfl (creditR c i k) (fun e he => by cases he; exact h.1) h.2 (fun h' => by cases h') (fun h' => by cases h')
      (fun p _ => Nat.succ_pos _)
  | sentL0 k =>
    exact waitStep W K c D G O (2, 0, k) rfl (creditV c 0 k) (fun e he => by cases he; exact h.1) h.2 (fun h' => by cases h') (fun h' => by cases h')
      (fun p _ => Nat.succ_pos _)
  | sentL i k =>
    exact waitStep W K c D G O (2, i, k) rfl (creditH c i.castSucc k) (fun e he => by cases he; exact h.1) h.2 (fun h' => by cases h') (fun h' => by cases h')
      (fun p _ => Nat.succ_pos _)

/-! ## A run of steps -/

def okAll (D : Done) : List Step → Prop
  | [] => True
  | s :: l => ok D s ∧ okAll (after D s) l

theorem wp_steps (l : List Step) (T : P F PUnit) : ∀ (D : Done) (O : Vec F S512x512 .f32), okAll D l →
    iprop(recs W K ∗ Inv W c D ∗ gatePt c G ∗ outPt c O)
      ⊢ (iprop((Inv W c (l.foldl after D) -∗ gatePt c G -∗ outPt c (l.foldl (outStep W c xb G) O)
          -∗ wp frame (wpE (defs₀ (F := F)) 𝒱₀ (c : Thread nD τ) none) Set.univ T Q)
        -∗ wp frame (wpE (defs₀ (F := F)) 𝒱₀ (c : Thread nD τ) none) Set.univ (runSteps R₀ c xb l T) Q) : sProp 𝕄) := by
  induction l with
  | nil =>
    intro D O _
    show _ ⊢ (iprop((Inv W c D -∗ gatePt c G -∗ outPt c O -∗ _) -∗ _) : sProp 𝕄)
    iintro ⟨-, HI, HG, HO⟩ Hk
    iapply Hk $$ HI HG HO
  | cons s l ih =>
    intro D O h
    iintro ⟨#HR, HI, HG, HO⟩ Hk
    iapply (wp_step W K c D xb G O s h.1) $$ [HI HG HO]
    · isplitr; · iexact HR
      isplitl [HI]; · iexact HI
      isplitl [HG]; · iexact HG
      iexact HO
    iintro HI HG HO
    iapply (ih (after D s) (outStep W c xb G O s) h.2) $$ [HI HG HO]
    · isplitr; · iexact HR
      isplitl [HI]; · iexact HI
      isplitl [HG]; · iexact HG
      iexact HO
    iexact Hk

end Use

end Cert.KernelIdeal

end

end
-- ==== Proof.Run.lean ====
module
public import proofs.«01_k».proof.Proof.Use
@[expose] public section

/-! # The run of all the steps

That every step of the body comes after the events it needs, checked on the events as the bits of a number, and
that after the last step every event has happened. -/

noncomputable section

namespace Cert.KernelIdeal
open Idealize.ShloMosaic Idealize.SL.Sem
open Idealize.ShloMosaic.TcCoe
open Facts₀ Facts Gen

def evCode : Ev → ℕ
  | .wR => 0 | .sR => 1 | .fR => 2 | .wL => 3 | .sL => 4 | .fL => 5 | .cL => 6 | .dL => 7
def bitOf (x : Ev × Pt) : ℕ := 62 * evCode x.1 + (2 * x.2.1.val + x.2.2.val)

theorem bitOf_inj {x y : Ev × Pt} (h : bitOf x = bitOf y) : x = y := by
  obtain ⟨e, i, k⟩ := x
  obtain ⟨e', i', k'⟩ := y
  have h1 : 62 * evCode e + (2 * i.val + k.val) = 62 * evCode e' + (2 * i'.val + k'.val) := h
  have hi := i.isLt; have hk := k.isLt; have hi' := i'.isLt; have hk' := k'.isLt
  have he : evCode e = evCode e' := by omega
  have hii : i = i' := Fin.ext (by omega)
  have hkk : k = k' := Fin.ext (by omega)
  have hee : e = e' := by revert he; cases e <;> cases e' <;> decide
  rw [hee, hii, hkk]

/-- The events whose bits are set. -/
def DB (m : ℕ) : Done := {x | m.testBit (bitOf x) = true}

theorem DB_insert (m : ℕ) (x : Ev × Pt) : DB (m ||| 1 <<< bitOf x) = insert x (DB m) := by
  ext y
  show (m ||| 1 <<< bitOf x).testBit (bitOf y) = true ↔ y = x ∨ m.testBit (bitOf y) = true
  rw [Nat.testBit_or, Nat.one_shiftLeft, Nat.testBit_two_pow, Bool.or_eq_true, decide_eq_true_eq]
  constructor
  · rintro (h | h)
    · exact Or.inr h
    · exact Or.inl (bitOf_inj h.symm)
  · rintro (h | h)
    · exact Or.inr (by rw [h])
    · exact Or.inl h

def has (m : ℕ) (e : Ev) (i : Fin 31) (k : Fin 2) : Bool := m.testBit (62 * evCode e + (2 * i.val + k.val))

theorem has_mem {m : ℕ} {e : Ev} {i : Fin 31} {k : Fin 2} : has m e i k = true ↔ (e, (i, k)) ∈ DB m := Iff.rfl
theorem has_not {m : ℕ} {e : Ev} {i : Fin 31} {k : Fin 2} : has m e i k = false ↔ (e, (i, k)) ∉ DB m := by
  rw [← has_mem, Bool.not_eq_true]

/-- The slots of the hops up to a given one have been sent on, both ways round. -/
abbrev sentB (m : ℕ) (i : Fin 31) : Prop := ∀ i' : Fin 31, i'.val ≤ i.val → ∀ k : Fin 2, has m .sR i' k = true ∧ has m .sL i' k = true
theorem sentB_ok {m : ℕ} {i : Fin 31} (h : sentB m i) : sentUpTo (DB m) i := fun p hp => h p.1 hp p.2
abbrev nextB (m : ℕ) (e : Ev) (i : Fin 31) (k : Fin 2) : Prop := ∀ h : i.val + 1 < 31, has m e ⟨i.val + 1, h⟩ k = false
theorem nextB_ok {m : ℕ} {e : Ev} {i : Fin 31} {k : Fin 2} (h : nextB m e i k) : ∀ j : Fin 31, j.val = i.val + 1 → (e, (j, k)) ∉ DB m := by
  intro j hj
  have : j = ⟨i.val + 1, hj ▸ j.isLt⟩ := Fin.ext hj
  rw [this]; exact has_not.mp (h _)
abbrev waitLB (m : ℕ) (i : Fin 31) (k : Fin 2) : Prop := has m .wL i k = false ∧ nextB m .sL i k ∧ has m .cL i k = false ∧ sentB m i
theorem waitLB_ok {m : ℕ} {i : Fin 31} {k : Fin 2} (h : waitLB m i k) : okWaitL (DB m) i k :=
  ⟨has_not.mp h.1, nextB_ok h.2.1, has_not.mp h.2.2.1, sentB_ok h.2.2.2⟩

/-- What a step needs, on the bits. -/
def okB (m : ℕ) : Step → Bool
  | .waitR i k => decide (has m .wR i k = false ∧ nextB m .sR i k ∧ sentB m i)
  | .sendR i k => decide (has m .sR i k = false ∧ has m .fR i k = false ∧
      ∀ h : 0 < i.val, has m .wR ⟨i.val - 1, Nat.lt_of_le_of_lt (Nat.sub_le _ _) i.isLt⟩ k = true)
  | .useR i k => has m .wR i k
  | .waitL0 k => decide (waitLB m 0 k)
  | .waitL i k => decide (waitLB m i k)
  | .sendL i k => decide (has m .sL i k = false ∧ has m .fL i k = false ∧ 0 < i.val ∧
      has m .wL ⟨i.val - 1, Nat.lt_of_le_of_lt (Nat.sub_le _ _) i.isLt⟩ k = true)
  | .copyL i k => decide (has m .cL i k = false ∧ has m .dL i k = false ∧ has m .wL i k = true)
  | .waitC i k => decide (has m .cL i k = true ∧ has m .dL i k = false)
  | .useL i k => has m .dL i k
  | .sentR i k => decide (has m .sR i k = true ∧ has m .fR i k = false)
  | .sentL0 k => decide (has m .sL 0 k = true ∧ has m .fL 0 k = false)
  | .sentL i k => decide (has m .sL i k = true ∧ has m .fL i k = false)

theorem okB_ok {m : ℕ} {s : Step} (h : okB m s = true) : ok (DB m) s := by
  cases s with
  | waitR i k =>
    have h := of_decide_eq_true h
    exact ⟨has_not.mp h.1, nextB_ok h.2.1, sentB_ok h.2.2⟩
  | sendR i k =>
    have h := of_decide_eq_true h
    refine ⟨has_not.mp h.1, has_not.mp h.2.1, fun j hj => ?_⟩
    have : j = ⟨i.val - 1, Nat.lt_of_le_of_lt (Nat.sub_le _ _) i.isLt⟩ := Fin.ext (by show j.val = i.val - 1; omega)
    rw [this]; exact h.2.2 (by omega)
  | useR i k => exact h
  | waitL0 k => exact waitLB_ok (of_decide_eq_true h)
  | waitL i k => exact waitLB_ok (of_decide_eq_true h)
  | sendL i k =>
    have h := of_decide_eq_true h
    exact ⟨has_not.mp h.1, has_not.mp h.2.1, ⟨i.val - 1, Nat.lt_of_le_of_lt (Nat.sub_le _ _) i.isLt⟩,
      by show i.val = i.val - 1 + 1; have := h.2.2.1; omega, h.2.2.2⟩
  | copyL i k => have h := of_decide_eq_true h; exact ⟨has_not.mp h.1, has_not.mp h.2.1, h.2.2⟩
  | waitC i k => have h := of_decide_eq_true h; exact ⟨h.1, has_not.mp h.2⟩
  | useL i k => exact h
  | sentR i k => have h := of_decide_eq_true h; exact ⟨h.1, has_not.mp h.2⟩
  | sentL0 k => have h := of_decide_eq_true h; exact ⟨h.1, has_not.mp h.2⟩
  | sentL i k => have h := of_decide_eq_true h; exact ⟨h.1, has_not.mp h.2⟩

def afterB (m : ℕ) (s : Step) : ℕ := match evOf s with | some e => m ||| 1 <<< bitOf e | none => m
theorem afterB_eq (m : ℕ) (s : Step) : DB (afterB m s) = after (DB m) s := by
  unfold afterB after
  cases evOf s with
  | none => rfl
  | some e => exact DB_insert m e

/-- The steps one after another, on the bits: what is set at the end, if each has what it needs. -/
def runB : List Step → ℕ → Option ℕ
  | [], m => some m
  | s :: l, m => if okB m s then runB l (afterB m s) else none

theorem runB_ok : ∀ (l : List Step) (m m' : ℕ), runB l m = some m' → okAll (DB m) l ∧ l.foldl after (DB m) = DB m'
  | [], m, m', h => ⟨trivial, by cases h; rfl⟩
  | s :: l, m, m', h => by
    unfold runB at h
    split at h
    · rename_i hs
      have := runB_ok l _ _ h
      rw [afterB_eq] at this
      exact ⟨⟨okB_ok hs, this.1⟩, this.2⟩
    · cases h

/-- Both own slots are sent both ways before the first step. -/
def startMask : ℕ := (((0 ||| 1 <<< bitOf (.sR, 0, 0)) ||| 1 <<< bitOf (.sL, 0, 0)) ||| 1 <<< bitOf (.sR, 0, 1)) ||| 1 <<< bitOf (.sL, 0, 1)

theorem run_mask : runB allSteps startMask = some (2 ^ 496 - 1) := by decide +kernel

theorem DB_last : DB (2 ^ 496 - 1) = Set.univ := by
  refine Set.eq_univ_of_forall fun x => ?_
  show (2 ^ 496 - 1 : ℕ).testBit (bitOf x) = true
  rw [Nat.testBit_two_pow_sub_one, decide_eq_true_eq]
  obtain ⟨e, i, k⟩ := x
  have hi := i.isLt; have hk := k.isLt
  have he : evCode e ≤ 7 := by cases e <;> decide
  show 62 * evCode e + (2 * i.val + k.val) < 496
  omega

theorem run_ok : okAll (DB startMask) allSteps := (runB_ok _ _ _ run_mask).1
theorem run_last : allSteps.foldl after (DB startMask) = Set.univ := (runB_ok _ _ _ run_mask).2.trans DB_last

theorem DB_zero : DB 0 = ∅ := by
  refine Set.eq_empty_of_forall_notMem fun x h => ?_
  have h : (0 : ℕ).testBit (bitOf x) = true := h
  rw [Nat.zero_testBit] at h
  cases h

theorem DB_start : DB startMask = insert (Ev.sL, ((0 : Fin 31), (1 : Fin 2))) (insert (Ev.sR, ((0 : Fin 31), (1 : Fin 2)))
    (insert (Ev.sL, ((0 : Fin 31), (0 : Fin 2))) (insert (Ev.sR, ((0 : Fin 31), (0 : Fin 2))) (∅ : Done)))) := by
  unfold startMask
  rw [DB_insert, DB_insert, DB_insert, DB_insert, DB_zero]

end Cert.KernelIdeal

end

end
-- ==== Proof.Start.lean ====
module
public import proofs.«01_k».proof.Proof.Run
@[expose] public section

/-! # The slots dealt out, and the barrier

The whole buffers are their slots; those to be filled by a neighbour are handed over with the barrier's signals. -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

local notation "𝕄" => MT nD τ sig Unit (Elt F) ℕ UU ℕ

/-! ## Families over the hops -/

/-- Counted from the device itself, or from the last. -/
theorem fam_succ (Φ : Fin 32 × Fin 2 → sProp 𝕄) :
    bigSep Finset.univ Φ = iprop((bigSep Finset.univ fun k : Fin 2 => Φ (0, k)) ∗ bigSep Finset.univ fun p : Pt => Φ (p.1.succ, p.2)) := by
  rw [bigSep_univ_prod, bigSep_univ_prod, Fin.univ_succ, Finset.cons_eq_insert,
    bigSep_insert (by simp [Fin.succ_ne_zero]), bigSep_map]
  rfl
theorem fam_last (Φ : Fin 32 × Fin 2 → sProp 𝕄) :
    bigSep Finset.univ Φ = iprop((bigSep Finset.univ fun k : Fin 2 => Φ (Fin.last 31, k)) ∗ bigSep Finset.univ fun p : Pt => Φ (p.1.castSucc, p.2)) := by
  rw [bigSep_univ_prod, bigSep_univ_prod, Fin.univ_castSuccEmb, Finset.cons_eq_insert,
    bigSep_insert (by rw [Finset.mem_map]; rintro ⟨x, -, h⟩; exact Fin.castSucc_ne_last x h), bigSep_map]
  rfl

theorem lft_lft (c o : Dev nD) : lft c (lft c o.val).val = o := by
  apply Fin.ext; have := dev_lt c; have := dev_lt o
  show (c.val + 32 - (c.val + 32 - o.val % 32) % 32 % 32) % 32 = o.val; omega
theorem rgt_back (c o : Dev nD) : rgt c (lft o c.val).val = o := by
  apply Fin.ext; have := dev_lt c; have := dev_lt o
  show (c.val + (o.val + 32 - c.val % 32) % 32) % 32 = o.val; omega
theorem back_rgt (c g : Dev nD) : lft (rgt c g.val) c.val = g := by
  apply Fin.ext; have := dev_lt c; have := dev_lt g
  show ((c.val + g.val) % 32 + 32 - c.val % 32) % 32 = g.val; omega

/-- The slots counted from device `c`, to the left and to the right. -/
def fromL (c : Dev nD) : Fin 32 × Fin 2 ≃ Dev nD × Fin 2 where
  toFun q := (lft c q.1.val, q.2)
  invFun q := (lft c q.1.val, q.2)
  left_inv q := Prod.ext (lft_lft c q.1) rfl
  right_inv q := Prod.ext (lft_lft c q.1) rfl
def fromR (c : Dev nD) : Fin 32 × Fin 2 ≃ Dev nD × Fin 2 where
  toFun q := (rgt c q.1.val, q.2)
  invFun q := (lft q.1 c.val, q.2)
  left_inv q := Prod.ext (back_rgt c q.1) rfl
  right_inv q := Prod.ext (rgt_back c q.1) rfl

/-- A whole buffer is its slots. -/
theorem wholeR (c : Dev nD) (f : WBuf F) :
    (((c : Thread nD τ).loc cc0_scratch0) ↦{fullShare} f : sProp 𝕄) = bigSep Finset.univ fun q : Fin 32 × Fin 2 => ptR c (lft c q.1.val) q.2 fullShare f := by
  refine Eq.trans ?_ (bigSep_univ_equiv (fromL c) fun p => ptR c p.1 p.2 fullShare f)
  have h := pointsTo_biUnion (ℓ := (c : Thread nD τ).loc cc0_scratch0) (q := fullShare) (f := f) (Ix := Unit) (Name := ℕ) (U := UU) (Lvl := ℕ) Finset.univ
    (fun p : Dev nD × Fin 2 => slotSet p.1 p.2) fun p _ p' _ h => slot_disjoint p p' h
  rw [show Finset.univ.biUnion (fun p : Dev nD × Fin 2 => slotSet p.1 p.2) = Finset.univ from slot_cover] at h
  exact h
theorem wholeV (c : Dev nD) (f : WBuf F) :
    (((c : Thread nD τ).loc cc0_scratch1) ↦{fullShare} f : sProp 𝕄) = bigSep Finset.univ fun q : Fin 32 × Fin 2 => ptV c (rgt c q.1.val) q.2 fullShare f := by
  refine Eq.trans ?_ (bigSep_univ_equiv (fromR c) fun p => ptV c p.1 p.2 fullShare f)
  have h := pointsTo_biUnion (ℓ := (c : Thread nD τ).loc cc0_scratch1) (q := fullShare) (f := f) (Ix := Unit) (Name := ℕ) (U := UU) (Lvl := ℕ) Finset.univ
    (fun p : Dev nD × Fin 2 => slotSet p.1 p.2) fun p _ p' _ h => slot_disjoint p p' h
  rw [show Finset.univ.biUnion (fun p : Dev nD × Fin 2 => slotSet p.1 p.2) = Finset.univ from slot_cover] at h
  exact h
theorem wholeH (c : Dev nD) (f : WBuf F) :
    (((c : Thread nD τ).loc main_v1_1) ↦{fullShare} f : sProp 𝕄) = bigSep Finset.univ fun q : Fin 32 × Fin 2 => ptH c (rgt c q.1.val) q.2 fullShare f := by
  refine Eq.trans ?_ (bigSep_univ_equiv (fromR c) fun p => ptH c p.1 p.2 fullShare f)
  have h := pointsTo_biUnion (ℓ := (c : Thread nD τ).loc main_v1_1) (q := fullShare) (f := f) (Ix := Unit) (Name := ℕ) (U := UU) (Lvl := ℕ) Finset.univ
    (fun p : Dev nD × Fin 2 => slotSet p.1 p.2) fun p _ p' _ h => slot_disjoint p p' h
  rw [show Finset.univ.biUnion (fun p : Dev nD × Fin 2 => slotSet p.1 p.2) = Finset.univ from slot_cover] at h
  exact h

/-- What the barrier's signals hand over. -/
theorem dealR (c : Dev nD) (f : WBuf F) :
    (((c : Thread nD τ).loc cc0_scratch0) ↦{fullShare} f : sProp 𝕄)
      ⊢ iprop((bigSep Finset.univ fun k : Fin 2 => ptR c (lft c 0) k fullShare f) ∗ barPay (lft c 1) true) := by
  rw [wholeR, fam_succ]
  refine sep_mono_right (bigSep_mono fun p _ => ?_)
  rw [rgt_one_lft_one, lft_succ]
  show (ptR c (lft c (p.1.val + 1)) p.2 fullShare f : sProp 𝕄) ⊢ _
  iintro H
  iexists f; iexact H
theorem dealH (c : Dev nD) (f : WBuf F) :
    (((c : Thread nD τ).loc main_v1_1) ↦{fullShare} f : sProp 𝕄) ⊢ barPay (rgt c 1) false := by
  rw [wholeH, fam_succ]
  refine (show iprop(_ ∗ _) ⊢ _ from by iintro ⟨-, H⟩; iexact H).trans (bigSep_mono fun p _ => ?_)
  rw [lft_one_rgt_one, rgt_succ]
  show (ptH c (rgt c (p.1.val + 1)) p.2 fullShare f : sProp 𝕄) ⊢ _
  iintro H
  iexists f; iexact H
theorem dealV (c : Dev nD) (f : WBuf F) :
    (((c : Thread nD τ).loc cc0_scratch1) ↦{fullShare} f : sProp 𝕄)
      ⊢ iprop((bigSep Finset.univ fun k : Fin 2 => ptV c (rgt c 0) k fullShare f)
        ∗ bigSep Finset.univ fun p : Pt => iprop(∃ f, ptV c (rgt c (p.1.val + 1)) p.2 fullShare f)) := by
  rw [wholeV, fam_succ]
  refine sep_mono_right (bigSep_mono fun p _ => ?_)
  show (ptV c (rgt c (p.1.val + 1)) p.2 fullShare f : sProp 𝕄) ⊢ _
  iintro H
  iexists f; iexact H

/-! ## The barrier -/

section Bar
variable (W : Dev nD → Vec F S4x256x512 .bf16) (K : Dev nD × DCell → ℕ) (c : Dev nD)
variable {Q : PUnit.{1} → sProp (MT nD τ sig Unit (Elt F) ℕ UU ℕ)} {k : P F PUnit}

/-- What a device owes at launch: its two signals, and all its sends. -/
def O₁ (c : Dev nD) : CellTallies nD τ sig Unit := due c ∅ + tallyAt (gcell (rgt c 1, none)) () 1
def O₀ (c : Dev nD) : CellTallies nD τ sig Unit := O₁ c + tallyAt (gcell (lft c 1, none)) () 1

theorem wp_barrier (w : Waits sig Unit) :
    iprop(recs W K ∗ owes (c : Thread nD τ) (O₀ c) w
        ∗ dutyTok ER (gcell (lft c 1, none)) 0 true ∗ dutyTok ER (gcell (rgt c 1, none)) 0 false
        ∗ barPay (lft c 1) true ∗ barPay (rgt c 1) false
        ∗ atPos ER (gcell (c, none)) 0 ∅ 0 ∗ cred (tallyAt (gcell (c, none)) () 2))
      ⊢ (iprop((owesF c ∅ -∗ atPos ER (gcell (c, none)) (0 + 1) ∅ 0 -∗ barPay c false -∗ barPay c true
          -∗ wp frame (wpE (defs₀ (F := F)) 𝒱₀ (c : Thread nD τ) none) Set.univ k Q)
        -∗ wp frame (wpE (defs₀ (F := F)) 𝒱₀ (c : Thread nD τ) none) Set.univ (barrier c k) Q) : sProp 𝕄) := by
  have hd : ∀ d : Dev nD, (ringRd W).duties ((d : Thread nD τ), SemLoc.reg barSem) 0 = Finset.univ := duties_bar W
  have hp : ∀ (d : Dev nD) b, (ringRd W).payload ((d : Thread nD τ), SemLoc.reg barSem) 0 b = (barPay d b : sProp 𝕄) := fun d b => payload_bar W d 0 b
  have he : (ringRd W).expect ((c : Thread nD τ), SemLoc.reg barSem) 0 = 2 := expect_bar W c
  have hrest := rest_bar W c
  rw [show gcell (c, none) = ((c : Thread nD τ), SemLoc.reg barSem) from rfl] at hrest
  unfold barrier
  simp only [semSignalWord, semWaitWord, Prog.lift, Prog.bind_op, Prog.bind_ret, Prog.pure_eq_ret, leftOf_eq, rightOf_eq]
  iintro ⟨#HR, HO, HtL, HtR, HpL, HpR, Hat, Hcr⟩ Hk
  unfold O₀
  iapply (Rounds.wp_signal 𝒱₀ ER (ringRd W) (c : Thread nD τ) none (dst := (lft c 1 : Thread nD τ)) (κ := K (lft c 1, none))
      (d := true) (by rw [hd]; exact Finset.mem_univ _) ((amount_bar W (lft c 1) 0 true).trans (by decide)) () (O₁ c) rfl)
    $$ [HO HtL HpL]
  · isplitr; · iapply (inv_at W K (lft c 1, none)); iexact HR
    isplitl [HO]; · iexact HO
    isplitl [HtL]; · iexact HtL
    isplitl [HpL]; · iapply (Entails.of_eq (hp (lft c 1) true).symm); iexact HpL
    iapply (reached_at W K (lft c 1, none)); iexact HR
  iintro HO
  unfold O₁
  iapply (Rounds.wp_signal 𝒱₀ ER (ringRd W) (c : Thread nD τ) none (dst := (rgt c 1 : Thread nD τ)) (κ := K (rgt c 1, none))
      (d := false) (by rw [hd]; exact Finset.mem_univ _) ((amount_bar W (rgt c 1) 0 false).trans (by decide)) () (due c ∅) rfl)
    $$ [HO HtR HpR]
  · isplitr; · iapply (inv_at W K (rgt c 1, none)); iexact HR
    isplitl [HO]; · iexact HO
    isplitl [HtR]; · iexact HtR
    isplitl [HpR]; · iapply (Entails.of_eq (hp (rgt c 1) false).symm); iexact HpR
    iapply (reached_at W K (rgt c 1, none)); iexact HR
  iintro HO
  iapply (Rounds.wp_wait_rest_token 𝒱₀ ER (ringRd W) (c : Thread nD τ) none (κ := K (c, none))
      (wpE_semWait_eq 𝒱₀ (c : Thread nD τ) none Set.univ) (Set.mem_univ _) () (O := due c ∅) (W := w) (R := 0) (m := 0) (T := ∅)
      (by rw [he]; decide)) $$ [Hcr HO Hat]
  · isplitr; · iapply (inv_at W K (c, none)); iexact HR
    isplitl [Hcr]; · iexact Hcr
    isplitl [HO]; · iexact HO
    isplitr
    · iapply ((@recs_levs F _ W K).trans (mayWait (F := F) c ∅ none (fun p _ => by show 1 < _; omega))); iexact HR
    iexact Hat
  iintro ⟨HO, Hat, -, Hpay⟩
  ihave Hp := (Entails.of_eq hrest) $$ Hpay
  icases Hp with ⟨Hf, Ht⟩
  iapply Hk $$ [HO] [Hat] Hf Ht
  · unfold owesF
    iexists _; iexact HO
  · iexact Hat

end Bar

end Cert.KernelIdeal

end

end
-- ==== Proof.Prologue.lean ====
module
public import proofs.«01_k».proof.Proof.Start
public import Idealize.ShloMosaic.Lib.Pipeline.Value
@[expose] public section

/-! # Before the first hop

The device's own weights put into their slots, the gate computed and stored, the result cleared. -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

local notation "𝕄" => MT nD τ sig Unit (Elt F) ℕ UU ℕ

/-! ## The device's own weights -/

abbrev ownRect (j : Fin 4) : Rect S4x256x512 := Rect.unit (s := S4x256x512) ![j.val, 0, 0] S1x256x512.size (ownInb j)

theorem ix3_ext {i j : S4x256x512.Idx} (h0 : (i 0).val = (j 0).val) (h1 : (i 1).val = (j 1).val) (h2 : (i 2).val = (j 2).val) : i = j := by
  funext a; apply Fin.ext; fin_cases a
  · exact h0
  · exact h1
  · exact h2

/-- What is loaded of them is what their slots are to hold. -/
theorem own_val (W : Dev nD → Vec F S4x256x512 .bf16) (c o : Dev nD) (ho : o = c) (j : Fin 4) (k : Fin 2) (b : ℕ) (hb : j.val = b + k.val)
    (hl : b + k.val < 4) (x : S1x256x512.Idx) (h : ((slotRect o k).emb x 0).val / 2 < 32)
    (h' : b + ((slotRect o k).emb x 0).val % 2 < 4) :
    W c ((ownRect j).emb x) = W (⟨((slotRect o k).emb x 0).val / 2, h⟩ : Dev nD)
      (ix3 ⟨b + ((slotRect o k).emb x 0).val % 2, h'⟩ ((slotRect o k).emb x 1) ((slotRect o k).emb x 2)) := by
  subst ho
  have hx : (x 0).val < 1 := (x 0).isLt
  have hk := k.isLt
  have e0 : ((slotRect o k).emb x 0).val = 2 * o.val + k.val + 1 * (x 0).val := rfl
  have e1 : (⟨((slotRect o k).emb x 0).val / 2, h⟩ : Dev nD) = o := Fin.ext (by show ((slotRect o k).emb x 0).val / 2 = o.val; omega)
  rw [e1]
  refine congrArg (W o) (ix3_ext ?_ ?_ ?_)
  · show j.val + 1 * (x 0).val = b + ((slotRect o k).emb x 0).val % 2; omega
  · rfl
  · rfl

theorem own_R (W : Dev nD → Vec F S4x256x512 .bf16) (c : Dev nD) (k : Fin 2) :
    (Memref.whole cc0_stg3_0 : Memref sig .tc .vmem S4x256x512 .bf16).view.readAt (Elt F) (ownRect ⟨k.val, by omega⟩).toLoadRect (W c)
      = slotOf (GR W) (lft c 0) k :=
  funext fun x => own_val W c (lft c 0) (lft_zero c) ⟨k.val, by omega⟩ k 0 (Nat.zero_add _).symm (by omega) x
    (by have h : ((slotRect (lft c 0) k).emb x 0).val < 64 := ((slotRect (lft c 0) k).emb x 0).isLt; omega) (by omega) |>.trans (by
      unfold slotOf GR
      simp only [Nat.zero_add])
theorem own_L (W : Dev nD → Vec F S4x256x512 .bf16) (c : Dev nD) (k : Fin 2) :
    (Memref.whole cc0_stg3_0 : Memref sig .tc .vmem S4x256x512 .bf16).view.readAt (Elt F) (ownRect ⟨2 + k.val, by omega⟩).toLoadRect (W c)
      = slotOf (GL W) (rgt c 0) k :=
  funext fun x => own_val W c (rgt c 0) (rgt_zero c) ⟨2 + k.val, by omega⟩ k 2 rfl (by omega) x
    (by have h : ((slotRect (rgt c 0) k).emb x 0).val < 64 := ((slotRect (rgt c 0) k).emb x 0).isLt; omega) (by omega)

theorem off1_lft (c : Dev nD) (k : Fin 2) : k0_off1 c (BitVec.ofNat 32 k.val) = ![2 * (lft c 0).val + k.val, 0, 0] := by
  rw [k0_off1_eq, lft_zero]
theorem off1_rgt (c : Dev nD) (k : Fin 2) : k0_off1 c (BitVec.ofNat 32 k.val) = ![2 * (rgt c 0).val + k.val, 0, 0] := by
  rw [k0_off1_eq, rgt_zero]

/-- A staged input of a device. -/
abbrev stgPt (c : Dev nD) (b : Ref sig .tc) (X : b.ty.Contents (Elt F)) : sProp 𝕄 := ((c : Thread nD τ).loc b) ↦{fullShare} X

section Pro
variable (W : Dev nD → Vec F S4x256x512 .bf16) (K : Dev nD × DCell → ℕ) (c : Dev nD)
variable {Q : PUnit.{1} → sProp (MT nD τ sig Unit (Elt F) ℕ UU ℕ)} {T : P F PUnit}

theorem wp_ownCopy (k : Fin 2) (f g : WBuf F) :
    iprop(stgPt c cc0_stg3_0 (W c) ∗ ptR c (lft c 0) k fullShare f ∗ ptV c (rgt c 0) k fullShare g)
      ⊢ (iprop((stgPt c cc0_stg3_0 (W c) -∗ ptR c (lft c 0) k fullShare (GR W) -∗ ptV c (rgt c 0) k fullShare (GL W)
          -∗ wp frame (wpE (defs₀ (F := F)) 𝒱₀ (c : Thread nD τ) none) Set.univ T Q)
        -∗ wp frame (wpE (defs₀ (F := F)) 𝒱₀ (c : Thread nD τ) none) Set.univ (ownCopy R₀ c k T) Q) : sProp 𝕄) := by
  iintro ⟨HX, HR, HV⟩ Hk
  unfold ownCopy ptR ptV
  simp only [Prog.lift, Prog.bind_op, Prog.bind_ret]
  iapply (wp_load 𝒱₀ (c : Thread nD τ) none Set.univ (m := (Memref.whole cc0_stg3_0 : Memref sig .tc .vmem S4x256x512 .bf16)) (Finset.subset_univ _)) $$ HX; iintro HX
  iapply (wp_load 𝒱₀ (c : Thread nD τ) none Set.univ (m := bufR) (setOnR (Gen.k0_off1_inb c k) (off1_lft c k))) $$ HR; iintro HR
  iapply (wp_store 𝒱₀ (c : Thread nD τ) none Set.univ (m := bufR) (r := Rect.unit (s := S64x256x512) (k0_off1 c (BitVec.ofNat 32 k.val)) S1x256x512.size (Gen.k0_off1_inb c k))
    (Mk := Finset.univ) (by rw [View.setOn_univ]; exact (accR (Gen.k0_off1_inb c k) (off1_lft c k)).subset)) $$ HR; iintro HR
  iapply (wp_load 𝒱₀ (c : Thread nD τ) none Set.univ (m := (Memref.whole cc0_stg3_0 : Memref sig .tc .vmem S4x256x512 .bf16)) (Finset.subset_univ _)) $$ HX; iintro HX
  iapply (wp_load 𝒱₀ (c : Thread nD τ) none Set.univ (m := bufV) (setOnV (Gen.k0_off1_inb c k) (off1_rgt c k))) $$ HV; iintro HV
  iapply (wp_store 𝒱₀ (c : Thread nD τ) none Set.univ (m := bufV) (r := Rect.unit (s := S64x256x512) (k0_off1 c (BitVec.ofNat 32 k.val)) S1x256x512.size (Gen.k0_off1_inb c k))
    (Mk := Finset.univ) (by rw [View.setOn_univ]; exact (accV (Gen.k0_off1_inb c k) (off1_rgt c k)).subset)) $$ HV; iintro HV
  rw [shapeCast_shapeCast, shapeCast_shapeCast, own_R, own_L]
  iapply Hk $$ HX [HR] [HV]
  · iapply (Entails.of_eq (pointsTo_congr (writeR (Gen.k0_off1_inb c k) (off1_lft c k) (GR W) f))); iexact HR
  · iapply (Entails.of_eq (pointsTo_congr (writeV (Gen.k0_off1_inb c k) (off1_rgt c k) (GL W) g))); iexact HV

/-! ## The first sends -/

theorem wp_sendOwn (D : Done) (k : Fin 2) (h1 : (Ev.sR, ((0 : Fin 31), k)) ∉ D) (h2 : (Ev.fR, ((0 : Fin 31), k)) ∉ D)
    (h3 : (Ev.sL, ((0 : Fin 31), k)) ∉ D) (h4 : (Ev.fL, ((0 : Fin 31), k)) ∉ D) :
    iprop(recs W K ∗ Inv W c D)
      ⊢ (iprop((Inv W c (insert (Ev.sL, ((0 : Fin 31), k)) (insert (Ev.sR, ((0 : Fin 31), k)) D))
          -∗ wp frame (wpE (defs₀ (F := F)) 𝒱₀ (c : Thread nD τ) none) Set.univ T Q)
        -∗ wp frame (wpE (defs₀ (F := F)) 𝒱₀ (c : Thread nD τ) none) Set.univ (sendOwn R₀ c k T) Q) : sProp 𝕄) := by
  iintro ⟨#HR, HI⟩ Hk
  unfold sendOwn
  simp only [sendR, sendL0, Prog.lift, Prog.bind_op, Prog.bind_ret]
  iapply (wp_sendR W K c D (rightOf c) (rightOf_eq c) (0 : Fin 31) k rfl rfl h1 h2 (fun j hj => absurd hj (Nat.succ_ne_zero _))) $$ [HI]
  · isplitr; · iexact HR
    iexact HI
  iintro HI
  iapply (wp_sendL0 W K c (insert (Ev.sR, ((0 : Fin 31), k)) D) (leftOf c) (leftOf_eq c) k rfl rfl
    (fun h => h3 ((mem_ev D (by decide)).mp h)) (fun h => h4 ((mem_ev D (by decide)).mp h))) $$ [HI]
  · isplitr; · iexact HR
    iexact HI
  iexact Hk

/-! ## The gate -/

/-- Device `o`'s rows of the gate, and the whole of it. -/
def gateRow (g : FVec F S512x128 .f32) (o : Dev nD) : Vec F S1x512x4 .f32 :=
  shapeCast S1x512x4 (extractStridedSlice S512x4 ![0, 4 * o.val] g (rowSlices o)) Gen.shapeCasts_S512x4_S1x512x4
/-- The device a row of the gate's buffer belongs to. -/
def rowIx (i : S32x512x4.Idx) : Dev nD := i 0
def gateBuf (g : FVec F S512x128 .f32) : GBuf F := fun i => gateRow g (rowIx i) (ix3 0 (i 1) (i 2))

theorem gate_emb (o : Dev nD) (y : S1x512x4.Idx) : ((gateRect o).emb y 0 = o) ∧ (ix3 0 ((gateRect o).emb y 1) ((gateRect o).emb y 2) : S1x512x4.Idx) = y := by
  have hy : (y 0).val < 1 := (y 0).isLt
  refine ⟨Fin.ext ?_, funext fun a => Fin.ext ?_⟩
  · show o.val + 1 * (y 0).val = o.val; omega
  · fin_cases a
    · show 0 = (y 0).val; omega
    · show 0 + 1 * (y 1).val = (y 1).val; omega
    · show 0 + 1 * (y 2).val = (y 2).val; omega

theorem row_gateBuf (g : FVec F S512x128 .f32) (o : Dev nD) : rowOf (gateBuf g) o = gateRow g o := by
  funext y
  show gateRow g ((gateRect o).emb y 0) (ix3 0 ((gateRect o).emb y 1) ((gateRect o).emb y 2)) = gateRow g o y
  rw [(gate_emb o y).1, (gate_emb o y).2]

abbrev bufG : Memref sig .tc .vmem S32x512x4 .f32 := Memref.whole cc0_scratch2

theorem gate_set (o : Dev nD) : ((bufG.access (gateRect o)).set : Finset S32x512x4.Idx) = (gateRect o).set := View.set_slice_whole cc0_scratch2 _
theorem mem_gateRect {o : Dev nD} {i : S32x512x4.Idx} : i ∈ (gateRect o).set ↔ rowIx i = o := by
  rw [Rect.mem_set_unit]
  constructor
  · intro h
    have := h 0
    have h1 : o.val ≤ (rowIx i).val := this.1
    have h2 : (rowIx i).val < o.val + 1 := this.2
    exact Fin.ext (Nat.le_antisymm (Nat.lt_succ_iff.mp h2) h1)
  · rintro rfl a
    fin_cases a
    · exact ⟨Nat.le_refl _, Nat.lt_succ_self _⟩
    · exact ⟨Nat.zero_le _, by have : (i 1).val < 512 := (i 1).isLt; show (i 1).val < 0 + 512; omega⟩
    · exact ⟨Nat.zero_le _, by have : (i 2).val < 4 := (i 2).isLt; show (i 2).val < 0 + 4; omega⟩

/-- A row stored. -/
def putRow (g : FVec F S512x128 .f32) (G : GBuf F) (o : Dev nD) : GBuf F :=
  (bufG.access (gateRect o)).write (Elt F) G (gateRow g o) Finset.univ
open Classical in
theorem putRow_eq (g : FVec F S512x128 .f32) (G : GBuf F) (o : Dev nD) (i : S32x512x4.Idx) : putRow g G o i = if rowIx i = o then gateBuf g i else G i := by
  by_cases h : rowIx i = o
  · rw [if_pos h]
    have hi : i ∈ ((bufG.access (gateRect o)).set : Finset S32x512x4.Idx) := by rw [gate_set]; exact mem_gateRect.mpr h
    obtain ⟨y, rfl⟩ := emb_of_mem (bufG.access (gateRect o)) hi
    unfold putRow
    rw [View.write_emb_of_mem _ _ (Finset.mem_univ _)]
    exact (congrFun (row_gateBuf g o) y).symm
  · rw [if_neg h]
    unfold putRow
    refine View.write_of_not_mem _ _ _ ?_
    rw [View.setOn_univ, gate_set]
    exact fun h' => h (mem_gateRect.mp h')

open Classical in
theorem putRows_eq (g : FVec F S512x128 .f32) (i : S32x512x4.Idx) : ∀ (l : List (Dev nD)) (G : GBuf F),
    l.foldl (putRow g) G i = if rowIx i ∈ l then gateBuf g i else G i
  | [], G => by rw [if_neg List.not_mem_nil]; rfl
  | o :: l, G => by
    show l.foldl (putRow g) (putRow g G o) i = _
    rw [putRows_eq g i l, putRow_eq]
    by_cases h : rowIx i ∈ l
    · rw [if_pos h, if_pos (List.mem_cons_of_mem _ h)]
    · rw [if_neg h]
      by_cases h' : rowIx i = o
      · rw [if_pos h', if_pos (by rw [h']; exact List.mem_cons_self)]
      · rw [if_neg h', if_neg (by rw [List.mem_cons]; exact fun h'' => h''.elim h' h)]

theorem mem_lastFins : ∀ i : Fin 32, i ∈ lastFins 32 32 le_rfl := by decide
theorem putRows_all (g : FVec F S512x128 .f32) (G : GBuf F) : (lastFins 32 32 le_rfl).foldl (putRow g) G = gateBuf g :=
  funext fun i => by rw [putRows_eq, if_pos (mem_lastFins _)]

theorem wp_gateRows (g : FVec F S512x128 .f32) : ∀ (l : List (Dev nD)) (G : GBuf F),
    (gatePt c G : sProp 𝕄)
      ⊢ (iprop((gatePt c (l.foldl (putRow g) G) -∗ wp frame (wpE (defs₀ (F := F)) 𝒱₀ (c : Thread nD τ) none) Set.univ T Q)
        -∗ wp frame (wpE (defs₀ (F := F)) 𝒱₀ (c : Thread nD τ) none) Set.univ (gateRows R₀ g l T) Q) : sProp 𝕄)
  | [], G => by
    show _ ⊢ (iprop((gatePt c G -∗ _) -∗ _) : sProp 𝕄)
    iintro HG Hk
    iapply Hk $$ HG
  | o :: l, G => by
    iintro HG Hk
    unfold gateRows gatePt
    simp only [Prog.lift, Prog.bind_op, Prog.bind_ret]
    iapply (wp_load 𝒱₀ (c : Thread nD τ) none Set.univ (m := bufG) (Finset.subset_univ _)) $$ HG; iintro HG
    iapply (wp_store 𝒱₀ (c : Thread nD τ) none Set.univ (m := bufG) (r := gateRect o) (Mk := Finset.univ) (Finset.subset_univ _)) $$ HG; iintro HG
    iapply (wp_gateRows g l (putRow g G o)) $$ [HG]
    · unfold gatePt; iexact HG
    unfold gatePt
    iexact Hk

/-- A column of the routing. -/
def idxCol0 (X : Vec F S512x2 .i32) : Vec F S512x1 .i32 := fun x => X ((Rect.unit (s := S512x2) ![0, 0] S512x1.size Gen.inb_S512x2_S512x1_0_0).emb x)
def idxCol1 (X : Vec F S512x2 .i32) : Vec F S512x1 .i32 := fun x => X ((Rect.unit (s := S512x2) ![0, 1] S512x1.size Gen.inb_S512x2_S512x1_0_1).emb x)

/-- A device's gate from its tokens, the router and its routing. -/
def gateVal (x : Vec F S512x256 .bf16) (rw : Vec F S256x128 .bf16) (ix : Vec F S512x2 .i32) : FVec F S512x128 .f32 :=
  gateOf (probs x rw) (chosen (F := F) (idxCol0 ix)) (chosen (F := F) (idxCol1 ix))

/-- The cleared result. -/
def outZero : Vec F S512x512 .f32 := broadcast S512x512 (Scalar.ofBits .f32 0x00000000#32)

theorem readX (x : Vec F S512x256 .bf16) : (Memref.whole cc0_stg0_0 : Memref sig .tc .vmem S512x256 .bf16).view.readAt (Elt F)
    (Rect.unit (s := S512x256) ![0, 0] S512x256.size Gen.inb_S512x256_S512x256_0_0).toLoadRect x = x := Memref.readAt_unit_zero (Elt F) cc0_stg0_0 zero2 _ x
theorem readRw (x : Vec F S256x128 .bf16) : (Memref.whole cc0_stg1_0 : Memref sig .tc .vmem S256x128 .bf16).view.readAt (Elt F)
    (Rect.unit (s := S256x128) ![0, 0] S256x128.size Gen.inb_S256x128_S256x128_0_0).toLoadRect x = x := Memref.readAt_unit_zero (Elt F) cc0_stg1_0 zero2 _ x

theorem wp_gate (x : Vec F S512x256 .bf16) (rw' : Vec F S256x128 .bf16) (ix : Vec F S512x2 .i32) (G : GBuf F) (O : Vec F S512x512 .f32)
    {T : FVec F S512x256 .bf16 → P F PUnit} :
    iprop(stgPt c cc0_stg0_0 x ∗ stgPt c cc0_stg1_0 rw' ∗ stgPt c cc0_stg2_0 ix ∗ gatePt c G ∗ outPt c O)
      ⊢ (iprop((stgPt c cc0_stg0_0 x -∗ stgPt c cc0_stg1_0 rw' -∗ stgPt c cc0_stg2_0 ix -∗ gatePt c (gateBuf (gateVal x rw' ix)) -∗ outPt c outZero
          -∗ wp frame (wpE (defs₀ (F := F)) 𝒱₀ (c : Thread nD τ) none) Set.univ (T x) Q)
        -∗ wp frame (wpE (defs₀ (F := F)) 𝒱₀ (c : Thread nD τ) none) Set.univ (gate R₀ T) Q) : sProp 𝕄) := by
  iintro ⟨HX, HW, HI, HG, HO⟩ Hk
  unfold gate
  simp only [Prog.lift, Prog.bind_op, Prog.bind_ret]
  iapply (wp_load 𝒱₀ (c : Thread nD τ) none Set.univ (m := (Memref.whole cc0_stg0_0 : Memref sig .tc .vmem S512x256 .bf16)) (Finset.subset_univ _)) $$ HX; iintro HX
  rw [readX]
  iapply (wp_load 𝒱₀ (c : Thread nD τ) none Set.univ (m := (Memref.whole cc0_stg1_0 : Memref sig .tc .vmem S256x128 .bf16)) (Finset.subset_univ _)) $$ HW; iintro HW
  rw [readRw]
  iapply (wp_load 𝒱₀ (c : Thread nD τ) none Set.univ (m := (Memref.whole cc0_stg2_0 : Memref sig .tc .vmem S512x2 .i32)) (Finset.subset_univ _)) $$ HI; iintro HI
  iapply (wp_load 𝒱₀ (c : Thread nD τ) none Set.univ (m := (Memref.whole cc0_stg2_0 : Memref sig .tc .vmem S512x2 .i32)) (Finset.subset_univ _)) $$ HI; iintro HI
  iapply (wp_gateRows c _ (lastFins 32 32 le_rfl) G) $$ HG
  rw [putRows_all]
  iintro HG
  unfold outPt
  iapply (wp_load 𝒱₀ (c : Thread nD τ) none Set.univ (m := (Memref.whole cc0_stg4_0 : Memref sig .tc .vmem S512x512 .f32)) (Finset.subset_univ _)) $$ HO; iintro HO
  iapply (wp_store 𝒱₀ (c : Thread nD τ) none Set.univ (m := (Memref.whole cc0_stg4_0 : Memref sig .tc .vmem S512x512 .f32)) (r := rOut) (Mk := Finset.univ) (Finset.subset_univ _)) $$ HO; iintro HO
  rw [writeO, shapeCast_self]
  iapply Hk $$ HX HW HI [HG] [HO]
  · iexact HG
  · iexact HO

end Pro

end Cert.KernelIdeal

end

end
-- ==== Proof.Body.lean ====
module
public import proofs.«01_k».proof.Proof.Prologue
@[expose] public section

/-! # The body of one device, from its first state to its last -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

local notation "𝕄" => MT nD τ sig Unit (Elt F) ℕ UU ℕ

section Ends
variable (W : Dev nD → Vec F S4x256x512 .bf16) (K : Dev nD × DCell → ℕ) (c : Dev nD)

/-- The rights to send to the neighbours' cells. -/
def toksR (c : Dev nD) : sProp 𝕄 := bigSep Finset.univ fun p : Pt => dutyTok ER (gcell (rgt c 1, some (1, p))) 0 false
def toksL (c : Dev nD) : sProp 𝕄 := bigSep Finset.univ fun p : Pt => dutyTok ER (gcell (lft c 1, some (3, p))) 0 false

theorem bigSep_emp' {I : Type} [Fintype I] [DecidableEq I] {Φ : I → sProp 𝕄} (h : ∀ i, Φ i = iprop(emp)) : (iprop(emp) : sProp 𝕄) ⊢ bigSep Finset.univ Φ := by
  rw [show Φ = fun _ => iprop(emp) from funext h]
  exact BI.bigSep_of_persistent Finset.univ iprop(emp)

theorem outR_start : iprop(toksR c ∗ barPay c true) ⊢ (bigSep Finset.univ (outR c ∅) : sProp 𝕄) := by
  unfold toksR barPay
  rw [← bigSep_sep']
  exact Entails.of_eq (bigSep_congr fun p _ => by unfold outR; rw [if_neg (Set.notMem_empty _)])
theorem outL_start : iprop(toksL c ∗ barPay c false) ⊢ (bigSep Finset.univ (outL c ∅) : sProp 𝕄) := by
  unfold toksL barPay
  rw [← bigSep_sep']
  exact Entails.of_eq (bigSep_congr fun p _ => by unfold outL; rw [if_neg (Set.notMem_empty _)])

theorem slR_start : (bigSep Finset.univ fun k : Fin 2 => ptR c (lft c 0) k fullShare (GR W)) ⊢ (bigSep Finset.univ (slR W c ∅) : sProp 𝕄) := by
  rw [fam_succ (slR W c ∅)]
  have h1 : (bigSep Finset.univ fun k : Fin 2 => ptR c (lft c 0) k fullShare (GR W)) ⊢ (bigSep Finset.univ fun k : Fin 2 => slR W c ∅ (0, k) : sProp 𝕄) :=
    bigSep_mono fun k _ => by
      unfold slR
      rw [if_pos (show hasR ∅ (0, k) from fun i hi => absurd hi (Nat.succ_ne_zero _)), if_neg (show ¬ goneR ∅ (0, k) from fun ⟨i, _, hi⟩ => (Set.notMem_empty _) hi), ptR_halves]
      rfl
  have h2 : (iprop(emp) : sProp 𝕄) ⊢ bigSep Finset.univ fun p : Pt => slR W c ∅ (p.1.succ, p.2) :=
    bigSep_emp' fun p => by
      unfold slR
      rw [if_neg (show ¬ hasR ∅ (p.1.succ, p.2) from fun h => (Set.notMem_empty _) (h p.1 rfl))]
  iintro H
  isplitl [H]
  · iapply h1; iexact H
  · iapply h2; iempintro

theorem ownV_start : (bigSep Finset.univ fun k : Fin 2 => ptV c (rgt c 0) k fullShare (GL W)) ⊢ (bigSep Finset.univ (ownV W c ∅) : sProp 𝕄) :=
  Entails.of_eq (bigSep_congr fun k _ => by
    unfold ownV
    rw [if_neg (Set.notMem_empty _), ptV_halves])

theorem slV_start : (bigSep Finset.univ fun p : Pt => iprop(∃ f, ptV c (rgt c (p.1.val + 1)) p.2 fullShare f)) ⊢ (bigSep Finset.univ (slV W c ∅) : sProp 𝕄) :=
  Entails.of_eq (bigSep_congr fun p _ => by
    unfold slV
    rw [if_neg (Set.notMem_empty _), if_neg (Set.notMem_empty _)])

/-- The first state. -/
theorem inv_start :
    iprop(bigSep Finset.univ (cellF c ∅) ∗ toksR c ∗ toksL c ∗ barPay c true ∗ barPay c false
        ∗ (bigSep Finset.univ fun k : Fin 2 => ptR c (lft c 0) k fullShare (GR W))
        ∗ (bigSep Finset.univ fun k : Fin 2 => ptV c (rgt c 0) k fullShare (GL W))
        ∗ (bigSep Finset.univ fun p : Pt => iprop(∃ f, ptV c (rgt c (p.1.val + 1)) p.2 fullShare f)) ∗ owesF c ∅)
      ⊢ (Inv W c ∅ : sProp 𝕄) := by
  have hH : (iprop(emp) : sProp 𝕄) ⊢ bigSep Finset.univ (slH W c ∅) := bigSep_emp' fun p => if_neg (Set.notMem_empty _)
  have hbR : (iprop(emp) : sProp 𝕄) ⊢ bigSep Finset.univ (backR W c ∅) := bigSep_emp' fun p => if_neg (Set.notMem_empty _)
  have hbL : (iprop(emp) : sProp 𝕄) ⊢ bigSep Finset.univ (backL W c ∅) := bigSep_emp' fun p => if_neg (Set.notMem_empty _)
  have hbC : (iprop(emp) : sProp 𝕄) ⊢ bigSep Finset.univ (backC W c ∅) := bigSep_emp' fun p => if_neg (Set.notMem_empty _)
  unfold Inv
  iintro ⟨HC, HtR, HtL, HpR, HpL, HR, HV, HV', HO⟩
  isplitl [HC]; · iexact HC
  isplitl [HtR HpR]
  · iapply (outR_start c); isplitl [HtR] <;> iassumption
  isplitl [HtL HpL]
  · iapply (outL_start c); isplitl [HtL] <;> iassumption
  isplitl [HR]; · iapply (slR_start W c); iexact HR
  isplitl [HV]; · iapply (ownV_start W c); iexact HV
  isplitr; · iapply hH; iempintro
  isplitl [HV']; · iapply (slV_start W c); iexact HV'
  isplitr; · iapply hbR; iempintro
  isplitr; · iapply hbL; iempintro
  isplitr; · iapply hbC; iempintro
  iexact HO

/-! ## The last state -/

theorem endR : iprop(bigSep Finset.univ (slR W c Set.univ) ∗ bigSep Finset.univ (backR W c Set.univ))
    ⊢ (((c : Thread nD τ).loc cc0_scratch0) ↦{fullShare} GR W : sProp 𝕄) := by
  rw [wholeR, fam_last (slR W c Set.univ), fam_last fun q : Fin 32 × Fin 2 => ptR c (lft c q.1.val) q.2 fullShare (GR W)]
  have h1 : (bigSep Finset.univ fun k : Fin 2 => slR W c Set.univ (Fin.last 31, k))
      ⊢ (bigSep Finset.univ fun k : Fin 2 => ptR c (lft c (Fin.last 31).val) k fullShare (GR W) : sProp 𝕄) :=
    bigSep_mono fun k _ => by
      unfold slR
      rw [if_pos (show hasR Set.univ _ from fun i _ => Set.mem_univ _), if_neg (show ¬ goneR Set.univ (Fin.last 31, k) from fun ⟨i, hi, _⟩ => absurd hi (Nat.ne_of_lt i.isLt)), ptR_halves]
      rfl
  have h2 : iprop((bigSep Finset.univ fun p : Pt => slR W c Set.univ (p.1.castSucc, p.2)) ∗ bigSep Finset.univ (backR W c Set.univ))
      ⊢ (bigSep Finset.univ fun p : Pt => ptR c (lft c p.1.castSucc.val) p.2 fullShare (GR W) : sProp 𝕄) := by
    rw [← bigSep_sep']
    refine bigSep_mono fun p _ => ?_
    unfold slR backR
    rw [if_pos (show hasR Set.univ _ from fun i _ => Set.mem_univ _), if_pos (show goneR Set.univ (p.1.castSucc, p.2) from ⟨p.1, rfl, Set.mem_univ _⟩), if_pos (Set.mem_univ _), ptR_halves]
    show iprop((emp ∗ ptR c (lft c p.1.val) p.2 fullShare.right (GR W)) ∗ ptR c (lft c p.1.val) p.2 fullShare.left (GR W)) ⊢ _
    iintro ⟨⟨-, H⟩, H'⟩
    isplitl [H']; · iexact H'
    iexact H
  iintro ⟨⟨HL, HS⟩, HB⟩
  isplitl [HL]; · iapply h1; iexact HL
  iapply h2
  isplitl [HS] <;> iassumption

theorem endV : iprop(bigSep Finset.univ (ownV W c Set.univ) ∗ bigSep Finset.univ (slV W c Set.univ) ∗ bigSep Finset.univ (backL W c Set.univ))
    ⊢ (((c : Thread nD τ).loc cc0_scratch1) ↦{fullShare} GL W : sProp 𝕄) := by
  rw [wholeV, fam_succ fun q : Fin 32 × Fin 2 => ptV c (rgt c q.1.val) q.2 fullShare (GL W)]
  have hb : bigSep Finset.univ (backL W c Set.univ) ⊢ (bigSep Finset.univ fun k : Fin 2 => ptV c (rgt c 0) k fullShare.left (GL W) : sProp 𝕄) := by
    rw [bigSep_univ_prod, bigSep_univ_at (fun i : Fin 31 => bigSep Finset.univ fun k : Fin 2 => backL W c Set.univ (i, k)) 0]
    have h0 : (bigSep Finset.univ fun k : Fin 2 => backL W c Set.univ (0, k)) ⊢ (bigSep Finset.univ fun k : Fin 2 => ptV c (rgt c 0) k fullShare.left (GL W) : sProp 𝕄) :=
      Entails.of_eq (bigSep_congr fun k _ => by
        unfold backL
        rw [if_pos (Set.mem_univ _)]
        show (if (0 : Fin 31).val = 0 then ptV c (rgt c (0 : Fin 31).val) k fullShare.left (GL W)
          else ptH c (rgt c (0 : Fin 31).val) k fullShare.left (GL W) : sProp 𝕄) = _
        rw [if_pos (by decide)]
        rfl)
    show (iprop((bigSep Finset.univ fun k : Fin 2 => backL W c Set.univ (0, k)) ∗ _) : sProp 𝕄) ⊢ _
    iintro ⟨H, -⟩
    iapply h0; iexact H
  have h1 : iprop(bigSep Finset.univ (ownV W c Set.univ) ∗ bigSep Finset.univ fun k : Fin 2 => ptV c (rgt c 0) k fullShare.left (GL W))
      ⊢ (bigSep Finset.univ fun k : Fin 2 => ptV c (rgt c (0 : Fin 32).val) k fullShare (GL W) : sProp 𝕄) := by
    rw [← bigSep_sep']
    refine bigSep_mono fun k _ => ?_
    unfold ownV
    rw [if_pos (Set.mem_univ _), ptV_halves]
    show iprop((emp ∗ ptV c (rgt c 0) k fullShare.right (GL W)) ∗ ptV c (rgt c 0) k fullShare.left (GL W))
      ⊢ (iprop(ptV c (rgt c 0) k fullShare.left (GL W) ∗ ptV c (rgt c 0) k fullShare.right (GL W)) : sProp 𝕄)
    iintro ⟨⟨-, H⟩, H'⟩
    isplitl [H']; · iexact H'
    iexact H
  have h2 : bigSep Finset.univ (slV W c Set.univ) ⊢ (bigSep Finset.univ fun p : Pt => ptV c (rgt c p.1.succ.val) p.2 fullShare (GL W) : sProp 𝕄) :=
    bigSep_mono fun p _ => by
      unfold slV; rw [if_pos (Set.mem_univ _)]; rfl
  iintro ⟨HO, HS, HB⟩
  ihave HB := hb $$ HB
  isplitl [HO HB]
  · iapply h1; isplitl [HO] <;> iassumption
  iapply h2; iexact HS

theorem due_end : due c Set.univ = 0 := by
  unfold due
  rw [Finset.sum_congr rfl fun p _ => show dueR c Set.univ p = 0 from if_pos (Set.mem_univ _),
    Finset.sum_congr rfl fun p _ => show dueL c Set.univ p = 0 from if_pos (Set.mem_univ _), Finset.sum_const_zero, add_zero]

/-- All the cells' positions. -/
theorem cells_end : bigSep Finset.univ (cellF c Set.univ) ⊢ (bigSep Finset.univ fun x : XCell => atPos ER (gcell (c, some x)) (0 + 1) ∅ 0 : sProp 𝕄) :=
  bigSep_mono fun x _ => by
    unfold cellF
    rw [if_pos (show waited Set.univ x from Set.mem_univ _)]
    show (iprop(atPos ER (gcell (c, some x)) (0 + 1) ∅ 0 ∗ _) : sProp 𝕄) ⊢ _
    iintro ⟨H, -⟩
    iexact H

theorem inv_end : (Inv W c Set.univ : sProp 𝕄)
    ⊢ iprop((bigSep Finset.univ fun x : XCell => atPos ER (gcell (c, some x)) (0 + 1) ∅ 0)
      ∗ (((c : Thread nD τ).loc cc0_scratch0) ↦{fullShare} GR W) ∗ (((c : Thread nD τ).loc cc0_scratch1) ↦{fullShare} GL W)
      ∗ ∃ w : Waits sig Unit, owes (c : Thread nD τ) 0 w) := by
  unfold Inv owesF
  rw [due_end]
  iintro ⟨HC, -, -, HR, Hown, -, HV, HbR, HbL, -, HO⟩
  isplitl [HC]; · iapply (cells_end c); iexact HC
  isplitl [HR HbR]; · iapply (endR W c); isplitl [HR] <;> iassumption
  isplitl [Hown HV HbL]
  · iapply (endV W c)
    isplitl [Hown]; · iexact Hown
    isplitl [HV] <;> iassumption
  iexact HO

/-- The cells closed: their counters, at zero. -/
theorem close_all :
    iprop(recs W K ∗ (bigSep Finset.univ fun x : XCell => atPos ER (gcell (c, some x)) (0 + 1) ∅ 0))
      ⊢ |={Set.univ}=> (bigSep Finset.univ fun x : XCell => semVal (gcell (c, some x)) 0 : sProp 𝕄) := by
  refine BIBase.Entails.trans ?_ (bigSep_fupd _ _)
  refine (sep_mono_left (BI.bigSep_of_persistent (Finset.univ : Finset XCell) (recs W K))).trans ?_
  rw [← bigSep_sep']
  refine bigSep_mono fun x _ => ?_
  refine BIBase.Entails.trans ?_ (Rounds.cell_close ER (ringRd W) (Set.mem_univ (K (c, some x))) (fun h => h) (R := 0 + 1) (duties_later W (gcell (c, some x))))
  exact sep_mono_left (inv_at W K (c, some x))
theorem close_bar :
    iprop(recs W K ∗ atPos ER (gcell (c, none)) (0 + 1) ∅ 0) ⊢ |={Set.univ}=> (semVal (gcell (c, none)) 0 : sProp 𝕄) := by
  refine BIBase.Entails.trans ?_ (Rounds.cell_close ER (ringRd W) (Set.mem_univ (K (c, none))) (fun h => h) (R := 0 + 1) (duties_later W (gcell (c, none))))
  exact sep_mono_left (inv_at W K (c, none))

end Ends

/-! ## The products with the own weights -/

section Body
variable (W : Dev nD → Vec F S4x256x512 .bf16) (K : Dev nD × DCell → ℕ) (c : Dev nD)
variable (xb : FVec F S512x256 .bf16) (G : GBuf F)
variable {Q : PUnit.{1} → sProp (MT nD τ sig Unit (Elt F) ℕ UU ℕ)} {T : P F PUnit}

def ownOut (k : Fin 2) (O : Vec F S512x512 .f32) : Vec F S512x512 .f32 :=
  addExpert xb ⟨2 + k.val, by omega⟩ (slotOf (GL W) (rgt c 0) k) (rowOf G c)
    (addExpert xb ⟨k.val, by omega⟩ (slotOf (GR W) (lft c 0) k) (rowOf G c) O)

theorem wp_useOwn (D : Done) (k : Fin 2) (O : Vec F S512x512 .f32) :
    iprop(Inv W c D ∗ gatePt c G ∗ outPt c O)
      ⊢ (iprop((Inv W c D -∗ gatePt c G -∗ outPt c (ownOut W c xb G k O)
          -∗ wp frame (wpE (defs₀ (F := F)) 𝒱₀ (c : Thread nD τ) none) Set.univ T Q)
        -∗ wp frame (wpE (defs₀ (F := F)) 𝒱₀ (c : Thread nD τ) none) Set.univ (useOwn R₀ c xb k T) Q) : sProp 𝕄) := by
  iintro ⟨HI, HG, HO⟩ Hk
  have hread : (Inv W c D : sProp 𝕄) ⊢ iprop(ptR c (lft c 0) k fullShare.right (GR W) ∗ (ptR c (lft c 0) k fullShare.right (GR W) -∗ Inv W c D)) :=
    read_R W c D (0, k) fun j hj => absurd hj (Nat.succ_ne_zero _)
  unfold useOwn
  ihave HI := hread $$ HI
  icases HI with ⟨HP, HI⟩
  iapply (wp_use_R c xb G O (Gen.k0_off1_inb c k) (Gen.k0_off4_inb c) _ (off1_lft c k) (k0_off4_eq c) fullShare.right (GR W)) $$ [HP HG HO]
  · isplitl [HP]; · iexact HP
    isplitl [HG]; · iexact HG
    iexact HO
  iintro HP HG HO
  ihave HI := HI $$ HP
  ihave HI := (read_own W c D k) $$ HI
  icases HI with ⟨HP, HI⟩
  iapply (wp_use_V c xb G _ (Gen.k0_off1_inb c k) (Gen.k0_off4_inb c) _ (off1_rgt c k) (k0_off4_eq c) fullShare.right (GL W)) $$ [HP HG HO]
  · isplitl [HP]; · iexact HP
    isplitl [HG]; · iexact HG
    iexact HO
  iintro HP HG HO
  iapply Hk $$ [HI HP] HG [HO]
  · iapply HI $$ HP
  · unfold ownOut; iexact HO

/-- The result: the products of all the steps added up, from the own weights' on. -/
def outFin (x : Vec F S512x256 .bf16) (rw : Vec F S256x128 .bf16) (ix : Vec F S512x2 .i32) : Vec F S512x512 .f32 :=
  allSteps.foldl (outStep W c x (gateBuf (gateVal x rw ix)))
    (ownOut W c x (gateBuf (gateVal x rw ix)) 1 (ownOut W c x (gateBuf (gateVal x rw ix)) 0 outZero))

theorem bigSep_two (Φ : Fin 2 → sProp 𝕄) : bigSep Finset.univ Φ = iprop(Φ 0 ∗ Φ 1) := bigSep_univ_eq_bigSepL [0, 1] (by decide) (by decide) Φ

/-- What a device has of the protocol when its body starts. -/
def ghost : sProp 𝕄 :=
  iprop(recs W K ∗ bigSep Finset.univ (cellF c ∅) ∗ toksR c ∗ toksL c
    ∗ dutyTok ER (gcell (lft c 1, none)) 0 true ∗ dutyTok ER (gcell (rgt c 1, none)) 0 false
    ∗ atPos ER (gcell (c, none)) 0 ∅ 0 ∗ cred (tallyAt (gcell (c, none)) () 2))

theorem sound_body (x : Vec F S512x256 .bf16) (rw' : Vec F S256x128 .bf16) (ix : Vec F S512x2 .i32) (w : Waits sig Unit)
    (fR fV fH : WBuf F) (G₀ : GBuf F) (O : Vec F S512x512 .f32) :
    iprop(ghost W K c ∗ owes (c : Thread nD τ) (O₀ c) w
        ∗ (((c : Thread nD τ).loc cc0_scratch0) ↦{fullShare} fR) ∗ (((c : Thread nD τ).loc cc0_scratch1) ↦{fullShare} fV) ∗ gatePt c G₀
        ∗ (((c : Thread nD τ).loc main_v1_1) ↦{fullShare} fH)
        ∗ stgPt c cc0_stg0_0 x ∗ stgPt c cc0_stg1_0 rw' ∗ stgPt c cc0_stg2_0 ix ∗ stgPt c cc0_stg3_0 (W c) ∗ outPt c O)
      ⊢ (iprop(((bigSep Finset.univ fun y : XCell => semVal (gcell (c, some y)) 0) -∗ semVal (gcell (c, none)) 0
            -∗ (∃ w : Waits sig Unit, owes (c : Thread nD τ) 0 w)
            -∗ (((c : Thread nD τ).loc cc0_scratch0) ↦{fullShare} GR W) -∗ (((c : Thread nD τ).loc cc0_scratch1) ↦{fullShare} GL W)
            -∗ gatePt c (gateBuf (gateVal x rw' ix))
            -∗ stgPt c cc0_stg0_0 x -∗ stgPt c cc0_stg1_0 rw' -∗ stgPt c cc0_stg2_0 ix -∗ stgPt c cc0_stg3_0 (W c) -∗ outPt c (outFin W c x rw' ix)
            -∗ Q ⟨⟩)
        -∗ wp frame (wpE (defs₀ (F := F)) 𝒱₀ (c : Thread nD τ) none) Set.univ (bodyOf R₀) Q) : sProp 𝕄) := by
  rw [body_eq]
  unfold prologue ghost
  simp only [Prog.lift, Prog.bind_op, Prog.bind_ret, wp_deviceId]
  iintro ⟨⟨#HRec, HC, HtR, HtL, HtBL, HtBR, HaB, HcB⟩, HO, HR, HV, HG, HH, Hx, Hrw, Hix, HW, Hout⟩ Hk
  ihave HR := (dealR c fR) $$ HR
  icases HR with ⟨HR, HpR⟩
  ihave HpH := (dealH c fH) $$ HH
  iapply (wp_barrier W K c w) $$ [HO HtBL HtBR HpR HpH HaB HcB]
  · isplitr; · iexact HRec
    isplitl [HO]; · iexact HO
    isplitl [HtBL]; · iexact HtBL
    isplitl [HtBR]; · iexact HtBR
    isplitl [HpR]; · iexact HpR
    isplitl [HpH]; · iexact HpH
    isplitl [HaB] <;> iassumption
  iintro HO HaB HpL HpR
  ihave HV := (dealV c fV) $$ HV
  icases HV with ⟨HV, HV'⟩
  ihave HR := (Entails.of_eq (bigSep_two (F := F) _)) $$ HR
  icases HR with ⟨HR0, HR1⟩
  ihave HV := (Entails.of_eq (bigSep_two (F := F) _)) $$ HV
  icases HV with ⟨HV0, HV1⟩
  iapply (wp_ownCopy W c 0 fR fV) $$ [HW HR0 HV0]
  · isplitl [HW]; · iexact HW
    isplitl [HR0] <;> iassumption
  iintro HW HR0 HV0
  iapply (wp_ownCopy W c 1 fR fV) $$ [HW HR1 HV1]
  · isplitl [HW]; · iexact HW
    isplitl [HR1] <;> iassumption
  iintro HW HR1 HV1
  ihave HI := (inv_start W c) $$ [HC HtR HtL HpL HpR HR0 HR1 HV0 HV1 HV' HO]
  · isplitl [HC]; · iexact HC
    isplitl [HtR]; · iexact HtR
    isplitl [HtL]; · iexact HtL
    isplitl [HpR]; · iexact HpR
    isplitl [HpL]; · iexact HpL
    isplitl [HR0 HR1]
    · iapply (Entails.of_eq (bigSep_two (F := F) _).symm)
      isplitl [HR0] <;> iassumption
    isplitl [HV0 HV1]
    · iapply (Entails.of_eq (bigSep_two (F := F) _).symm)
      isplitl [HV0] <;> iassumption
    isplitl [HV'] <;> iassumption
  iapply (wp_sendOwn W K c ∅ 0 (Set.notMem_empty _) (Set.notMem_empty _) (Set.notMem_empty _) (Set.notMem_empty _)) $$ [HI]
  · isplitr; · iexact HRec
    iexact HI
  iintro HI
  have nm : ∀ e : Ev, (e, ((0 : Fin 31), (1 : Fin 2))) ∉ insert (Ev.sL, ((0 : Fin 31), (0 : Fin 2))) (insert (Ev.sR, ((0 : Fin 31), (0 : Fin 2))) (∅ : Done)) := by
    intro e h
    have hne : ∀ e' : Ev, (e, ((0 : Fin 31), (1 : Fin 2))) ≠ (e', ((0 : Fin 31), (0 : Fin 2))) := fun e' h' =>
      absurd (congrArg (fun y : Ev × Pt => y.2.2) h') (show (1 : Fin 2) ≠ 0 by decide)
    exact h.elim (hne _) fun h => h.elim (hne _) (Set.notMem_empty _)
  iapply (wp_sendOwn W K c _ 1 (nm _) (nm _) (nm _) (nm _)) $$ [HI]
  · isplitr; · iexact HRec
    iexact HI
  rw [← DB_start]
  iintro HI
  iapply (wp_gate c x rw' ix G₀ O) $$ [Hx Hrw Hix HG Hout]
  · isplitl [Hx]; · iexact Hx
    isplitl [Hrw]; · iexact Hrw
    isplitl [Hix]; · iexact Hix
    isplitl [HG] <;> iassumption
  iintro Hx Hrw Hix HG Hout
  iapply (wp_useOwn W c x (gateBuf (gateVal x rw' ix)) (DB startMask) 0 outZero) $$ [HI HG Hout]
  · isplitl [HI]; · iexact HI
    isplitl [HG] <;> iassumption
  iintro HI HG Hout
  iapply (wp_useOwn W c x (gateBuf (gateVal x rw' ix)) (DB startMask) 1 _) $$ [HI HG Hout]
  · isplitl [HI]; · iexact HI
    isplitl [HG] <;> iassumption
  iintro HI HG Hout
  iapply (wp_steps W K c x (gateBuf (gateVal x rw' ix)) allSteps _ (DB startMask) _ run_ok) $$ [HI HG Hout]
  · isplitr; · iexact HRec
    isplitl [HI]; · iexact HI
    isplitl [HG] <;> iassumption
  rw [run_last]
  iintro HI HG Hout
  ihave HI := (inv_end W c) $$ HI
  icases HI with ⟨HA, HR, HV, HO⟩
  imod (close_all W K c) $$ [HA] with HZ
  · isplitr; · iexact HRec
    iexact HA
  imod (close_bar W K c) $$ [HaB] with HZB
  · isplitr; · iexact HRec
    iexact HaB
  rw [Prog.pure_eq_ret, wp_ret]; imodintro
  iapply Hk $$ HZ HZB HO HR HV HG Hx Hrw Hix HW [Hout]
  unfold outFin; iexact Hout

end Body

end Cert.KernelIdeal

end

end
-- ==== Proof.Alloc.lean ====
module
public import proofs.«01_k».proof.Proof.Body
public import proofs.«01_k».proof.Proof.Gen.KernelIdeal.Launch
@[expose] public section

/-! # What the launch gives, dealt around the ring

The launch gives each device its semaphores at zero, fresh round records and the credit others owe it.
From these come the shared invariants, and each device's starting resources. -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Facts₀ Facts Gen

variable {F : FTy → Type} [FloatOps F]

local notation "𝕄" => MT nD τ sig Unit (Elt F) ℕ UU ℕ

/-! ## Cells and tokens -/

/-- One step to the right, as a permutation of the devices. -/
def ring : Dev nD ≃ Dev nD := ⟨fun c => rgt c 1, fun c => lft c 1, lft_one_rgt_one, rgt_one_lft_one⟩

def ringCells : Finset (GSem nD τ sig) := Finset.univ.map ⟨gcell, gcell_inj⟩

def tokOf (y : (Dev nD × DCell) × Bool) : GSem nD τ sig × ℕ × Bool := (gcell y.1, 0, y.2)
theorem tokOf_inj : Function.Injective tokOf := fun y z h =>
  Prod.ext (gcell_inj (congrArg Prod.fst h)) (congrArg (fun w : GSem nD τ sig × ℕ × Bool => w.2.2) h)
def ringToks : Finset (GSem nD τ sig × ℕ × Bool) := Finset.univ.map ⟨tokOf, tokOf_inj⟩

def u₀ : UU :=
  (initOf (Pipeline.cells cfgs Gen.cellOf_inj) (Pipeline.launchToks cfgs Gen.cellOf_inj), initOf ringCells ringToks)

section
variable (W : Dev nD → Vec F S4x256x512 .bf16) (K : Dev nD × DCell → ℕ) (c : Dev nD)

theorem bigSep_cell (Φ : DCell → sProp 𝕄) : bigSep Finset.univ Φ = iprop(Φ none ∗ bigSep Finset.univ fun x : XCell => Φ (some x)) := by
  have h : (Finset.univ : Finset DCell) = insert none (Finset.univ.map Function.Embedding.some) := by
    ext y; rcases y with _ | x <;> simp
  rw [h, bigSep_insert (by simp), bigSep_map]
  rfl

theorem fam_mono {Φ Ψ : Pt → sProp (MT nD τ sig Unit (Elt F) ℕ UU ℕ)} (h : ∀ p, Φ p ⊢ Ψ p) : bigSep Finset.univ Φ ⊢ bigSep Finset.univ Ψ :=
  bigSep_mono fun p _ => h p

theorem bigSep_five (Φ : XCell → sProp 𝕄) : bigSep Finset.univ Φ
    = iprop((bigSep Finset.univ fun p : Pt => Φ (0, p)) ∗ (bigSep Finset.univ fun p : Pt => Φ (1, p)) ∗ (bigSep Finset.univ fun p : Pt => Φ (2, p))
      ∗ (bigSep Finset.univ fun p : Pt => Φ (3, p)) ∗ (bigSep Finset.univ fun p : Pt => Φ (4, p))) := by
  rw [bigSep_univ_prod]
  exact bigSep_univ_eq_bigSepL [0, 1, 2, 3, 4] (by decide) (by decide) _

/-- The tokens of the cells of one device, and those of the transfers and signals it pays. -/
def toks : sProp 𝕄 := bigSep Finset.univ fun y : DCell => bigSep Finset.univ fun b : Bool => dutyTok ER (gcell (c, y)) 0 b

def tgt (a : Fin 5) : Dev nD ≃ Dev nD := ![Equiv.refl _, ring, Equiv.refl _, ring.symm, Equiv.refl _] a
def tgtE : Dev nD × XCell ≃ Dev nD × XCell where
  toFun y := (tgt y.2.1 y.1, y.2)
  invFun y := ((tgt y.2.1).symm y.1, y.2)
  left_inv y := Prod.ext ((tgt y.2.1).symm_apply_apply y.1) rfl
  right_inv y := Prod.ext ((tgt y.2.1).apply_symm_apply y.1) rfl

def payToks : sProp 𝕄 :=
  iprop(dutyTok ER (gcell (lft c 1, none)) 0 true ∗ dutyTok ER (gcell (rgt c 1, none)) 0 false
    ∗ bigSep Finset.univ fun x : XCell => dutyTok ER (gcell (tgt x.1 c, some x)) 0 false)

theorem toks_split : (toks c : sProp 𝕄) ⊢ iprop(dutyTok ER (gcell (c, none)) 0 true ∗ dutyTok ER (gcell (c, none)) 0 false
    ∗ bigSep Finset.univ fun x : XCell => dutyTok ER (gcell (c, some x)) 0 false) := by
  have h (y : DCell) : (bigSep Finset.univ fun b : Bool => (dutyTok ER (gcell (c, y)) 0 b : sProp 𝕄))
      = iprop(dutyTok ER (gcell (c, y)) 0 false ∗ dutyTok ER (gcell (c, y)) 0 true) :=
    bigSep_univ_eq_bigSepL [false, true] (by decide) (by decide) _
  unfold toks
  rw [bigSep_cell, h none, bigSep_congr (s := Finset.univ) fun (x : XCell) _ => h (some x), bigSep_sep']
  iintro ⟨⟨Hf, Ht⟩, Hx, -⟩
  isplitl [Ht]; · iexact Ht
  isplitl [Hf] <;> iassumption

theorem toks_around : (bigSep Finset.univ fun c : Dev nD => (toks c : sProp 𝕄)) ⊢ bigSep Finset.univ fun c : Dev nD => payToks c := by
  refine BIBase.Entails.trans (bigSep_mono fun c _ => toks_split c) ?_
  unfold payToks
  rw [bigSep_sep', bigSep_sep', bigSep_sep', bigSep_sep',
    bigSep_univ_equiv ring.symm (fun c : Dev nD => (dutyTok ER (gcell (c, none)) 0 true : sProp 𝕄)),
    bigSep_univ_equiv ring (fun c : Dev nD => (dutyTok ER (gcell (c, none)) 0 false : sProp 𝕄)),
    ← bigSep_univ_prod (fun y : Dev nD × XCell => (dutyTok ER (gcell (y.1, some y.2)) 0 false : sProp 𝕄)),
    bigSep_univ_equiv tgtE (fun y : Dev nD × XCell => (dutyTok ER (gcell (y.1, some y.2)) 0 false : sProp 𝕄)),
    ← bigSep_univ_prod (fun y : Dev nD × XCell => (dutyTok ER (gcell (tgt y.2.1 y.1, some y.2)) 0 false : sProp 𝕄))]
  iintro ⟨H1, H2, H3⟩
  isplitl [H1]; · iexact H1
  isplitl [H2]; · iexact H2
  iexact H3

/-! ## From the launch's element to the invariants -/

def dealt : sProp 𝕄 :=
  iprop((bigSep Finset.univ fun y : DCell => roundState ER (ringRd W) (gcell (c, y)) 0)
    ∗ (bigSep Finset.univ fun y : DCell => iprop(atPos ER (gcell (c, y)) 0 ∅ 0 ∗ reached ER (gcell (c, y)) 0)) ∗ toks c)

theorem fund_ring : BI.own (ER (initOf ringCells ringToks)) ⊢ (|==> bigSep Finset.univ (dealt W) : sProp 𝕄) := by
  have hX (Φ : GSem nD τ sig → sProp 𝕄) : bigSep ringCells Φ = bigSep Finset.univ fun c : Dev nD => bigSep Finset.univ fun y : DCell => Φ (gcell (c, y)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (ringRd W) ringCells ringToks) $$ HX with ⟨Hst, Hr, Hat, Htok⟩
  imodintro
  ihave Hst' := (Entails.of_eq (hX fun g => roundState ER (ringRd W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem unscopedSems0_eq : (unscopedSems0 c : sProp 𝕄) = semVal (gcell (c, none)) 0 := by
  unfold unscopedSems0; rw [bigSep_eq_bigSepL_of_eq [SemLoc.reg barSem] (by decide +kernel) (by decide)]; rfl

theorem ownSems0_eq : (Pipeline.ownSems0 (Ix := Unit) (Name := ℕ) (U := UU) (Lvl := ℕ) (Val := Elt F) (τ := τ) xsem c : sProp 𝕄)
    = bigSep Finset.univ fun x : XCell => semVal (gcell (c, some x)) 0 := rfl

theorem core_alloc :
    iprop(Pipeline.ownSems0 (Ix := Unit) (Name := ℕ) (U := UU) (Lvl := ℕ) (Val := Elt F) (τ := τ) xsem c ∗ unscopedSems0 c ∗ dealt W c)
      ⊢ |={Set.univ}=> (iprop((bigSep Finset.univ fun y : DCell => iprop(∃ κ : ℕ, cellInv ER (ringRd W) κ (gcell (c, y))))
          ∗ (bigSep Finset.univ fun y : DCell => iprop(atPos ER (gcell (c, y)) 0 ∅ 0 ∗ reached ER (gcell (c, y)) 0)) ∗ toks c) : sProp 𝕄) := by
  have hv : iprop(Pipeline.ownSems0 (Ix := Unit) (Name := ℕ) (U := UU) (Lvl := ℕ) (Val := Elt F) (τ := τ) xsem c ∗ unscopedSems0 c)
      ⊢ (bigSep Finset.univ fun y : DCell => semVal (gcell (c, y)) 0 : sProp 𝕄) := by
    rw [ownSems0_eq, unscopedSems0_eq, bigSep_cell]
    iintro ⟨Hx, Hb⟩
    isplitl [Hb] <;> iassumption
  have ha : iprop((bigSep Finset.univ fun y : DCell => semVal (gcell (c, y)) 0) ∗ bigSep Finset.univ fun y : DCell => roundState ER (ringRd W) (gcell (c, y)) 0)
      ⊢ (|={Set.univ}=> bigSep Finset.univ fun y : DCell => iprop(∃ κ : ℕ, cellInv ER (ringRd W) κ (gcell (c, y))) : sProp 𝕄) := by
    rw [← bigSep_sep']
    exact (bigSep_mono fun y _ => (Rounds.body_intro ER (ringRd W) (gcell (c, y))).trans inv_alloc).trans (bigSep_fupd _ _)
  unfold dealt
  iintro ⟨Hos, Hus, Hst, Hat, Htok⟩
  ihave Hv := hv $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

/-- What everyone then knows, and what is each device's own. -/
def records : sProp 𝕄 :=
  bigSep Finset.univ fun p : Dev nD × DCell => iprop(cellInv ER (ringRd W) (K p) (gcell p) ∗ reached ER (gcell p) 0)

instance records_persistent : BI.Persistent (records W K : sProp 𝕄) := by unfold records; infer_instance

def linear : sProp 𝕄 := iprop((bigSep Finset.univ fun y : DCell => atPos ER (gcell (c, y)) 0 ∅ 0) ∗ payToks c)

def share : sProp 𝕄 := iprop(∃ K, records W K ∗ linear c)

theorem bigSep_with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun y : DCell => iprop(∃ κ : ℕ, cellInv ER (ringRd W) κ (gcell (c, y))))
          ∗ (bigSep Finset.univ fun y : DCell => iprop(atPos ER (gcell (c, y)) 0 ∅ 0 ∗ reached ER (gcell (c, y)) 0)) ∗ toks c) : sProp 𝕄)
      ⊢ bigSep Finset.univ (share W) := by
  rw [bigSep_sep', bigSep_sep', ← bigSep_univ_prod (fun p : Dev nD × DCell => iprop(∃ κ : ℕ, cellInv ER (ringRd W) κ (gcell p))),
    bigSep_congr (s := Finset.univ) (fun (c : Dev nD) _ => bigSep_sep' Finset.univ (fun y : DCell => (atPos ER (gcell (c, y)) 0 ∅ 0 : sProp 𝕄)) (fun y => reached ER (gcell (c, y)) 0)),
    bigSep_sep', ← bigSep_univ_prod (fun p : Dev nD × DCell => (reached ER (gcell p) 0 : sProp 𝕄))]
  iintro ⟨HI, ⟨Hat, #HR⟩, Htok⟩
  ihave HK := (BI.bigSep_exists_pi Finset.univ (fun (p : Dev nD × DCell) (κ : ℕ) => (cellInv ER (ringRd W) κ (gcell p) : sProp 𝕄))) $$ HI
  icases HK with ⟨%K, #HI⟩
  ihave Htk := (toks_around (F := F)) $$ Htok
  iapply (bigSep_with_persistent (R := records W K) (Φ := linear) fun c _ => by
    unfold share; iintro H; iexists K; iexact H)
  isplitr
  · unfold records
    rw [bigSep_sep']
    isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) xsem c ∗ unscopedSems0 c ∗ dealt W c) : sProp 𝕄)
    ⊢ |={Set.univ}=> bigSep Finset.univ (share W) :=
  ((bigSep_mono fun c _ => core_alloc W c).trans (bigSep_fupd _ _)).trans (BI.fupd_mono (regroup W))

/-! ## The launch credit -/

/-- When device `d` owes `n` to one cell of the device a permutation names, each device gets a credit of `n`. -/
theorem one_cred (e : Dev nD ≃ Dev nD) (y : DCell) (n : ℕ) :
    (Pipeline.launchCred (fun d => tallyAt (gcell (e d, y)) () n) c : sProp 𝕄) ⊢ cred (tallyAt (gcell (c, y)) () n) := by
  refine BIBase.Entails.trans (Pipeline.launchCred_elim _ c (csem y)) (Entails.of_eq (congrArg cred ?_))
  unfold tallyAt
  refine congrArg (tallyOn (gcell (c, y))) (Finsupp.ext fun u => ?_)
  cases u
  rw [Pipeline.launchCredit_owing, Finsupp.single_eq_same, Finset.sum_eq_single (e.symm c)]
  · show tallyAt (gcell (e (e.symm c), y)) () n (gcell (c, y)) () = n
    rw [tallyAt_apply, e.apply_symm_apply, if_pos ⟨rfl, rfl⟩]
  · intro d _ hd
    show tallyAt (gcell (e d, y)) () n (gcell (c, y)) () = 0
    rw [tallyAt_apply, if_neg]
    rintro ⟨h, -⟩
    have h1 : c = e d := congrArg Prod.fst (gcell_inj h)
    exact hd (by rw [h1, e.symm_apply_apply])
  · intro h; exact absurd (Finset.mem_univ _) h

theorem sum_cred {I : Type} [DecidableEq I] (f : Dev nD → I → CellTallies nD τ sig Unit) (s : Finset I) :
    (Pipeline.launchCred (fun d => ∑ i ∈ s, f d i) c : sProp 𝕄) ⊢ bigSep s fun i => Pipeline.launchCred (fun d => f d i) c := by
  induction s using Finset.induction_on with
  | empty =>
    rw [BI.bigSep_empty, show (fun d : Dev nD => ∑ i ∈ (∅ : Finset I), f d i) = fun _ => 0 from funext fun d => Finset.sum_empty, Pipeline.launchCred_zero]
    rfl
  | insert i s hi ih =>
    rw [bigSep_insert hi, show (fun d : Dev nD => ∑ j ∈ insert i s, f d j) = fun d => f d i + ∑ j ∈ s, f d j from funext fun d => Finset.sum_insert hi,
      Pipeline.launchCred_add]
    exact sep_mono_right ih

theorem creds : (Pipeline.launchCred O₀ c : sProp 𝕄)
    ⊢ iprop(cred (tallyAt (gcell (c, none)) () 2) ∗ (bigSep Finset.univ fun p : Pt => cred (tallyAt (gcell (c, some (1, p))) () N))
      ∗ (bigSep Finset.univ fun p : Pt => cred (tallyAt (gcell (c, some (3, p))) () N))) := by
  have hO : O₀ = fun d : Dev nD => ((∑ p : Pt, tallyAt (gcell (ring d, some (1, p))) () N) + (∑ p : Pt, tallyAt (gcell (ring.symm d, some (3, p))) () N)
      + tallyAt (gcell (ring d, none)) () 1) + tallyAt (gcell (ring.symm d, none)) () 1 := by
    funext d
    have hR : ∀ p, dueR d ∅ p = tallyAt (gcell (ring d, some (1, p))) () N := fun p => if_neg (Set.notMem_empty _)
    have hL : ∀ p, dueL d ∅ p = tallyAt (gcell (ring.symm d, some (3, p))) () N := fun p => if_neg (Set.notMem_empty _)
    unfold O₀ O₁ due
    rw [Finset.sum_congr rfl fun p _ => hR p, Finset.sum_congr rfl fun p _ => hL p]
    rfl
  rw [hO, Pipeline.launchCred_add, Pipeline.launchCred_add, Pipeline.launchCred_add]
  iintro ⟨⟨⟨H1, H3⟩, Hb⟩, Hb'⟩
  ihave H1 := (sum_cred c (fun d (p : Pt) => tallyAt (gcell (ring d, some (1, p))) () N) Finset.univ) $$ H1
  ihave H3 := (sum_cred c (fun d (p : Pt) => tallyAt (gcell (ring.symm d, some (3, p))) () N) Finset.univ) $$ H3
  ihave Hb := (one_cred (F := F) c ring none 1) $$ Hb
  ihave Hb' := (one_cred (F := F) c ring.symm none 1) $$ Hb'
  isplitl [Hb Hb']
  · rw [← tallyAt_add (gcell (c, none)) () 1 1]
    iapply (cred_add _ _).2
    isplitl [Hb] <;> iassumption
  isplitl [H1]
  · iapply (fam_mono fun p : Pt => one_cred (F := F) c ring (some (1, p)) N); iexact H1
  · iapply (fam_mono fun p : Pt => one_cred (F := F) c ring.symm (some (3, p)) N); iexact H3

/-! ## Where the body starts -/

theorem cell_own (a : Fin 5) (e : Ev) (h : issueEv a = some e) (p : Pt) :
    iprop(atPos ER (gcell (c, some (a, p))) 0 ∅ 0 ∗ dutyTok ER (gcell (c, some (a, p))) 0 false) ⊢ (cellF c ∅ (a, p) : sProp 𝕄) := by
  have hw : ¬ waited ∅ (a, p) := Set.notMem_empty _
  have hi : ¬ issued ∅ (a, p) := fun hi => Set.notMem_empty _ (hi e h)
  unfold cellF
  rw [if_neg hw, if_neg (fun h' : issued ∅ (a, p) ∧ ¬ waited ∅ (a, p) => hi h'.1), if_neg hi]
  iintro ⟨H, H'⟩
  isplitl [H]; · iexact H
  isplitr [H']; · iempintro
  iexact H'

theorem cell_other (a : Fin 5) (h : issueEv a = none) (p : Pt) :
    iprop(atPos ER (gcell (c, some (a, p))) 0 ∅ 0 ∗ cred (tallyAt (gcell (c, some (a, p))) () N)) ⊢ (cellF c ∅ (a, p) : sProp 𝕄) := by
  have hw : ¬ waited ∅ (a, p) := Set.notMem_empty _
  have hi : issued ∅ (a, p) := fun e he => absurd (h.symm.trans he) (by simp)
  unfold cellF
  rw [if_neg hw, if_pos (show issued ∅ (a, p) ∧ ¬ waited ∅ (a, p) from ⟨hi, hw⟩), if_pos hi]
  iintro ⟨H, H'⟩
  isplitl [H]; · iexact H
  isplitl [H']; · iexact H'
  iempintro

theorem ghost_intro : iprop(levAts L lv ∗ Pipeline.launchCred O₀ c ∗ share W c) ⊢ (iprop(∃ K, ghost W K c) : sProp 𝕄) := by
  unfold share linear payToks
  rw [bigSep_cell, bigSep_five, bigSep_five]
  iintro ⟨Hlev, Hcr, ⟨%K, Hrec, ⟨HaB, Ha0, Ha1, Ha2, Ha3, Ha4⟩, HtL, HtR, Ht0, Ht1, Ht2, Ht3, Ht4⟩⟩
  ihave Hcr := (creds (F := F) c) $$ Hcr
  icases Hcr with ⟨HcB, Hc1, Hc3⟩
  iexists K
  unfold ghost recs
  isplitl [Hrec Hlev]
  · isplitl [Hrec]
    · unfold records; iexact Hrec
    iexact Hlev
  isplitl [Ha0 Ha1 Ha2 Ha3 Ha4 Ht0 Ht2 Ht4 Hc1 Hc3]
  · rw [bigSep_five]
    isplitl [Ha0 Ht0]
    · iapply (fam_mono fun p : Pt => cell_own (F := F) c 0 .sR rfl p); rw [bigSep_sep']
      isplitl [Ha0]; · iexact Ha0
      iexact Ht0
    isplitl [Ha1 Hc1]
    · iapply (fam_mono fun p : Pt => cell_other (F := F) c 1 rfl p); rw [bigSep_sep']
      isplitl [Ha1]; · iexact Ha1
      iexact Hc1
    isplitl [Ha2 Ht2]
    · iapply (fam_mono fun p : Pt => cell_own (F := F) c 2 .sL rfl p); rw [bigSep_sep']
      isplitl [Ha2]; · iexact Ha2
      iexact Ht2
    isplitl [Ha3 Hc3]
    · iapply (fam_mono fun p : Pt => cell_other (F := F) c 3 rfl p); rw [bigSep_sep']
      isplitl [Ha3]; · iexact Ha3
      iexact Hc3
    · iapply (fam_mono fun p : Pt => cell_own (F := F) c 4 .cL rfl p); rw [bigSep_sep']
      isplitl [Ha4]; · iexact Ha4
      iexact Ht4
  isplitl [Ht1]; · unfold toksR; iexact Ht1
  isplitl [Ht3]; · unfold toksL; iexact Ht3
  isplitl [HtL]; · iexact HtL
  isplitl [HtR]; · iexact HtR
  isplitl [HaB]; · iexact HaB
  iexact HcB

end

end Cert.KernelIdeal

end

end
-- ==== Proof.Launch.lean ====
module
public import proofs.«01_k».proof.Proof.Alloc
public import proofs.«01_k».proof.Proof.Gen.KernelIdeal.Points
public import Idealize.ShloMosaic.Lib.Pipeline.CollectiveSegs
@[expose] public section

/-! # The launch: what every run of the kernel ends in -/

noncomputable section

namespace Cert.KernelIdeal
open Idealize.ShloMosaic Idealize.SL.Sem
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat BodyObligation)
open Facts₀ Facts Gen

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What the body finds staged, and what it leaves -/

/-- A device's tokens, the router, the two experts of each token, and its weights. -/
def xIn (c : Dev nD) : Vec F S512x256 .bf16 := (win0_0.blk (0 : Fin 1)).view.read (Elt F) (m ((c : Thread nD τ).loc main_arg0))
def rIn (c : Dev nD) : Vec F S256x128 .bf16 := (win0_1.blk (0 : Fin 1)).view.read (Elt F) (m ((c : Thread nD τ).loc main_arg1))
def iIn (c : Dev nD) : Vec F S512x2 .i32 := (win0_2.blk (0 : Fin 1)).view.read (Elt F) (m ((c : Thread nD τ).loc main_arg2))
def wIn (c : Dev nD) : Vec F S4x256x512 .bf16 := (win0_3.blk (0 : Fin 1)).view.read (Elt F) (m ((c : Thread nD τ).loc main_arg3))

def outAt (c : Dev nD) : Vec F S512x512 .f32 := outFin (wIn m) c (xIn m c) (rIn m c) (iIn m c)

/-- Before the body: its share of the protocol and its scratch buffers at any contents; after: the semaphores at
    zero and the scratch buffers again. -/
def Φ₀ (c : Dev nD) : sProp 𝕄 :=
  iprop((∃ K, ghost (wIn m) K c) ∗ (∃ f, ((c : Thread nD τ).loc main_v1_1) ↦{fullShare} f)
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))
def Φ₁ (c : Dev nD) : sProp 𝕄 :=
  iprop((bigSep Finset.univ fun y : XCell => semVal (gcell (c, some y)) 0) ∗ semVal (gcell (c, none)) 0
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => rIn m c
    | ⟨2, _⟩ => iIn m c
    | ⟨3, _⟩ => wIn m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 :=
  iprop(Φ₁ c ∗ (dats m ρ 0 c).owesAt () t0_0.succ ∗ stg c cc0_stg0_0 (xIn m c) ∗ stg c cc0_stg1_0 (rIn m c)
    ∗ stg c cc0_stg2_0 (iIn m c) ∗ stg c cc0_stg3_0 (wIn m c) ∗ stg c cc0_stg4_0 (outAt m c))

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))

theorem before_0 (c : Dev nD) (d) : (dats m ρ 0 c).before (0 : Fin 5) t0_0 d = xIn m c := by
  unfold Dat.before; rw [if_pos (fetch0_0 t0_0)]; rfl
theorem before_1 (c : Dev nD) (d) : (dats m ρ 0 c).before (1 : Fin 5) t0_0 d = rIn m c := by
  unfold Dat.before; rw [if_pos (fetch0_1 t0_0)]; rfl
theorem before_2 (c : Dev nD) (d) : (dats m ρ 0 c).before (2 : Fin 5) t0_0 d = iIn m c := by
  unfold Dat.before; rw [if_pos (fetch0_2 t0_0)]; rfl
theorem before_3 (c : Dev nD) (d) : (dats m ρ 0 c).before (3 : Fin 5) t0_0 d = wIn m c := by
  unfold Dat.before; rw [if_pos (fetch0_3 t0_0)]; rfl

theorem body_run (c : Dev nD) : bodyPre m ρ c ⊢ wp frame (wpE (defs₀ (F := F)) 𝒱₀ (c : Thread nD τ) none) Set.univ (bodyOf R₀) (fun _ => bodyPost m ρ c) := by
  unfold bodyPre Φ₀ Dat.owesAt Pipeline.owesWithin
  simp only [before_0, before_1, before_2, before_3]
  iintro ⟨⟨⟨%K, Hg⟩, ⟨%fH, HH⟩, ⟨%fR, HR⟩, ⟨%fV, HV⟩, ⟨%G₀, HG⟩⟩, ⟨%w, -, Ho⟩, ⟨%dx, %gx, %hx, Hx⟩, ⟨%dr, %gr, %hr, Hr⟩, ⟨%di, %gi, %hi, Hi⟩, ⟨%dw, %gw, %hw, Hw⟩, ⟨%dO, %gO, %hO, HO⟩⟩
  subst hx; subst hr; subst hi; subst hw
  iapply (sound_body (wIn m) K c (xIn m c) (rIn m c) (iIn m c) w fR fV fH G₀ gO) $$ [Hg HH HR HV HG Ho Hx Hr Hi Hw HO]
  · isplitl [Hg]; · iexact Hg
    isplitl [Ho]; · iexact Ho
    isplitl [HR]; · iexact HR
    isplitl [HV]; · iexact HV
    isplitl [HG]; · unfold gatePt; iexact HG
    isplitl [HH]; · iexact HH
    isplitl [Hx]; · iexact Hx
    isplitl [Hr]; · iexact Hr
    isplitl [Hi]; · iexact Hi
    isplitl [Hw]; · iexact Hw
    unfold outPt; iexact HO
  unfold gatePt outPt
  iintro Hz Hzb ⟨%w', Ho⟩ HR HV HG Hx Hr Hi Hw HO
  unfold bodyPost Φ₁ Dat.owesAt Pipeline.owesWithin
  rw [show (dats m ρ 0 c).owed t0_0.succ = 0 from rfl]
  isplitl [Hz Hzb HR HV HG]
  · isplitl [Hz]; · iexact Hz
    isplitl [Hzb]; · iexact Hzb
    isplitl [HR]; · iexists _; iexact HR
    isplitl [HV]; · iexists _; iexact HV
    iexists _; iexact HG
  isplitl [Ho]
  · iexists w'
    isplitr; · ipureintro; exact fun _ _ => Or.inl trivial
    iexact Ho
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  iexists _; isplitr; · (ipureintro; rfl)
  iexact HO

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 100000 in
theorem called : (defs₀ (F := F) Proc.tc 0 (t0_0, cfg0.slots t0_0)) = bodyOf R₀ := rfl

set_option maxRecDepth 100000 in
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  have h := body_run m ρ c
  rw [← called] at h
  exact h

/-! ## The launch's side conditions -/

theorem stage_sem (w : Fin 5) (s : Fin (spec0 w).nbuf) : ((spec0 w).sem s).val < 5 := by revert s; revert w; decide

theorem ownSemFacts : Pipeline.OwnSemFacts cfg0.spec xsem where
  isScoped x := by revert x; decide +kernel
  inj := xsem_inj
  disj x w s h := by
    have h1 := semAt_val x
    have h2 := stage_sem w s
    rw [SemLoc.dma.inj h] at h1
    have h3 : ((cfg0.spec w).sem s).val < 5 := h2
    omega

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share (wIn m) c)
      ⊢ |={Set.univ}=> (iprop(((∃ K, ghost (wIn m) K c) ∗ (∃ f, ((c : Thread nD τ).loc main_v1_1) ↦{fullShare} f)) ∗ emp) : sProp 𝕄) := by
  iintro ⟨HH, Hlev, Hcr, -, Hs⟩
  imodintro
  isplitl
  · isplitl [Hlev Hcr Hs]
    · iapply (ghost_intro (wIn m) c)
      isplitl [Hlev]; · iexact Hlev
      isplitl [Hcr] <;> iassumption
    · ihave HH := (show (Pipeline.unscopedRestP Pipeline.Prefetch.none cfg0.spec c (fun b => m ((c : Thread nD τ).loc b)) : sProp 𝕄)
          ⊢ ((c : Thread nD τ).loc main_v1_1) ↦{fullShare} m ((c : Thread nD τ).loc main_v1_1) from by
            rw [Pipeline.unscopedRestP_none]; exact Entails.of_eq (unscopedRest0_eq c _)) $$ HH
      iexists _; iexact HH
  · iempintro

theorem phi0_intro (c : Dev nD) :
    iprop(((∃ K, ghost (wIn m) K c) ∗ (∃ f, ((c : Thread nD τ).loc main_v1_1) ↦{fullShare} f))
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨⟨Hg, HH⟩, -, HR⟩
  isplitl [Hg]; · iexact Hg
  isplitl [HH]; · iexact HH
  iexact HR

theorem phi1_exit (c : Dev nD) :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hz, Hb, HR⟩
  isplitl [Hb]; · iexact Hb
  isplitl [Hz]; · iexact Hz
  iexact HR

/-- The staging semaphores are below everything owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · have hpos : ∀ {g : GSem nD τ sig} {u : Unit}, 0 < O₀ c g u → ∃ p : Dev nD × DCell, g = gcell p ∧ 0 < lvOf (some p) := by
      intro g u hg
      unfold O₀ O₁ at hg
      rw [Pi.add_apply, Finsupp.add_apply, Pi.add_apply, Finsupp.add_apply, tallyAt_apply, tallyAt_apply] at hg
      by_cases h1 : g = gcell (rgt c 1, none)
      · exact ⟨_, h1, Nat.one_pos⟩
      by_cases h2 : g = gcell (lft c 1, none)
      · exact ⟨_, h2, Nat.one_pos⟩
      rw [if_neg fun h => h1 h.1, if_neg fun h => h2 h.1, Nat.add_zero] at hg
      obtain ⟨p, ⟨-, h⟩ | ⟨-, h⟩⟩ := due_pos c ∅ hg
      · exact ⟨_, h, Nat.succ_pos _⟩
      · exact ⟨_, h, Nat.succ_pos _⟩
    refine MayOwe.of_cut (L := L) (lev := lv) 0 (fun p hp => by rw [Finset.mem_singleton.mp hp, L_tc]; exact Finset.mem_singleton_self _)
      (fun g u hg => by obtain ⟨p, rfl, -⟩ := hpos hg; exact Finset.mem_singleton_self _)
      (fun p hp => by
        rw [Finset.mem_singleton.mp hp]
        show lvOf (whose ((c : Thread nD τ), .dma q)) ≤ 0
        rw [whose_stage c q hq]; exact le_rfl)
      (fun g u hg => by obtain ⟨p, rfl, h⟩ := hpos hg; rw [lv_gcell]; exact h)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution ends, each array at the computed contents and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () Gen.cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (wIn m)) (G' := share (wIn m)) (u₀ := u₀)
    (hu₀ := by
      unfold u₀
      iintro Hu
      ihave H := (ownU_pair _ _) $$ Hu
      icases H with ⟨HP, HX⟩
      imod (fund_ring (wIn m)) $$ HX with HG
      imodintro
      isplitl [HP] <;> iassumption)
    (hglob := glob (wIn m))
    (hA := fun _ _ => rfl) (hpf := fun _ k => k.elim0)
    (X := fun c => iprop((∃ K, ghost (wIn m) K c) ∗ (∃ f, ((c : Thread nD τ).loc main_v1_1) ↦{fullShare} f)))
    (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal

end

end
-- ==== Proof.Frames.lean ====
module
public import proofs.«01_k».proof.Defs
public import proofs.«01_k».proof.Proof.Launch
public import proofs.«01_k».proof.Proof.Gen.Kernel
public import proofs.«01_k».proof.Proof.Gen.ReferenceIdeal.Run
@[expose] public section

/-! # The frames

The kernel's arguments are its input windows' arrays, which a run leaves alone; the reference is
host operations that write none of its arguments.  The two printings of the kernel are the same
program, so one run serves both. -/

set_option synthInstance.maxSize 4096
noncomputable section

namespace Cert.KernelIdeal
open Idealize.ShloMosaic Idealize.SL.Sem
open Idealize.ShloMosaic.TcCoe
open Facts₀ Facts Gen
variable {F : FTy → Type} [FloatOps F]
variable {m : (ℓ : Loc nD τ sig) → Buf (Elt F) ℓ} {ρ : Dev nD → PrngReg}

/-- After a run the arguments are what they were. -/
theorem args_kept {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c 0).trans ((dats m ρ 0 c).arrAt_in (0 : Fin 5) rfl _), (h c 1).trans ((dats m ρ 0 c).arrAt_in (1 : Fin 5) rfl _),
    (h c 2).trans ((dats m ρ 0 c).arrAt_in (2 : Fin 5) rfl _), (h c 3).trans ((dats m ρ 0 c).arrAt_in (3 : Fin 5) rfl _)⟩

variable (m ρ) in
/-- A run of the kernel, whatever the floats are. -/
theorem kept : θ_run Cert.KernelIdeal.defs (onTc (τ := τ) (Cert.KernelIdeal.main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run Cert.KernelIdeal.defs _ _).mono (fun _ h => ⟨fun c => args_kept h.1 c, h.2⟩) (run_main (F := F) m ρ)

/-- The kernel read over the extended reals. -/
theorem frame_ideal : Cert.quiescent_KernelIdeal := fun m ρ _ => kept m ρ

set_option smartUnfolding false in
set_option maxRecDepth 100000 in
/-- The kernel itself. -/
theorem frame_kernel : Cert.quiescent_Kernel := fun m ρ _ => kept (F := Bits) m ρ

end Cert.KernelIdeal

namespace Cert.ReferenceIdeal
open Idealize.ShloMosaic Idealize.SL.Sem

/-- The reference has no semaphores. -/
theorem no_sems {α : Type} (f g : GSem nD τ sig → α) : f = g := by
  funext x
  rcases x with ⟨_, s⟩
  rcases s with s | s <;> exact s.elim0

/-- The reference. -/
theorem frame_reference : Cert.quiescent_ReferenceIdeal := fun m ρ _ =>
  (θ_run Cert.ReferenceIdeal.defs _ _).mono (fun _ h => ⟨fun c => (h c).2, by exact no_sems _ _⟩) (Cert.ReferenceIdeal.Value.run (F := Ideal) m ρ)

end Cert.ReferenceIdeal

end

end
-- ==== Proof.Row.lean ====
module
public import Idealize.ShloMosaic.Lib.Pointwise
public import Idealize.ShloMosaic.Lib.IdealHost
@[expose] public section

/-! # One token's arithmetic

The softmax of one row of scores, and the sum over all experts that only the two chosen ones enter.
Over the extended reals: with real scores every probability is a positive real, so the two gates are
reals and may be taken out of the sums, whatever the weights are. -/

noncomputable section

namespace Cert.Row
open Idealize.ShloMosaic

/-- A token's scores. -/
def scores (x : Fin 256 → EReal) (r : Fin 256 → Fin 128 → EReal) (e : Fin 128) : EReal := ∑ d, x d * r d e

/-- The greatest score, `-∞` the neutral start. -/
def top (s : Fin 128 → EReal) : EReal := Finset.fold max (Ideal.ofBits FTy.f32 0xFF800000#32) s Finset.univ

/-- The softmax. -/
def prob (s : Fin 128 → EReal) (e : Fin 128) : EReal := Ideal.div (Ideal.exp (s e - top s)) (∑ k, Ideal.exp (s k - top s))

/-! ## Real inputs give positive real probabilities -/

def IsReal (a : EReal) : Prop := ∃ r : ℝ, a = r
def IsPos (a : EReal) : Prop := ∃ r : ℝ, 0 < r ∧ a = r

theorem IsPos.isReal {a : EReal} (h : IsPos a) : IsReal a := let ⟨r, _, e⟩ := h; ⟨r, e⟩
theorem IsReal.mul {a b : EReal} : IsReal a → IsReal b → IsReal (a * b) := by
  rintro ⟨x, rfl⟩ ⟨y, rfl⟩; exact ⟨x * y, (EReal.coe_mul x y).symm⟩
theorem IsReal.add {a b : EReal} : IsReal a → IsReal b → IsReal (a + b) := by
  rintro ⟨x, rfl⟩ ⟨y, rfl⟩; exact ⟨x + y, (EReal.coe_add x y).symm⟩
theorem IsReal.sub {a b : EReal} : IsReal a → IsReal b → IsReal (a - b) := by
  rintro ⟨x, rfl⟩ ⟨y, rfl⟩; exact ⟨x - y, (EReal.coe_sub x y).symm⟩
theorem IsPos.add {a b : EReal} : IsPos a → IsPos b → IsPos (a + b) := by
  rintro ⟨x, hx, rfl⟩ ⟨y, hy, rfl⟩; exact ⟨x + y, by positivity, (EReal.coe_add x y).symm⟩

theorem isReal_sum {n : ℕ} (f : Fin n → EReal) (h : ∀ i, IsReal (f i)) : IsReal (∑ i, f i) :=
  Finset.sum_induction f IsReal (fun _ _ => IsReal.add) ⟨0, rfl⟩ fun i _ => h i

theorem isPos_sum {n : ℕ} [NeZero n] (f : Fin n → EReal) (h : ∀ i, IsPos (f i)) : IsPos (∑ i, f i) :=
  Finset.sum_induction_nonempty f IsPos (fun _ _ => IsPos.add) Finset.univ_nonempty fun i _ => h i

theorem isPos_exp {a : EReal} : IsReal a → IsPos (Ideal.exp a) := by
  rintro ⟨x, rfl⟩; exact ⟨Real.exp x, Real.exp_pos x, rfl⟩

theorem div_eq {a b : EReal} (hb : IsPos b) : Ideal.div a b = a * b⁻¹ := by
  obtain ⟨y, hy, rfl⟩ := hb
  unfold Ideal.div
  rw [if_neg (by exact_mod_cast hy.ne')]

theorem isPos_div {a b : EReal} (ha : IsPos a) (hb : IsPos b) : IsPos (Ideal.div a b) := by
  rw [div_eq hb]
  obtain ⟨x, hx, rfl⟩ := ha; obtain ⟨y, hy, rfl⟩ := hb
  exact ⟨x * y⁻¹, by positivity, by rw [EReal.coe_mul, EReal.coe_inv]⟩

theorem zero_div {b : EReal} (hb : IsPos b) : Ideal.div 0 b = 0 := by rw [div_eq hb, zero_mul]

theorem bot_of_bits : Ideal.ofBits FTy.f32 0xFF800000#32 = ⊥ := by
  simp [Ideal.ofBits, Ideal.ieee]

theorem isReal_top (s : Fin 128 → EReal) (h : ∀ e, IsReal (s e)) : IsReal (top s) := by
  unfold top
  rw [bot_of_bits]
  have key : ∀ S : Finset (Fin 128), S.Nonempty → IsReal (Finset.fold max ⊥ s S) := by
    intro S hS
    induction hS using Finset.Nonempty.cons_induction with
    | singleton a => simpa using h a
    | cons a S ha hS ih =>
      rw [Finset.fold_cons]
      rcases max_choice (s a) (Finset.fold max ⊥ s S) with e | e <;> rw [e]
      · exact h a
      · exact ih
  exact key _ Finset.univ_nonempty

theorem isPos_prob (s : Fin 128 → EReal) (h : ∀ e, IsReal (s e)) (e : Fin 128) : IsPos (prob s e) :=
  isPos_div (isPos_exp ((h e).sub (isReal_top s h))) (isPos_sum _ fun k => isPos_exp ((h k).sub (isReal_top s h)))

/-! ## Two experts of all -/

/-- The gate of an expert: its probability if it is one of the two chosen, over the sum of the two. -/
def gate (p : Fin 128 → EReal) (a b e : Fin 128) : EReal :=
  Ideal.div (p e * (if e = a ∨ e = b then 1 else 0)) (p a + p b)

/-- A positive real factor comes out of a sum. -/
theorem mul_sum {n : ℕ} {g : EReal} (hg : IsPos g) (f : Fin n → EReal) : (∑ d, g * f d) = g * ∑ d, f d := by
  obtain ⟨r, hr, rfl⟩ := hg
  refine (Finset.sum_hom_rel (r := fun a b => a = (r : EReal) * b) (by simp) ?_ (s := Finset.univ) (f := fun d => (r : EReal) * f d) (g := f))
  intro d a b hab
  rw [hab, EReal.left_distrib_of_nonneg_of_ne_top (by exact_mod_cast hr.le) (EReal.coe_ne_top r)]

/-- The sum over all experts of the gated products is the sum of the chosen two. -/
theorem two_of_all (p : Fin 128 → EReal) (hp : ∀ e, IsPos (p e)) (a b : Fin 128) (hab : a ≠ b) (x : Fin 256 → EReal) (w : Fin 128 → Fin 256 → EReal) :
    (∑ e, ∑ d, x d * gate p a b e * w e d)
      = Ideal.div (p a) (p a + p b) * (∑ d, x d * w a d) + Ideal.div (p b) (p a + p b) * (∑ d, x d * w b d) := by
  have hs : IsPos (p a + p b) := (hp a).add (hp b)
  have one : ∀ e, e = a ∨ e = b → (∑ d, x d * gate p a b e * w e d) = Ideal.div (p e) (p a + p b) * ∑ d, x d * w e d := by
    intro e he
    rw [← mul_sum (isPos_div (hp e) hs)]
    refine Finset.sum_congr rfl fun d _ => ?_
    unfold gate
    rw [if_pos he, mul_one, mul_comm (x d), mul_assoc]
  rw [Finset.sum_eq_add a b hab]
  · rw [one a (.inl rfl), one b (.inr rfl)]
  · intro e _ he
    refine Finset.sum_eq_zero fun d _ => ?_
    unfold gate
    rw [if_neg (by tauto), mul_zero, zero_div hs, mul_zero, zero_mul]
  · intro h; exact absurd (Finset.mem_univ _) h
  · intro h; exact absurd (Finset.mem_univ _) h

end Cert.Row
end
end
-- ==== Proof.KernelValue.lean ====
module
public import proofs.«01_k».proof.Proof.Body
public import proofs.«01_k».proof.Proof.Row
@[expose] public section

/-! # What a device's result is, element by element

Every step of the kernel's value is read at a token and a column; the order in which the ring brings
the experts round no longer matters. -/

noncomputable section

namespace Cert.KernelIdeal
open Idealize.ShloMosaic Idealize.SL.Sem
open Facts₀ Facts

/-! ## The gate -/

/-- Token `t`'s scores. -/
def rowScores (x : FVec Ideal S512x256 .bf16) (rw : FVec Ideal S256x128 .bf16) (t : Fin 512) : Fin 128 → EReal :=
  Row.scores (fun d => x (ix2 t d)) (fun d e => rw (ix2 d e))

theorem probs_apply (x : FVec Ideal S512x256 .bf16) (rw : FVec Ideal S256x128 .bf16) (t : Fin 512) (e : Fin 128) :
    probs x rw (ix2 t e) = Row.prob (rowScores x rw t) e := by
  pointwise [probs]
  rfl

theorem same_word : ∀ e a : Fin 128, IntOp.cmpi CmpIPredicate.eq (BitVec.ofNat 32 e.val) (BitVec.ofNat 32 a.val) = BitVec.ofBool (decide (e = a)) := by
  intro e a
  by_cases h : e = a
  · subst h; simp [IntOp.cmpi]
  · have hne : BitVec.ofNat 32 e.val ≠ BitVec.ofNat 32 a.val := fun q => h (Fin.ext (by
      have q' := congrArg BitVec.toNat q
      simp only [BitVec.toNat_ofNat] at q'
      omega))
    simp only [IntOp.cmpi, beq_eq_false_iff_ne.mpr hne, h, decide_false]

theorem chosen_apply (v : IVec S512x1 32) (t : Fin 512) (a e : Fin 128) (h : v (ix2 t 0) = BitVec.ofNat 32 a.val) :
    chosen (F := Ideal) v (ix2 t e) = BitVec.ofBool (decide (e = a)) := by
  pointwise [chosen]
  rw [h]
  exact same_word e a

theorem picked_apply (p : FVec Ideal S512x128 .f32) (c : IVec S512x128 1) (t : Fin 512) (a : Fin 128)
    (h : ∀ e, c (ix2 t e) = BitVec.ofBool (decide (e = a))) : picked p c (ix2 t 0) = p (ix2 t a) := by
  pointwise [picked]
  rw [Finset.sum_eq_single a]
  · rw [h, decide_eq_true rfl]; rfl
  · intro e _ he; rw [h, decide_eq_false he]; rfl
  · intro h; exact absurd (Finset.mem_univ _) h

theorem one_word : FloatOps.sitofp (F := Ideal) FTy.f32 1#32 = (1 : EReal) := by
  show (((1#32 : BitVec 32).toInt : ℝ) : EReal) = 1
  simp
theorem zero_word : FloatOps.sitofp (F := Ideal) FTy.f32 0#32 = (0 : EReal) := by
  show (((0#32 : BitVec 32).toInt : ℝ) : EReal) = 0
  simp

theorem mask_word (p q : Prop) [Decidable p] [Decidable q] :
    FloatOps.sitofp (F := Ideal) FTy.f32 (BitVec.setWidth 32 (IntOp.ori (BitVec.ofBool (decide p)) (BitVec.ofBool (decide q)))) = if p ∨ q then 1 else 0 := by
  by_cases hp : p <;> by_cases hq : q <;> simp [hp, hq, IntOp.ori]
  all_goals first
    | exact one_word
    | exact zero_word

theorem gateOf_apply (p : FVec Ideal S512x128 .f32) (c c' : IVec S512x128 1) (t : Fin 512) (a b e : Fin 128)
    (h : ∀ e, c (ix2 t e) = BitVec.ofBool (decide (e = a))) (h' : ∀ e, c' (ix2 t e) = BitVec.ofBool (decide (e = b))) :
    gateOf p c c' (ix2 t e) = Row.gate (fun e => p (ix2 t e)) a b e := by
  pointwise [gateOf]
  rw [picked_apply p c t a h, picked_apply p c' t b h', h, h', mask_word]
  rfl

theorem idxCol0_apply (ix : IVec S512x2 32) (t : Fin 512) : idxCol0 (F := Ideal) ix (ix2 t 0) = ix (ix2 t 0) := by
  refine congrArg ix (funext fun a => Fin.ext ?_)
  fin_cases a
  · show 0 + 1 * t.val = t.val; omega
  · rfl
theorem idxCol1_apply (ix : IVec S512x2 32) (t : Fin 512) : idxCol1 (F := Ideal) ix (ix2 t 0) = ix (ix2 t 1) := by
  refine congrArg ix (funext fun a => Fin.ext ?_)
  fin_cases a
  · show 0 + 1 * t.val = t.val; omega
  · rfl

theorem gateVal_apply (x : FVec Ideal S512x256 .bf16) (rw : FVec Ideal S256x128 .bf16) (ix : IVec S512x2 32) (t : Fin 512) (a b e : Fin 128)
    (ha : ix (ix2 t 0) = BitVec.ofNat 32 a.val) (hb : ix (ix2 t 1) = BitVec.ofNat 32 b.val) :
    gateVal (F := Ideal) x rw ix (ix2 t e) = Row.gate (Row.prob (rowScores x rw t)) a b e := by
  unfold gateVal
  rw [gateOf_apply _ _ _ t a b e (fun e => chosen_apply _ t a e ((idxCol0_apply ix t).trans ha)) (fun e => chosen_apply _ t b e ((idxCol1_apply ix t).trans hb))]
  congr 1
  funext e
  exact probs_apply x rw t e

/-! ## One expert -/

theorem addExpert_apply (x : FVec Ideal S512x256 .bf16) (j : Fin 4) (w : FVec Ideal S1x256x512 .bf16) (g : FVec Ideal S1x512x4 .f32) (o : FVec Ideal S512x512 .f32)
    (t : Fin 512) (f : Fin 512) : addExpert x j w g o (ix2 t f) = o (ix2 t f) + ∑ d, x (ix2 t d) * g (ix3 0 t j) * w (ix3 0 d f) := by
  pointwise [addExpert]

/-- The product of device `o`'s expert `j`: the weights `W o`, the gate `g`. -/
def term (x : FVec Ideal S512x256 .bf16) (W : Dev nD → FVec Ideal S4x256x512 .bf16) (g : FVec Ideal S512x128 .f32) (t f : Fin 512) (o : Dev nD) (j : Fin 4) : EReal :=
  ∑ d, x (ix2 t d) * g (ix2 t ⟨4 * o.val + j.val, by have := dev_lt o; omega⟩) * W o (ix3 j d f)

theorem gateRow_apply (g : FVec Ideal S512x128 .f32) (o : Dev nD) (t : Fin 512) (j : Fin 4) :
    rowOf (gateBuf g) o (ix3 0 t j) = g (ix2 t ⟨4 * o.val + j.val, by have := dev_lt o; omega⟩) := by
  rw [row_gateBuf]
  pointwise [gateRow]

theorem ownRect_emb (j : Fin 4) (d : Fin 256) (f : Fin 512) : (ownRect j).emb (ix3 0 d f) = ix3 j d f := by
  funext a; apply Fin.ext; fin_cases a
  · rfl
  · show 0 + 1 * d.val = d.val; omega
  · show 0 + 1 * f.val = f.val; omega

variable (x : FVec Ideal S512x256 .bf16) (W : Dev nD → FVec Ideal S4x256x512 .bf16) (g : FVec Ideal S512x128 .f32) (t f : Fin 512)

theorem slotR_apply (o : Dev nD) (k : Fin 2) (d : Fin 256) : slotOf (GR (F := Ideal) W) o k (ix3 0 d f) = W o (ix3 ⟨k.val, by omega⟩ d f) := by
  rw [← ownRect_emb]
  refine .trans ?_ (own_val (F := Ideal) W o o rfl ⟨k.val, by omega⟩ k 0 (Nat.zero_add _).symm (by omega) (ix3 0 d f)
    (by have h : ((slotRect o k).emb (ix3 0 d f : S1x256x512.Idx) 0).val < 64 := ((slotRect o k).emb (ix3 0 d f : S1x256x512.Idx) 0).isLt; omega) (by omega)).symm
  unfold slotOf GR
  simp only [Nat.zero_add]

theorem slotL_apply (o : Dev nD) (k : Fin 2) (d : Fin 256) : slotOf (KernelIdeal.GL (F := Ideal) W) o k (ix3 0 d f) = W o (ix3 ⟨2 + k.val, by omega⟩ d f) := by
  rw [← ownRect_emb]
  exact (own_val (F := Ideal) W o o rfl ⟨2 + k.val, by omega⟩ k 2 rfl (by omega) (ix3 0 d f)
    (by have h : ((slotRect o k).emb (ix3 0 d f : S1x256x512.Idx) 0).val < 64 := ((slotRect o k).emb (ix3 0 d f : S1x256x512.Idx) 0).isLt; omega) (by omega)).symm

/-- One product, added: an expert that came by the right-going ring, and one that came by the left-going. -/
theorem addR_apply (o : Dev nD) (k : Fin 2) (O : FVec Ideal S512x512 .f32) :
    addExpert x ⟨k.val, by omega⟩ (slotOf (GR (F := Ideal) W) o k) (rowOf (gateBuf g) o) O (ix2 t f) = O (ix2 t f) + term x W g t f o ⟨k.val, by omega⟩ := by
  rw [addExpert_apply]
  refine congrArg (O (ix2 t f) + ·) (Finset.sum_congr rfl fun d _ => ?_)
  rw [gateRow_apply, slotR_apply]
theorem addL_apply (o : Dev nD) (k : Fin 2) (O : FVec Ideal S512x512 .f32) :
    addExpert x ⟨2 + k.val, by omega⟩ (slotOf (KernelIdeal.GL (F := Ideal) W) o k) (rowOf (gateBuf g) o) O (ix2 t f) = O (ix2 t f) + term x W g t f o ⟨2 + k.val, by omega⟩ := by
  rw [addExpert_apply]
  refine congrArg (O (ix2 t f) + ·) (Finset.sum_congr rfl fun d _ => ?_)
  rw [gateRow_apply, slotL_apply]

/-! ## All the steps -/

/-- Which product a step adds: the hop, the slot, and whether the right-going ring brought it. -/
def useOf : Step → Option (Fin 31 × Fin 2 × Bool)
  | .useR i k => some (i, k, true)
  | .useL i k => some (i, k, false)
  | _ => none

def useTerm (c : Dev nD) : Fin 31 × Fin 2 × Bool → EReal
  | (i, k, true) => term x W g t f (lft c (i.val + 1)) ⟨k.val, by omega⟩
  | (i, k, false) => term x W g t f (rgt c (i.val + 1)) ⟨2 + k.val, by omega⟩

theorem fold_apply (c : Dev nD) : ∀ (l : List Step) (O : FVec Ideal S512x512 .f32),
    l.foldl (outStep W c x (gateBuf g)) O (ix2 t f) = O (ix2 t f) + ((l.filterMap useOf).map (useTerm x W g t f c)).sum
  | [], O => (add_zero _).symm
  | s :: l, O => by
    rw [List.foldl_cons, fold_apply c l]
    cases s
    case useR i k =>
      show addExpert x _ (slotOf _ _ _) (rowOf (gateBuf g) _) O (ix2 t f) + _ = O (ix2 t f) + (useTerm x W g t f c (i, k, true) + _)
      rw [addR_apply, add_assoc]; rfl
    case useL i k =>
      show addExpert x _ (slotOf _ _ _) (rowOf (gateBuf g) _) O (ix2 t f) + _ = O (ix2 t f) + (useTerm x W g t f c (i, k, false) + _)
      rw [addL_apply, add_assoc]; rfl
    all_goals rfl

/-- Every product of a hop is added once. -/
theorem uses_nodup : (allSteps.filterMap useOf).Nodup := by decide +kernel
theorem uses_all : ∀ u, u ∈ allSteps.filterMap useOf := by decide +kernel

theorem uses_sum (h : Fin 31 × Fin 2 × Bool → EReal) : ((allSteps.filterMap useOf).map h).sum = ∑ u, h u := by
  rw [← List.sum_toFinset _ uses_nodup]
  exact Finset.sum_congr (Finset.eq_univ_iff_forall.mpr fun u => List.mem_toFinset.mpr (uses_all u)) fun _ _ => rfl

theorem lft_bij (c : Dev nD) : Function.Bijective fun g : Fin 32 => lft c g.val :=
  (Finite.injective_iff_bijective).mp fun a b h => by
    have := dev_lt c
    have h' : (c.val + 32 - a.val % 32) % 32 = (c.val + 32 - b.val % 32) % 32 := congrArg Fin.val h
    exact Fin.ext (by omega)
theorem rgt_bij (c : Dev nD) : Function.Bijective fun g : Fin 32 => rgt c g.val :=
  (Finite.injective_iff_bijective).mp fun a b h => by
    have := dev_lt c
    have h' : (c.val + a.val) % 32 = (c.val + b.val) % 32 := congrArg Fin.val h
    exact Fin.ext (by omega)

/-- Round the ring once is every device once. -/
theorem round_lft (c : Dev nD) (h : Dev nD → EReal) : h c + ∑ i : Fin 31, h (lft c (i.val + 1)) = ∑ o, h o := by
  rw [← (lft_bij c).sum_comp h, Fin.sum_univ_succ]
  show _ = h (lft c 0) + _
  rw [lft_zero]; rfl
theorem round_rgt (c : Dev nD) (h : Dev nD → EReal) : h c + ∑ i : Fin 31, h (rgt c (i.val + 1)) = ∑ o, h o := by
  rw [← (rgt_bij c).sum_comp h, Fin.sum_univ_succ]
  show _ = h (rgt c 0) + _
  rw [rgt_zero]; rfl

theorem own_apply (c : Dev nD) (k : Fin 2) (O : FVec Ideal S512x512 .f32) :
    ownOut W c x (gateBuf g) k O (ix2 t f) = O (ix2 t f) + term x W g t f c ⟨k.val, by omega⟩ + term x W g t f c ⟨2 + k.val, by omega⟩ := by
  unfold ownOut
  have hl := addL_apply x W g t f (rgt c 0) k
  have hr := addR_apply x W g t f (lft c 0) k
  rw [rgt_zero] at hl ⊢
  rw [lft_zero] at hr ⊢
  rw [hl, hr]

/-- The whole fold: every device's four experts, each once. -/
theorem sum_all (c : Dev nD) :
    allSteps.foldl (outStep W c x (gateBuf g)) (ownOut W c x (gateBuf g) 1 (ownOut W c x (gateBuf g) 0 outZero)) (ix2 t f)
      = ∑ o : Dev nD, ∑ j : Fin 4, term x W g t f o j := by
  have hz : (outZero (F := Ideal)) (ix2 t f) = 0 := by pointwise [outZero]
  have e : ∀ o, (∑ j : Fin 4, term x W g t f o j) = (term x W g t f o 0 + term x W g t f o 1) + (term x W g t f o 2 + term x W g t f o 3) := fun o => by
    rw [Fin.sum_univ_four, add_assoc, add_assoc]
  rw [fold_apply, own_apply, own_apply, hz, uses_sum]
  simp only [e, Finset.sum_add_distrib]
  rw [← round_lft c (fun o => term x W g t f o 0), ← round_lft c (fun o => term x W g t f o 1),
    ← round_rgt c (fun o => term x W g t f o 2), ← round_rgt c (fun o => term x W g t f o 3)]
  simp only [Fintype.sum_prod_type, Fin.sum_univ_two, Fintype.sum_bool, useTerm, Finset.sum_add_distrib]
  show 0 + term x W g t f c 0 + term x W g t f c 2 + term x W g t f c 1 + term x W g t f c 3
      + (∑ i : Fin 31, term x W g t f (lft c (i.val + 1)) 0 + ∑ i : Fin 31, term x W g t f (lft c (i.val + 1)) 1
        + (∑ i : Fin 31, term x W g t f (rgt c (i.val + 1)) 2 + ∑ i : Fin 31, term x W g t f (rgt c (i.val + 1)) 3)) = _
  abel

/-- Expert `e` is number `e % 4` of device `e / 4`. -/
def devOf (e : Fin 128) : Dev nD := (⟨e.val / 4, by omega⟩ : Fin 32)
def numOf (e : Fin 128) : Fin 4 := ⟨e.val % 4, by omega⟩

theorem sum_experts (h : Dev nD → Fin 4 → EReal) : (∑ o : Dev nD, ∑ j : Fin 4, h o j) = ∑ e : Fin 128, h (devOf e) (numOf e) := by
  rw [← Fintype.sum_prod_type' h]
  refine Fintype.sum_bijective (fun p : Dev nD × Fin 4 => (⟨4 * p.1.val + p.2.val, by have := dev_lt p.1; omega⟩ : Fin 128)) ?_ _ _ ?_
  · refine ⟨fun a b q => ?_, fun e => ⟨(devOf e, numOf e), ?_⟩⟩
    · have q' : 4 * a.1.val + a.2.val = 4 * b.1.val + b.2.val := congrArg Fin.val q
      exact Prod.ext (Fin.ext (by omega)) (Fin.ext (by omega))
    · refine Fin.ext ?_
      show 4 * (e.val / 4) + e.val % 4 = e.val
      omega
  · intro a
    refine congrArg₂ h (Fin.ext ?_) (Fin.ext ?_)
    · show a.1.val = (4 * a.1.val + a.2.val) / 4
      omega
    · show a.2.val = (4 * a.1.val + a.2.val) % 4
      omega

/-- The kernel's output at a token that chose experts `a` and `b`. -/
theorem outFin_apply (c : Dev nD) (rw' : FVec Ideal S256x128 .bf16) (ix : IVec S512x2 32) (a b : Fin 128)
    (ha : ix (ix2 t 0) = BitVec.ofNat 32 a.val) (hb : ix (ix2 t 1) = BitVec.ofNat 32 b.val) :
    outFin (F := Ideal) W c x rw' ix (ix2 t f)
      = (∑ e : Fin 128, ∑ d : Fin 256, x (ix2 t d) * Row.gate (Row.prob (rowScores x rw' t)) a b e * W (devOf e) (ix3 (numOf e) d f) : EReal) := by
  unfold outFin
  rw [sum_all, sum_experts]
  refine Finset.sum_congr rfl fun e _ => ?_
  unfold term
  refine Finset.sum_congr rfl fun d _ => ?_
  have he : (⟨4 * (devOf e).val + (numOf e).val, by show 4 * (e.val / 4) + e.val % 4 < 128; omega⟩ : Fin 128) = e :=
    Fin.ext (by show 4 * (e.val / 4) + e.val % 4 = e.val; omega)
  rw [he, gateVal_apply _ _ _ _ a b e ha hb]

end Cert.KernelIdeal
end
end
-- ==== Proof.RefValue.lean ====
module
public import proofs.«01_k».proof.Proof.Gen.ReferenceIdeal.Run
public import Idealize.ShloMosaic.Lib.ReduceAll
public import proofs.«01_k».proof.Proof.Row
@[expose] public section

/-! # What the reference computes, element by element

The reference's one composed term is cut into its named steps, and each step is read at an index. -/

noncomputable section

namespace Cert.ReferenceIdeal
open Idealize.ShloMosaic Idealize.SL.Sem
open Facts₀ Facts

/-! ## The steps -/

section
variable [Facts]

/-- The router's scores. -/
def score (X : FVec Ideal S16384x256 .bf16) (R : FVec Ideal S256x128 .bf16) : FVec Ideal S16384x128 .f32 :=
  Host.dotGeneral dot_S16384x256_S256x128_S16384x128_1_0_0_1_n_n none (extf .f32 X bitsLt_bf16_f32) (extf .f32 R bitsLt_bf16_f32)

/-- The exponentials of the scores less the greatest of their row. -/
def expo (s : FVec Ideal S16384x128 .f32) : FVec Ideal S16384x128 .f32 :=
  Host.exp (subf s (broadcastInDim S16384x128 ![0, 1] bcast_S16384x1_S16384x128_0_1 (broadcastInDim S16384x1 ![0] bcast_S16384_S16384x1_0
    (Host.reduce FloatOps.maximumf s (constant S_ .f32 0xFF800000#32) reducesTo_S16384x128_S16384_d1 h_S_))))

/-- The softmax. -/
def prob (s : FVec Ideal S16384x128 .f32) : FVec Ideal S16384x128 .f32 :=
  Host.divf (expo s) (broadcastInDim S16384x128 ![0, 1] bcast_S16384x1_S16384x128_0_1 (broadcastInDim S16384x1 ![0] bcast_S16384_S16384x1_0
    (Host.reduceAdd (expo s) (constant S_ .f32 0x00000000#32) reducesTo_S16384x128_S16384_d1 h_S_)))

/-- The two columns of the routing table. -/
def col0 (I : IVec S16384x2 32) : IVec S16384 32 :=
  shapeCast S16384 (extractStridedSlice S16384x1 ![0, 0] I slices_S16384x2_S16384x1_0_0) shapeCasts_S16384x1_S16384
def col1 (I : IVec S16384x2 32) : IVec S16384 32 :=
  shapeCast S16384 (extractStridedSlice S16384x1 ![0, 1] I slices_S16384x2_S16384x1_0_1) shapeCasts_S16384x1_S16384

/-- A column of indices, a negative one counted from the end, as the places to pick along a row. -/
def place (v : IVec S16384 32) : IVec S16384x1x1 32 :=
  shapeCast S16384x1x1 (select
    (cmpi .slt (broadcastInDim S16384x1 ![0] bcast_S16384_S16384x1_0 v) (broadcastInDim S16384x1 ![] bcast_S_S16384x1 (constantI S_ 32 0#32)))
    (addi (broadcastInDim S16384x1 ![0] bcast_S16384_S16384x1_0 v) (broadcastInDim S16384x1 ![] bcast_S_S16384x1 (constantI S_ 32 128#32)))
    (broadcastInDim S16384x1 ![0] bcast_S16384_S16384x1_0 v)) shapeCasts_S16384x1_S16384x1x1

/-- Whether a place is one of the row's. -/
def inRow (w : IVec S16384x1x1 32) : IVec S16384x1x1 1 :=
  andi (cmpi .sge w (broadcastInDim S16384x1x1 ![] bcast_S_S16384x1x1 (constantI S_ 32 0#32)))
    (cmpi .sle w (broadcastInDim S16384x1x1 ![0, 1, 2] bcast_S1x1x1_S16384x1x1_0_1_2 (broadcastInDim S1x1x1 ![2] bcast_S1_S1x1x1_2 (constantI S1 32 127#32))))

/-- One probability of each row. -/
def pick (p : FVec Ideal S16384x128 .f32) (v : IVec S16384 32) : FVec Ideal S16384x1 .f32 :=
  select (Host.reduce IntOp.andi (inRow (place v)) (constantI S_ 1 1#1) reducesTo_S16384x1x1_S16384x1_d2 h_S_)
    (Host.gather gather_S16384x128_S16384x1x1_S16384x1_n_1_0_0_1_2_11 p (place v))
    (broadcastInDim S16384x1 ![] bcast_S_S16384x1 (constant S_ .f32 0x7FC00000#32))

/-- A column of experts, a negative one counted from the end. -/
def expert (v : IVec S16384 32) : IVec S16384x1 32 :=
  broadcastInDim S16384x1 ![0] bcast_S16384_S16384x1_0 (select
    (cmpi .slt v (broadcastInDim S16384 ![] bcast_S_S16384 (constantI S_ 32 0#32)))
    (addi v (broadcastInDim S16384 ![] bcast_S_S16384 (constantI S_ 32 128#32))) v)

/-- Each token times the weights of its expert. -/
def product (X : FVec Ideal S16384x256 .bf16) (W : FVec Ideal S128x256x512 .bf16) (v : IVec S16384 32) : FVec Ideal S16384x512 .f32 :=
  Host.dotGeneral dot_S16384x256_S16384x256x512_S16384x512_1_1_n_2_0_0 none (extf .f32 X bitsLt_bf16_f32)
    (Host.gather gather_S128x256x512_S16384x1_S16384x256x512_12_0_n_n_0_1_1256512 (extf .f32 W bitsLt_bf16_f32) (expert v))

/-- One expert's part of the result: `a` is this expert's probability, `b` the sum of both. -/
def part (a b : FVec Ideal S16384x1 .f32) (y : FVec Ideal S16384x512 .f32) : FVec Ideal S16384x512 .f32 :=
  mulf (broadcastInDim S16384x512 ![0, 1] bcast_S16384x1_S16384x512_0_1 (Host.divf a b)) y

/-- The whole result. -/
def result (X : FVec Ideal S16384x256 .bf16) (R : FVec Ideal S256x128 .bf16) (I : IVec S16384x2 32) (W : FVec Ideal S128x256x512 .bf16) :
    FVec Ideal S16384x512 .f32 :=
  addf (part (pick (prob (score X R)) (col0 I)) (addf (pick (prob (score X R)) (col0 I)) (pick (prob (score X R)) (col1 I))) (product X W (col0 I)))
    (part (pick (prob (score X R)) (col1 I)) (addf (pick (prob (score X R)) (col0 I)) (pick (prob (score X R)) (col1 I))) (product X W (col1 I)))

end

/-- The reference's composed term is these steps. -/
theorem out_eq (m : (ℓ : Loc nD τ sig) → Buf (Elt Ideal) ℓ) (c : Dev nD) :
    Value.res_main_v44 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v44
  rfl

/-! ## The steps at an index

The word of an expert is `BitVec.ofNat 32 e` with `e < 128`: no index is negative, none is out of range. -/

/-- Row `T` of the scores, as the token's own. -/
def rowScores (X : FVec Ideal S16384x256 .bf16) (R : FVec Ideal S256x128 .bf16) (T : Fin 16384) : Fin 128 → EReal :=
  Row.scores (fun d => X (ix2 T d)) (fun d e => R (ix2 d e))

theorem prob_apply (X : FVec Ideal S16384x256 .bf16) (R : FVec Ideal S256x128 .bf16) (T : Fin 16384) (e : Fin 128) :
    prob (score X R) (ix2 T e) = Row.prob (rowScores X R T) e := by
  pointwise [prob, score, expo]
  rfl

theorem col0_apply (I : IVec S16384x2 32) (T : Fin 16384) : col0 I (ix1 T) = I (ix2 T 0) := by
  pointwise [col0]
theorem col1_apply (I : IVec S16384x2 32) (T : Fin 16384) : col1 I (ix1 T) = I (ix2 T 1) := by
  pointwise [col1]

theorem wrap_word : ∀ e : Fin 128,
    Scalar.select (IntOp.cmpi CmpIPredicate.slt (BitVec.ofNat 32 e.val) 0#32) (IntOp.addi (BitVec.ofNat 32 e.val) 128#32) (BitVec.ofNat 32 e.val)
      = BitVec.ofNat 32 e.val := by decide +kernel
theorem inRow_word : ∀ e : Fin 128,
    IntOp.andi (IntOp.cmpi CmpIPredicate.sge (BitVec.ofNat 32 e.val) 0#32) (IntOp.cmpi CmpIPredicate.sle (BitVec.ofNat 32 e.val) 127#32) = 1#1 := by decide +kernel
theorem word_toNat : ∀ e : Fin 128, min (BitVec.ofNat 32 e.val).toInt.toNat 127 = e.val := by decide +kernel

theorem inRow_apply (w : IVec S16384x1x1 32) (y : S16384x1x1.Idx) :
    inRow w y = IntOp.andi (IntOp.cmpi CmpIPredicate.sge (w y) 0#32) (IntOp.cmpi CmpIPredicate.sle (w y) 127#32) := by
  idx_vars y
  pointwise [inRow]

variable (v : IVec S16384 32) (T : Fin 16384) (e : Fin 128) (hv : v (ix1 T) = BitVec.ofNat 32 e.val)
include hv

theorem place_apply (y : S16384x1x1.Idx) (hy : (y 0).val = T.val) : place v y = BitVec.ofNat 32 e.val := by
  idx_vars y
  obtain rfl : _ = T := Fin.ext hy
  pointwise [place]
  rw [hv, wrap_word]

theorem expert_apply (y : S16384x1.Idx) (hy : (y 0).val = T.val) : expert v y = BitVec.ofNat 32 e.val := by
  idx_vars y
  obtain rfl : _ = T := Fin.ext hy
  pointwise [expert]
  rw [hv, wrap_word]

theorem pick_apply (p : FVec Ideal S16384x128 .f32) : pick p v (ix2 T 0) = p (ix2 T e) := by
  have hin : Host.reduce IntOp.andi (inRow (place v)) (constantI S_ 1 1#1) reducesTo_S16384x1x1_S16384x1_d2 h_S_ (ix2 T 0) = 1#1 := by
    pointwise
    rw [Finset.univ_unique, Finset.fold_singleton, inRow_apply, place_apply v T e hv _ rfl, inRow_word]
    rfl
  have hg : Host.gather gather_S16384x128_S16384x1x1_S16384x1_n_1_0_0_1_2_11 p (place v) (ix2 T 0) = p (ix2 T e) := by
    refine congrArg p (funext fun a => Fin.ext ?_)
    show GatherDims.start _ _ _ a + GatherDims.batchCoord _ _ a + GatherDims.offCoord _ _ a = _
    have h0 : a = 0 ∨ a = 1 := by match a with
      | ⟨0, _⟩ => exact .inl rfl
      | ⟨1, _⟩ => exact .inr rfl
    rcases h0 with rfl | rfl
    · rw [GatherDims.start_batching _ _ _ _ (by decide), GatherDims.offCoord_eq_zero _ _ _ (by decide), Nat.zero_add, Nat.add_zero]
      rfl
    · rw [GatherDims.batchCoord_eq_zero _ _ _ (by decide), GatherDims.offCoord_eq_zero _ _ _ (by decide), Nat.add_zero]
      unfold GatherDims.start
      rw [dif_pos (by decide), place_apply v T e hv _ rfl]
      exact word_toNat e
  unfold pick
  show Scalar.select _ _ _ = _
  rw [hin, hg]
  rfl

theorem product_apply (X : FVec Ideal S16384x256 .bf16) (W : FVec Ideal S128x256x512 .bf16) (f : Fin 512) :
    product X W v (ix2 T f) = ∑ d, X (ix2 T d) * W (ix3 e d f) := by
  have hg : ∀ d, Host.gather gather_S128x256x512_S16384x1_S16384x256x512_12_0_n_n_0_1_1256512 (extf FTy.f32 W bitsLt_bf16_f32) (expert v) (ix3 T d f) = W (ix3 e d f) := by
    intro d
    refine congrArg W (funext fun a => Fin.ext ?_)
    show GatherDims.start _ _ _ a + GatherDims.batchCoord _ _ a + GatherDims.offCoord _ _ a = _
    rw [GatherDims.batchCoord_eq_zero _ _ _ List.not_mem_nil, Nat.add_zero]
    have h0 : a = 0 ∨ a = 1 ∨ a = 2 := by match a with
      | ⟨0, _⟩ => exact .inl rfl
      | ⟨1, _⟩ => exact .inr (.inl rfl)
      | ⟨2, _⟩ => exact .inr (.inr rfl)
    rcases h0 with rfl | rfl | rfl
    · rw [GatherDims.offCoord_eq_zero _ _ _ (by decide), Nat.add_zero]
      unfold GatherDims.start
      rw [dif_pos (by decide), expert_apply v T e hv _ rfl]
      exact word_toNat e
    · unfold GatherDims.start
      rw [dif_neg (by decide), Nat.zero_add]
      rfl
    · unfold GatherDims.start
      rw [dif_neg (by decide), Nat.zero_add]
      rfl
  pointwise [product]
  exact Finset.sum_congr rfl fun d _ => by rw [hg]

omit hv in
theorem part_apply (a b : FVec Ideal S16384x1 .f32) (y : FVec Ideal S16384x512 .f32) (f : Fin 512) :
    part a b y (ix2 T f) = Ideal.div (a (ix2 T 0)) (b (ix2 T 0)) * y (ix2 T f) := by
  pointwise [part]

omit hv in
/-- The reference at a token and a column, its two experts named. -/
theorem result_apply (X : FVec Ideal S16384x256 .bf16) (R : FVec Ideal S256x128 .bf16) (I : IVec S16384x2 32) (W : FVec Ideal S128x256x512 .bf16)
    (a b : Fin 128) (ha : I (ix2 T 0) = BitVec.ofNat 32 a.val) (hb : I (ix2 T 1) = BitVec.ofNat 32 b.val) (f : Fin 512) :
    result X R I W (ix2 T f)
      = Ideal.div (Row.prob (rowScores X R T) a) (Row.prob (rowScores X R T) a + Row.prob (rowScores X R T) b) * (∑ d, X (ix2 T d) * W (ix3 a d f))
        + Ideal.div (Row.prob (rowScores X R T) b) (Row.prob (rowScores X R T) a + Row.prob (rowScores X R T) b) * (∑ d, X (ix2 T d) * W (ix3 b d f)) := by
  have ha' := (col0_apply I T).trans ha
  have hb' := (col1_apply I T).trans hb
  unfold result
  show part _ _ _ (ix2 T f) + part _ _ _ (ix2 T f) = _
  rw [part_apply, part_apply, product_apply _ T a ha', product_apply _ T b hb']
  show Ideal.div _ (pick _ _ (ix2 T 0) + pick _ _ (ix2 T 0)) * _ + Ideal.div _ (pick _ _ (ix2 T 0) + pick _ _ (ix2 T 0)) * _ = _
  rw [pick_apply _ T a ha', pick_apply _ T b hb', prob_apply, prob_apply]

end Cert.ReferenceIdeal
end
end
-- ==== Proof.Precond.lean ====
module
public import proofs.«01_k».proof.Pre_finite_two_distinct_experts_KernelIdeal
public import proofs.«01_k».proof.Pre_finite_two_distinct_experts_ReferenceIdeal
public import proofs.«01_k».proof.Proof.Row
public import Idealize.ShloMosaic.Lib.Pointwise
public import Idealize.ShloMosaic.Lib.ReduceAll
public import Idealize.ShloMosaic.Lib.Affine
@[expose] public section

/-! # What the precondition says of one token

Its row of `x` and the router are real numbers, and its two experts are two different ones of the 128. -/

noncomputable section

namespace Cert.Pre_finite_two_distinct_experts_ReferenceIdeal
open Idealize.ShloMosaic

theorem facts : Facts where
  bcast_S_S16384x256 := by decide
  reducesTo_S16384x256_S16384_d1 := by decide
  h_S_ := by decide
  bcast_S_S256x128 := by decide
  reducesTo_S256x128_S_d0_1 := by decide
  bcast_S_S16384 := by decide
  slices_S16384x2_S16384x1_0_0 := by decide
  shapeCasts_S16384x1_S16384 := by decide
  slices_S16384x2_S16384x1_0_1 := by decide

end Cert.Pre_finite_two_distinct_experts_ReferenceIdeal

namespace Cert.Pre_finite_two_distinct_experts_KernelIdeal
open Idealize.ShloMosaic

theorem facts : Facts where
  bcast_S_S512x256 := by decide
  reducesTo_S512x256_S512_d1 := by decide
  h_S_ := by decide
  bcast_S_S256x128 := by decide
  reducesTo_S256x128_S_d0_1 := by decide
  bcast_S_S512 := by decide
  slices_S512x2_S512x1_0_0 := by decide
  shapeCasts_S512x1_S512 := by decide
  slices_S512x2_S512x1_0_1 := by decide

/-- Below `+∞` in absolute value is real. -/
theorem isReal_of_abs (v : EReal) (h : max v (-v) < ⊤) : Row.IsReal v := by
  induction v using EReal.rec with
  | bot => simp at h
  | top => simp at h
  | coe r => exact ⟨r, rfl⟩

theorem isReal_of_bit (v : EReal) (h : Ideal.cmp .olt (max v (-v)) (Ideal.ofBits .bf16 0x7F80#16) = 1#1) : Row.IsReal v := by
  have e : Ideal.ofBits .bf16 0x7F80#16 = ⊤ := by simp [Ideal.ofBits, Ideal.ieee]
  rw [e] at h
  refine isReal_of_abs v ?_
  by_contra hn
  exact absurd h (by simp [Ideal.cmp, hn])

/-- A word from 0 to 127 is an expert's number. -/
theorem expert_of_word (v : BitVec 32) (h0 : IntOp.cmpi .sge v 0#32 = 1#1) (h1 : IntOp.cmpi .slt v 128#32 = 1#1) : ∃ a : Fin 128, v = BitVec.ofNat 32 a.val := by
  have h0' : (0#32).toInt ≤ v.toInt := IntOp.cmpi_sge.mp h0
  have h1' : v.toInt < (128#32).toInt := IntOp.cmpi_slt.mp h1
  have e0 : (0#32 : BitVec 32).toInt = 0 := by decide
  have e1 : (128#32 : BitVec 32).toInt = 128 := by decide
  rw [e0] at h0'; rw [e1] at h1'
  refine ⟨⟨v.toNat, ?_⟩, ?_⟩
  · rw [BitVec.toInt_eq_toNat_cond] at h0' h1'
    have := v.isLt
    split at h0' <;> omega
  · exact BitVec.eq_of_toNat_eq (by simp)

attribute [local instance] facts
open Facts

theorem of_fn (x : FVec Ideal S512x256 .bf16) (r : FVec Ideal S256x128 .bf16) (ix : IVec S512x2 32) (w : FVec Ideal S4x256x512 .bf16)
    (h : fn (F := Ideal) x r ix w = fun _ => 1#1) (t : Fin 512) :
    (∀ d, Row.IsReal (x (ix2 t d))) ∧ (∀ d e, Row.IsReal (r (ix2 d e)))
      ∧ ∃ a b : Fin 128, a ≠ b ∧ ix (ix2 t 0) = BitVec.ofNat 32 a.val ∧ ix (ix2 t 1) = BitVec.ofNat 32 b.val := by
  have h := congrFun h (ix1 t)
  dsimp only [fn, fn_part1] at h
  obtain ⟨h, hne⟩ := IntOp.andi_eq_one.mp h
  obtain ⟨h, hb1⟩ := IntOp.andi_eq_one.mp h
  obtain ⟨h, hb0⟩ := IntOp.andi_eq_one.mp h
  obtain ⟨h, ha1⟩ := IntOp.andi_eq_one.mp h
  obtain ⟨h, ha0⟩ := IntOp.andi_eq_one.mp h
  obtain ⟨hx, hr⟩ := IntOp.andi_eq_one.mp h
  have c0 : shapeCast S512 (extractStridedSlice S512x1 ![0, 0] ix slices_S512x2_S512x1_0_0) shapeCasts_S512x1_S512 (ix1 t) = ix (ix2 t 0) := by
    pointwise
  have c1 : shapeCast S512 (extractStridedSlice S512x1 ![0, 1] ix slices_S512x2_S512x1_0_1) shapeCasts_S512x1_S512 (ix1 t) = ix (ix2 t 1) := by
    pointwise
  refine ⟨fun d => isReal_of_bit _ ?_, fun d e => isReal_of_bit _ ?_, ?_⟩
  · refine Host.reduce_andi_eq_one _ _ _ _ _ hx (ix2 t d) ?_
    funext b
    match b with
    | ⟨0, _⟩ => rfl
  · exact Host.reduce_andi_all _ _ _ _ _ hr (ix2 d e)
  · obtain ⟨a, ha⟩ := expert_of_word _ ha0 ha1
    obtain ⟨b, hb⟩ := expert_of_word _ hb0 hb1
    refine ⟨a, b, fun e => IntOp.cmpi_ne.mp hne ?_, c0.symm.trans ha, c1.symm.trans hb⟩
    rw [ha, hb, e]

end Cert.Pre_finite_two_distinct_experts_KernelIdeal
end
end
-- ==== Proof.Final.lean ====
module
public import proofs.«01_k».proof.Proof.Frames
public import proofs.«01_k».proof.Proof.KernelValue
public import proofs.«01_k».proof.Proof.RefValue
public import proofs.«01_k».proof.Proof.Precond
public import Idealize.ShloMosaic.Lib.Pipeline.Value
@[expose] public section

/-! # The kernel's result is the reference's, block by block

The kernel stages its whole arguments, so what the body reads are the arguments themselves and what it
leaves is the whole result.  At each token and column the two results are then one sum. -/

set_option synthInstance.maxSize 4096
noncomputable section

namespace Cert.KernelIdeal
open Idealize.ShloMosaic Idealize.SL.Sem
open Idealize.ShloMosaic.TcCoe
open Facts₀ Facts Gen
variable {F : FTy → Type} [FloatOps F]
variable (m : (ℓ : Loc nD τ sig) → Buf (Elt F) ℓ) (ρ : Dev nD → PrngReg)

/-! ## Whole arrays -/

theorem emb0 (y : S512x256.Idx) : (win0_0.blk (0 : Fin 1)).view.emb y = y := by
  funext a
  refine Fin.ext ?_
  match a with
  | ⟨0, _⟩ => exact (Nat.zero_add _).trans (Nat.one_mul _)
  | ⟨1, _⟩ => exact (Nat.zero_add _).trans (Nat.one_mul _)
theorem emb1 (y : S256x128.Idx) : (win0_1.blk (0 : Fin 1)).view.emb y = y := by
  funext a
  refine Fin.ext ?_
  match a with
  | ⟨0, _⟩ => exact (Nat.zero_add _).trans (Nat.one_mul _)
  | ⟨1, _⟩ => exact (Nat.zero_add _).trans (Nat.one_mul _)
theorem emb2 (y : S512x2.Idx) : (win0_2.blk (0 : Fin 1)).view.emb y = y := by
  funext a
  refine Fin.ext ?_
  match a with
  | ⟨0, _⟩ => exact (Nat.zero_add _).trans (Nat.one_mul _)
  | ⟨1, _⟩ => exact (Nat.zero_add _).trans (Nat.one_mul _)
theorem emb3 (y : S4x256x512.Idx) : (win0_3.blk (0 : Fin 1)).view.emb y = y := by
  funext a
  refine Fin.ext ?_
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
theorem emb4 (y : S512x512.Idx) : (win0_4.blk (0 : Fin 1)).view.emb y = y := by
  funext a
  refine Fin.ext ?_
  match a with
  | ⟨0, _⟩ => exact (Nat.zero_add _).trans (Nat.one_mul _)
  | ⟨1, _⟩ => exact (Nat.zero_add _).trans (Nat.one_mul _)

theorem xIn_apply (c : Dev nD) (y : S512x256.Idx) : xIn m c y = m ((c : Thread nD τ).loc main_arg0) y :=
  congrArg (m ((c : Thread nD τ).loc main_arg0)) (emb0 y)
theorem rIn_apply (c : Dev nD) (y : S256x128.Idx) : rIn m c y = m ((c : Thread nD τ).loc main_arg1) y :=
  congrArg (m ((c : Thread nD τ).loc main_arg1)) (emb1 y)
theorem iIn_apply (c : Dev nD) (y : S512x2.Idx) : iIn m c y = m ((c : Thread nD τ).loc main_arg2) y :=
  congrArg (m ((c : Thread nD τ).loc main_arg2)) (emb2 y)
theorem wIn_apply (c : Dev nD) (y : S4x256x512.Idx) : wIn m c y = m ((c : Thread nD τ).loc main_arg3) y :=
  congrArg (m ((c : Thread nD τ).loc main_arg3)) (emb3 y)

theorem fin_N0 (t : Fin cfg0.N) : t = (0 : Fin 1) := Subsingleton.elim (α := Fin 1) t 0

theorem flushed_out (c : Dev nD) (t : Fin cfg0.N) :
    (dats m ρ 0 c).flushed (4 : Fin 5) t = ((cfg0.win (4 : Fin 5)).blk t).view.read (Elt F) (outAt m c) := by
  obtain rfl := fin_N0 t
  have ha : (dats m ρ 0 c).after (4 : Fin 5) (0 : Fin 1) = outAt m c := by dsimp only [dats]
  unfold Pipeline.Dat.flushed
  rw [ha]
  generalize outAt m c = g
  funext y
  exact (congrArg g (emb4 y)).symm

theorem finalA_out (c : Dev nD) : finalA m ρ c (4 : Fin 5) = outAt m c := by
  refine (dats m ρ 0 c).arrAt_eq_of_cover (4 : Fin 5) (outAt m c) (fun t _ => flushed_out m ρ c t) fun i => ⟨(0 : Fin 1), flush0_4 _, ?_⟩
  have := ((cfg0.win (4 : Fin 5)).blk (0 : Fin 1)).view.emb_mem_set i
  rw [← emb4 i]
  exact this

end Cert.KernelIdeal

/-! ## Blocks of the whole arrays -/

namespace Cert
open Idealize.ShloMosaic Idealize.SL.Sem
open Idealize.ShloMosaic.TcCoe

/-- Device `c`'s token `t` is token `512 c + t` of all. -/
def tok (c : Dev KernelIdeal.nD) (t : Fin 512) : Fin 16384 := ⟨c.val * 512 + t.val, by have := KernelIdeal.dev_lt c; omega⟩

theorem block_x {α : Type} (c : Fin 32) (v : Shape.Idx ⟨2, ![16384, 256]⟩ → α) (t : Fin 512) (d : Fin 256) :
    Layout.block ⟨2, ![512, 256]⟩ ⟨2, ![16384, 256]⟩ 0 32 c v (by decide) (ix2 t d) = v (ix2 (tok c t) d) := by
  refine congrArg v (funext fun a => Fin.ext ?_)
  match a with
  | ⟨0, _⟩ => rfl
  | ⟨1, _⟩ => rfl
theorem block_i {α : Type} (c : Fin 32) (v : Shape.Idx ⟨2, ![16384, 2]⟩ → α) (t : Fin 512) (d : Fin 2) :
    Layout.block ⟨2, ![512, 2]⟩ ⟨2, ![16384, 2]⟩ 0 32 c v (by decide) (ix2 t d) = v (ix2 (tok c t) d) := by
  refine congrArg v (funext fun a => Fin.ext ?_)
  match a with
  | ⟨0, _⟩ => rfl
  | ⟨1, _⟩ => rfl
theorem block_o {α : Type} (c : Fin 32) (v : Shape.Idx ⟨2, ![16384, 512]⟩ → α) (t : Fin 512) (d : Fin 512) :
    Layout.block ⟨2, ![512, 512]⟩ ⟨2, ![16384, 512]⟩ 0 32 c v (by decide) (ix2 t d) = v (ix2 (tok c t) d) := by
  refine congrArg v (funext fun a => Fin.ext ?_)
  match a with
  | ⟨0, _⟩ => rfl
  | ⟨1, _⟩ => rfl
theorem block_w {α : Type} (v : Shape.Idx ⟨3, ![128, 256, 512]⟩ → α) (e : Fin 128) (d : Fin 256) (f : Fin 512) :
    Layout.block ⟨3, ![4, 256, 512]⟩ ⟨3, ![128, 256, 512]⟩ 0 32 (KernelIdeal.devOf e) v (by decide) (ix3 (KernelIdeal.numOf e) d f) = v (ix3 e d f) := by
  refine congrArg v (funext fun a => Fin.ext ?_)
  match a with
  | ⟨0, _⟩ =>
    show e.val / 4 * 4 + e.val % 4 = e.val
    omega
  | ⟨1, _⟩ => rfl
  | ⟨2, _⟩ => rfl

/-! ## The two results -/

section
variable (xs : Dev KernelIdeal.nD → FVec Ideal KernelIdeal.S512x256 .bf16) (R : FVec Ideal KernelIdeal.S256x128 .bf16)
    (is : Dev KernelIdeal.nD → IVec KernelIdeal.S512x2 32) (ws : Dev KernelIdeal.nD → FVec Ideal KernelIdeal.S4x256x512 .bf16)
    (X : FVec Ideal ReferenceIdeal.S16384x256 .bf16) (I : IVec ReferenceIdeal.S16384x2 32) (W : FVec Ideal ReferenceIdeal.S128x256x512 .bf16)

/-- At a token and a column, whichever device has the token. -/
theorem same_apply (c : Dev KernelIdeal.nD) (t f : Fin 512)
    (hx : ∀ d, xs c (ix2 t d) = X (ix2 (tok c t) d)) (hi : ∀ d, is c (ix2 t d) = I (ix2 (tok c t) d))
    (hw : ∀ e d, ws (KernelIdeal.devOf e) (ix3 (KernelIdeal.numOf e) d f) = W (ix3 e d f))
    (hxr : ∀ d, Row.IsReal (xs c (ix2 t d))) (hr : ∀ d e, Row.IsReal (R (ix2 d e)))
    (a b : Fin 128) (hab : a ≠ b) (ha : is c (ix2 t 0) = BitVec.ofNat 32 a.val) (hb : is c (ix2 t 1) = BitVec.ofNat 32 b.val) :
    KernelIdeal.outFin (F := Ideal) ws c (xs c) R (is c) (ix2 t f) = ReferenceIdeal.result X R I W (ix2 (tok c t) f) := by
  have hs : KernelIdeal.rowScores (xs c) R t = ReferenceIdeal.rowScores X R (tok c t) := by
    unfold KernelIdeal.rowScores ReferenceIdeal.rowScores
    exact congrArg (Row.scores · _) (funext hx)
  rw [KernelIdeal.outFin_apply (a := a) (b := b) (ha := ha) (hb := hb), ReferenceIdeal.result_apply (a := a) (b := b) (ha := (hi 0).symm.trans ha) (hb := (hi 1).symm.trans hb), ← hs]
  simp only [← hx, hw]
  refine Row.two_of_all _ (fun e => Row.isPos_prob _ (fun k => ?_) e) a b hab (fun d => xs c (ix2 t d)) (fun e d => W (ix3 e d f))
  exact Row.isReal_sum _ fun d => (hxr d).mul (hr d k)

end

end Cert
end
end
-- ==== Proof.Algebraic.lean ====
module
public import proofs.«01_k».proof.Proof.Final
@[expose] public section

/-! # The algebraic claim

Every device ends with its block of what the reference ends with. -/

set_option synthInstance.maxSize 4096
noncomputable section

namespace Cert
open Idealize.ShloMosaic Idealize.SL.Sem
open Idealize.ShloMosaic.TcCoe

attribute [local instance] Pre_finite_two_distinct_experts_KernelIdeal.facts

/-- A device's result, its arguments being its blocks of the whole ones. -/
theorem outAt_eq (m : (ℓ : Loc KernelIdeal.nD KernelIdeal.τ KernelIdeal.sig) → Buf (Elt Ideal) ℓ)
    (X : FVec Ideal ReferenceIdeal.S16384x256 .bf16) (R : FVec Ideal ReferenceIdeal.S256x128 .bf16)
    (I : IVec ReferenceIdeal.S16384x2 32) (W : FVec Ideal ReferenceIdeal.S128x256x512 .bf16)
    (hpre : Pre_KernelIdeal_finite_two_distinct_experts_KernelIdeal m)
    (hx : ∀ c : Dev KernelIdeal.nD, m ((c : Thread KernelIdeal.nD KernelIdeal.τ).loc KernelIdeal.main_arg0) = Layout.block ⟨2, ![512, 256]⟩ ⟨2, ![16384, 256]⟩ 0 32 c X)
    (hr : ∀ c : Dev KernelIdeal.nD, m ((c : Thread KernelIdeal.nD KernelIdeal.τ).loc KernelIdeal.main_arg1) = R)
    (hi : ∀ c : Dev KernelIdeal.nD, m ((c : Thread KernelIdeal.nD KernelIdeal.τ).loc KernelIdeal.main_arg2) = Layout.block ⟨2, ![512, 2]⟩ ⟨2, ![16384, 2]⟩ 0 32 c I)
    (hw : ∀ c : Dev KernelIdeal.nD, m ((c : Thread KernelIdeal.nD KernelIdeal.τ).loc KernelIdeal.main_arg3) = Layout.block ⟨3, ![4, 256, 512]⟩ ⟨3, ![128, 256, 512]⟩ 0 32 c W)
    (c : Dev KernelIdeal.nD) :
    KernelIdeal.outAt m c = Layout.block ⟨2, ![512, 512]⟩ ⟨2, ![16384, 512]⟩ 0 32 c (ReferenceIdeal.result X R I W) := by
  have ex : ∀ y, KernelIdeal.xIn m c y = Layout.block ⟨2, ![512, 256]⟩ ⟨2, ![16384, 256]⟩ 0 32 c X (by decide) y := fun y =>
    (KernelIdeal.xIn_apply m c y).trans (congrFun (hx c) y)
  have er : KernelIdeal.rIn m c = R := funext fun y => (KernelIdeal.rIn_apply m c y).trans (congrFun (hr c) y)
  have ei : ∀ y, KernelIdeal.iIn m c y = Layout.block ⟨2, ![512, 2]⟩ ⟨2, ![16384, 2]⟩ 0 32 c I (by decide) y := fun y =>
    (KernelIdeal.iIn_apply m c y).trans (congrFun (hi c) y)
  have ew : ∀ o y, KernelIdeal.wIn m o y = Layout.block ⟨3, ![4, 256, 512]⟩ ⟨3, ![128, 256, 512]⟩ 0 32 o W (by decide) y := fun o y =>
    (KernelIdeal.wIn_apply m o y).trans (congrFun (hw o) y)
  funext y
  obtain ⟨t, f, rfl⟩ : ∃ t f : Fin 512, y = ix2 t f := ⟨y 0, y 1, funext fun a => match a with
    | ⟨0, _⟩ => rfl
    | ⟨1, _⟩ => rfl⟩
  obtain ⟨hxr, hrr, a, b, hab, ha, hb⟩ := Pre_finite_two_distinct_experts_KernelIdeal.of_fn _ _ _ _ (hpre c) t
  rw [block_o]
  unfold KernelIdeal.outAt
  rw [er]
  refine same_apply (KernelIdeal.xIn m) R (KernelIdeal.iIn m) (KernelIdeal.wIn m) X I W c t f
    (fun d => (ex _).trans (block_x c X t d)) (fun d => (ei _).trans (block_i c I t d)) (fun e d => (ew _ _).trans (block_w W e d f))
    (fun d => ?_) (fun d e => ?_) a b hab ((KernelIdeal.iIn_apply m c _).trans ha) ((KernelIdeal.iIn_apply m c _).trans hb)
  · rw [KernelIdeal.xIn_apply]; exact hxr d
  · rw [← hr c]; exact hrr d e

theorem algebraic : algebraic_KernelIdeal_ReferenceIdeal_pre_finite_two_distinct_experts_KernelIdeal := fun m g m' g' hpre hag => by
  refine ⟨ReferenceIdeal.Value.res_main_v44 m' (0 : Dev ReferenceIdeal.nD), ?_, ?_⟩
  · refine (θ_run KernelIdeal.defs _ _).mono (fun r h c => ⟨?_, KernelIdeal.args_kept h.1 c⟩) (KernelIdeal.run_main (F := Ideal) m g)
    refine ((h.1 c (4 : Fin 5)).trans (KernelIdeal.finalA_out m g c)).trans ?_
    rw [ReferenceIdeal.out_eq]
    exact outAt_eq m _ _ _ _ hpre (fun c => (hag c).1) (fun c => (hag c).2.1) (fun c => (hag c).2.2.1) (fun c => (hag c).2.2.2) c
  · exact (θ_run ReferenceIdeal.defs _ _).mono (fun r h => h (0 : Dev ReferenceIdeal.nD)) (ReferenceIdeal.Value.run (F := Ideal) m' g')

end Cert
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_two_distinct_experts_KernelIdeal.facts, Cert.Pre_finite_two_distinct_experts_ReferenceIdeal.facts,
  Cert.KernelIdeal.frame_kernel, Cert.KernelIdeal.frame_ideal, fun m g _ => Cert.KernelIdeal.kept m g,
  Cert.ReferenceIdeal.frame_reference, fun m g _ => Cert.ReferenceIdeal.frame_reference m g trivial, trivial, Cert.algebraic⟩

end Cert.Proof

end
